-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2, 128, 8192]⟩ ⟨3, ![2, 4096, 8192]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 8192]⟩ ⟨3, ![2, 4096, 8192]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x8192 : Shape := ⟨3, ![2, 128, 8192]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x8192 : S_.BroadcastsInDim S2x128x8192 (![] : Fin 0 → Fin S2x128x8192.rank)

variable [Facts]

def fn {F : FTy → Type} [FloatOps F] (main_arg0 : FVec F S2x128x512 .bf16) (main_arg1 : FVec F S512x256 .bf16) (main_arg2 : FVec F S2x128x8192 .bf16) (main_arg3 : FVec F S2x128x8192 .bf16) (main_arg4 : FVec F S256x512 .bf16) : IVec S2x128x512 1 × IVec S512x256 1 × IVec S2x128x8192 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_v4 : FVec F S512x256 .f32 := (extf .f32 · bitsLt_bf16_f32) main_arg1
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_v8 : FVec F S2x128x8192 .f32 := (extf .f32 · bitsLt_bf16_f32) main_arg2
  let main_v9 : FVec F S2x128x8192 .f32 := Host.absf main_v8
  let main_cst_1 : FVec F S_ .f32 := constant S_ .f32 0x7F800000#32
  let main_v10 : FVec F S2x128x8192 .f32 := broadcastInDim S2x128x8192 ![] bcast_S_S2x128x8192 main_cst_1
  let main_v11 : IVec S2x128x8192 1 := cmpf .olt main_v9 main_v10
  (main_v3, main_v7, main_v11)
-- ==== Pre_finite_ReferenceIdeal.lean ====
abbrev S2x128x512 : Shape := ⟨3, ![2, 128, 512]⟩
abbrev S512x8192 : Shape := ⟨2, ![512, 8192]⟩
abbrev S2x4096x8192 : Shape := ⟨3, ![2, 4096, 8192]⟩
abbrev S8192x512 : Shape := ⟨2, ![8192, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  bcast_S_S512x8192 : S_.BroadcastsInDim S512x8192 (![] : Fin 0 → Fin S512x8192.rank)
  bcast_S_S2x4096x8192 : S_.BroadcastsInDim S2x4096x8192 (![] : Fin 0 → Fin S2x4096x8192.rank)

variable [Facts]

def fn {F : FTy → Type} [FloatOps F] (main_arg0 : FVec F S2x128x512 .bf16) (main_arg1 : FVec F S512x8192 .bf16) (main_arg2 : FVec F S2x4096x8192 .bf16) (main_arg3 : FVec F S2x4096x8192 .bf16) (main_arg4 : FVec F S8192x512 .bf16) : IVec S2x128x512 1 × IVec S512x8192 1 × IVec S2x4096x8192 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_v4 : FVec F S512x8192 .f32 := (extf .f32 · bitsLt_bf16_f32) main_arg1
  let main_v5 : FVec F S512x8192 .f32 := Host.absf main_v4
  let main_cst_0 : FVec F S_ .f32 := constant S_ .f32 0x7F800000#32
  let main_v6 : FVec F S512x8192 .f32 := broadcastInDim S512x8192 ![] bcast_S_S512x8192 main_cst_0
  let main_v7 : IVec S512x8192 1 := cmpf .olt main_v5 main_v6
  let main_v8 : FVec F S2x4096x8192 .f32 := (extf .f32 · bitsLt_bf16_f32) main_arg2
  let main_v9 : FVec F S2x4096x8192 .f32 := Host.absf main_v8
  let main_cst_1 : FVec F S_ .f32 := constant S_ .f32 0x7F800000#32
  let main_v10 : FVec F S2x4096x8192 .f32 := broadcastInDim S2x4096x8192 ![] bcast_S_S2x4096x8192 main_cst_1
  let main_v11 : IVec S2x4096x8192 1 := cmpf .olt main_v9 main_v10
  (main_v3, main_v7, main_v11)
-- ==== Kernel.lean ====
abbrev S2x128x512 : Shape := ⟨3, ![2, 128, 512]⟩
abbrev S512x256 : Shape := ⟨2, ![512, 256]⟩
abbrev S2x128x8192 : Shape := ⟨3, ![2, 128, 8192]⟩
abbrev S256x512 : Shape := ⟨2, ![256, 512]⟩
abbrev S16x2x128x256 : Shape := ⟨4, ![16, 2, 128, 256]⟩
abbrev S256x256 : Shape := ⟨2, ![256, 256]⟩
abbrev S5x256x512 : Shape := ⟨3, ![5, 256, 512]⟩
abbrev S32 : Shape := ⟨1, ![32]⟩
abbrev S16 : Shape := ⟨1, ![16]⟩
abbrev S5 : Shape := ⟨1, ![5]⟩
abbrev S2 : Shape := ⟨1, ![2]⟩
abbrev S_ : Shape := ⟨0, ![]⟩
abbrev S2x128x1024 : Shape := ⟨3, ![2, 128, 1024]⟩
abbrev S1 : Shape := ⟨1, ![1]⟩
abbrev S1x2x128x256 : Shape := ⟨4, ![1, 2, 128, 256]⟩
abbrev S2x128x256 : Shape := ⟨3, ![2, 128, 256]⟩
abbrev S64x64 : Shape := ⟨2, ![64, 64]⟩
abbrev S16x1x64x64 : Shape := ⟨4, ![16, 1, 64, 64]⟩
abbrev S16x64x64 : Shape := ⟨3, ![16, 64, 64]⟩
abbrev S1024x64 : Shape := ⟨2, ![1024, 64]⟩
abbrev S64x1024 : Shape := ⟨2, ![64, 1024]⟩
abbrev S64 : Shape := ⟨1, ![64]⟩
abbrev S64x1 : Shape := ⟨2, ![64, 1]⟩
abbrev S1x256x512 : Shape := ⟨3, ![1, 256, 512]⟩

abbrev nBuf : Space → Nat
  | .hbm => 6
  | .vmem => 14
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x8192, .bf16⟩
  | .hbm, ⟨3, _⟩ => ⟨S2x128x8192, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x8192, .bf16⟩
  | .local _ .vmem, ⟨3, _⟩ => ⟨S2x128x8192, .bf16⟩
  | .local _ .vmem, ⟨4, _⟩ => ⟨S256x512, .bf16⟩
  | .local _ .vmem, ⟨5, _⟩ => ⟨S2x128x512, .f32⟩
  | .local _ .vmem, ⟨6, _⟩ => ⟨S2x128x8192, .bf16⟩
  | .local _ .vmem, ⟨7, _⟩ => ⟨S2x128x8192, .bf16⟩
  | .local _ .vmem, ⟨8, _⟩ => ⟨S16x2x128x256, .bf16⟩
  | .local _ .vmem, ⟨9, _⟩ => ⟨S16x2x128x256, .bf16⟩
  | .local _ .vmem, ⟨10, _⟩ => ⟨S256x256, .bf16⟩
  | .local _ .vmem, ⟨11, _⟩ => ⟨S256x256, .f32⟩
  | .local _ .vmem, ⟨12, _⟩ => ⟨S256x512, .f32⟩
  | .local _ .vmem, ⟨13, _⟩ => ⟨S5x256x512, .f32⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 114 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | _ => false

abbrev sig : RefSig :=
  (ofTc nBuf bufTy 1 114 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 : Nat :=
  let c0_i32_15 : BitVec 32 := 0#32
  let c0_i32_13 : BitVec 32 := 0#32
  let c1_i32_14 : BitVec 32 := 1#32
  let v32 : BitVec 32 := Scalar.muli c0_i32_13 c1_i32_14
  let v33 : BitVec 32 := Scalar.addi c0_i32_15 v32
  v33.toNat
def k0_dev2 : Nat :=
  let c0_i32_19 : BitVec 32 := 0#32
  let c1_i32_17 : BitVec 32 := 1#32
  let c1_i32_18 : BitVec 32 := 1#32
  let v34 : BitVec 32 := Scalar.muli c1_i32_17 c1_i32_18
  let v35 : BitVec 32 := Scalar.addi c0_i32_19 v34
  v35.toNat
def k0_dev3 : Nat :=
  let c0_i32_23 : BitVec 32 := 0#32
  let c2_i32_21 : BitVec 32 := 2#32
  let c1_i32_22 : BitVec 32 := 1#32
  let v36 : BitVec 32 := Scalar.muli c2_i32_21 c1_i32_22
  let v37 : BitVec 32 := Scalar.addi c0_i32_23 v36
  v37.toNat
def k0_dev4 : Nat :=
  let c0_i32_26 : BitVec 32 := 0#32
  let c3_i32 : BitVec 32 := 3#32
  let c1_i32_25 : BitVec 32 := 1#32
  let v38 : BitVec 32 := Scalar.muli c3_i32 c1_i32_25
  let v39 : BitVec 32 := Scalar.addi c0_i32_26 v38
  v39.toNat
def k0_dev5 : Nat :=
  let c0_i32_29 : BitVec 32 := 0#32
  let c4_i32 : BitVec 32 := 4#32
  let c1_i32_28 : BitVec 32 := 1#32
  let v40 : BitVec 32 := Scalar.muli c4_i32 c1_i32_28
  let v41 : BitVec 32 := Scalar.addi c0_i32_29 v40
  v41.toNat
def k0_dev6 : Nat :=
  let c0_i32_32 : BitVec 32 := 0#32
  let c5_i32 : BitVec 32 := 5#32
  let c1_i32_31 : BitVec 32 := 1#32
  let v42 : BitVec 32 := Scalar.muli c5_i32 c1_i32_31
  let v43 : BitVec 32 := Scalar.addi c0_i32_32 v42
  v43.toNat
def k0_dev7 : Nat :=
  let c0_i32_35 : BitVec 32 := 0#32
  let c6_i32 : BitVec 32 := 6#32
  let c1_i32_34 : BitVec 32 := 1#32
  let v44 : BitVec 32 := Scalar.muli c6_i32 c1_i32_34
  let v45 : BitVec 32 := Scalar.addi c0_i32_35 v44
  v45.toNat
def k0_dev8 : Nat :=
  let c0_i32_38 : BitVec 32 := 0#32
  let c7_i32 : BitVec 32 := 7#32
  let c1_i32_37 : BitVec 32 := 1#32
  let v46 : BitVec 32 := Scalar.muli c7_i32 c1_i32_37
  let v47 : BitVec 32 := Scalar.addi c0_i32_38 v46
  v47.toNat
def k0_dev9 : Nat :=
  let c0_i32_41 : BitVec 32 := 0#32
  let c8_i32 : BitVec 32 := 8#32
  let c1_i32_40 : BitVec 32 := 1#32
  let v48 : BitVec 32 := Scalar.muli c8_i32 c1_i32_40
  let v49 : BitVec 32 := Scalar.addi c0_i32_41 v48
  v49.toNat
def k0_dev10 : Nat :=
  let c0_i32_44 : BitVec 32 := 0#32
  let c9_i32 : BitVec 32 := 9#32
  let c1_i32_43 : BitVec 32 := 1#32
  let v50 : BitVec 32 := Scalar.muli c9_i32 c1_i32_43
  let v51 : BitVec 32 := Scalar.addi c0_i32_44 v50
  v51.toNat
def k0_dev11 : Nat :=
  let c0_i32_47 : BitVec 32 := 0#32
  let c10_i32 : BitVec 32 := 10#32
  let c1_i32_46 : BitVec 32 := 1#32
  let v52 : BitVec 32 := Scalar.muli c10_i32 c1_i32_46
  let v53 : BitVec 32 := Scalar.addi c0_i32_47 v52
  v53.toNat
def k0_dev12 : Nat :=
  let c0_i32_50 : BitVec 32 := 0#32
  let c11_i32 : BitVec 32 := 11#32
  let c1_i32_49 : BitVec 32 := 1#32
  let v54 : BitVec 32 := Scalar.muli c11_i32 c1_i32_49
  let v55 : BitVec 32 := Scalar.addi c0_i32_50 v54
  v55.toNat
def k0_dev13 : Nat :=
  let c0_i32_53 : BitVec 32 := 0#32
  let c12_i32 : BitVec 32 := 12#32
  let c1_i32_52 : BitVec 32 := 1#32
  let v56 : BitVec 32 := Scalar.muli c12_i32 c1_i32_52
  let v57 : BitVec 32 := Scalar.addi c0_i32_53 v56
  v57.toNat
def k0_dev14 : Nat :=
  let c0_i32_56 : BitVec 32 := 0#32
  let c13_i32 : BitVec 32 := 13#32
  let c1_i32_55 : BitVec 32 := 1#32
  let v58 : BitVec 32 := Scalar.muli c13_i32 c1_i32_55
  let v59 : BitVec 32 := Scalar.addi c0_i32_56 v58
  v59.toNat
def k0_dev15 : Nat :=
  let c0_i32_59 : BitVec 32 := 0#32
  let c14_i32 : BitVec 32 := 14#32
  let c1_i32_58 : BitVec 32 := 1#32
  let v60 : BitVec 32 := Scalar.muli c14_i32 c1_i32_58
  let v61 : BitVec 32 := Scalar.addi c0_i32_59 v60
  v61.toNat
def k0_dev16 : Nat :=
  let c0_i32_62 : BitVec 32 := 0#32
  let c15_i32 : BitVec 32 := 15#32
  let c1_i32_61 : BitVec 32 := 1#32
  let v62 : BitVec 32 := Scalar.muli c15_i32 c1_i32_61
  let v63 : BitVec 32 := Scalar.addi c0_i32_62 v62
  v63.toNat
def k0_dev17 : Nat :=
  let c0_i32_65 : BitVec 32 := 0#32
  let c16_i32 : BitVec 32 := 16#32
  let c1_i32_64 : BitVec 32 := 1#32
  let v64 : BitVec 32 := Scalar.muli c16_i32 c1_i32_64
  let v65 : BitVec 32 := Scalar.addi c0_i32_65 v64
  v65.toNat
def k0_dev18 : Nat :=
  let c0_i32_68 : BitVec 32 := 0#32
  let c17_i32 : BitVec 32 := 17#32
  let c1_i32_67 : BitVec 32 := 1#32
  let v66 : BitVec 32 := Scalar.muli c17_i32 c1_i32_67
  let v67 : BitVec 32 := Scalar.addi c0_i32_68 v66
  v67.toNat
def k0_dev19 : Nat :=
  let c0_i32_71 : BitVec 32 := 0#32
  let c18_i32 : BitVec 32 := 18#32
  let c1_i32_70 : BitVec 32 := 1#32
  let v68 : BitVec 32 := Scalar.muli c18_i32 c1_i32_70
  let v69 : BitVec 32 := Scalar.addi c0_i32_71 v68
  v69.toNat
def k0_dev20 : Nat :=
  let c0_i32_74 : BitVec 32 := 0#32
  let c19_i32 : BitVec 32 := 19#32
  let c1_i32_73 : BitVec 32 := 1#32
  let v70 : BitVec 32 := Scalar.muli c19_i32 c1_i32_73
  let v71 : BitVec 32 := Scalar.addi c0_i32_74 v70
  v71.toNat
def k0_dev21 : Nat :=
  let c0_i32_77 : BitVec 32 := 0#32
  let c20_i32 : BitVec 32 := 20#32
  let c1_i32_76 : BitVec 32 := 1#32
  let v72 : BitVec 32 := Scalar.muli c20_i32 c1_i32_76
  let v73 : BitVec 32 := Scalar.addi c0_i32_77 v72
  v73.toNat
def k0_dev22 : Nat :=
  let c0_i32_80 : BitVec 32 := 0#32
  let c21_i32 : BitVec 32 := 21#32
  let c1_i32_79 : BitVec 32 := 1#32
  let v74 : BitVec 32 := Scalar.muli c21_i32 c1_i32_79
  let v75 : BitVec 32 := Scalar.addi c0_i32_80 v74
  v75.toNat
def k0_dev23 : Nat :=
  let c0_i32_83 : BitVec 32 := 0#32
  let c22_i32 : BitVec 32 := 22#32
  let c1_i32_82 : BitVec 32 := 1#32
  let v76 : BitVec 32 := Scalar.muli c22_i32 c1_i32_82
  let v77 : BitVec 32 := Scalar.addi c0_i32_83 v76
  v77.toNat
def k0_dev24 : Nat :=
  let c0_i32_86 : BitVec 32 := 0#32
  let c23_i32 : BitVec 32 := 23#32
  let c1_i32_85 : BitVec 32 := 1#32
  let v78 : BitVec 32 := Scalar.muli c23_i32 c1_i32_85
  let v79 : BitVec 32 := Scalar.addi c0_i32_86 v78
  v79.toNat
def k0_dev25 : Nat :=
  let c0_i32_89 : BitVec 32 := 0#32
  let c24_i32 : BitVec 32 := 24#32
  let c1_i32_88 : BitVec 32 := 1#32
  let v80 : BitVec 32 := Scalar.muli c24_i32 c1_i32_88
  let v81 : BitVec 32 := Scalar.addi c0_i32_89 v80
  v81.toNat
def k0_dev26 : Nat :=
  let c0_i32_92 : BitVec 32 := 0#32
  let c25_i32 : BitVec 32 := 25#32
  let c1_i32_91 : BitVec 32 := 1#32
  let v82 : BitVec 32 := Scalar.muli c25_i32 c1_i32_91
  let v83 : BitVec 32 := Scalar.addi c0_i32_92 v82
  v83.toNat
def k0_dev27 : Nat :=
  let c0_i32_95 : BitVec 32 := 0#32
  let c26_i32 : BitVec 32 := 26#32
  let c1_i32_94 : BitVec 32 := 1#32
  let v84 : BitVec 32 := Scalar.muli c26_i32 c1_i32_94
  let v85 : BitVec 32 := Scalar.addi c0_i32_95 v84
  v85.toNat
def k0_dev28 : Nat :=
  let c0_i32_98 : BitVec 32 := 0#32
  let c27_i32 : BitVec 32 := 27#32
  let c1_i32_97 : BitVec 32 := 1#32
  let v86 : BitVec 32 := Scalar.muli c27_i32 c1_i32_97
  let v87 : BitVec 32 := Scalar.addi c0_i32_98 v86
  v87.toNat
def k0_dev29 : Nat :=
  let c0_i32_101 : BitVec 32 := 0#32
  let c28_i32 : BitVec 32 := 28#32
  let c1_i32_100 : BitVec 32 := 1#32
  let v88 : BitVec 32 := Scalar.muli c28_i32 c1_i32_100
  let v89 : BitVec 32 := Scalar.addi c0_i32_101 v88
  v89.toNat
def k0_dev30 : Nat :=
  let c0_i32_104 : BitVec 32 := 0#32
  let c29_i32 : BitVec 32 := 29#32
  let c1_i32_103 : BitVec 32 := 1#32
  let v90 : BitVec 32 := Scalar.muli c29_i32 c1_i32_103
  let v91 : BitVec 32 := Scalar.addi c0_i32_104 v90
  v91.toNat
def k0_dev31 : Nat :=
  let c0_i32_107 : BitVec 32 := 0#32
  let c30_i32 : BitVec 32 := 30#32
  let c1_i32_106 : BitVec 32 := 1#32
  let v92 : BitVec 32 := Scalar.muli c30_i32 c1_i32_106
  let v93 : BitVec 32 := Scalar.addi c0_i32_107 v92
  v93.toNat
def k0_dev32 : Nat :=
  let c0_i32_110 : BitVec 32 := 0#32
  let c31_i32 : BitVec 32 := 31#32
  let c1_i32_109 : BitVec 32 := 1#32
  let v94 : BitVec 32 := Scalar.muli c31_i32 c1_i32_109
  let v95 : BitVec 32 := Scalar.addi c0_i32_110 v94
  v95.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v96 : BitVec 32 := Scalar.extui v30
  let c0_i32_112 : BitVec 32 := 0#32
  let v97 : BitVec 1 := Scalar.cmpi .ne v96 c0_i32_112
  v97

def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_725 : BitVec 32 := 0#32
  let v725 : BitVec 1 := Scalar.cmpi .ne v2 c0_i32_725
  let v726 : BitVec 32 := Scalar.extui v725
  let c0_i32_727 : BitVec 32 := 0#32
  let v727 : BitVec 1 := Scalar.cmpi .ne v726 c0_i32_727
  v727

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off2 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev33 : Nat :=
  let c0_i32_1215 : BitVec 32 := 0#32
  let c0_i32_1213 : BitVec 32 := 0#32
  let c1_i32_1214 : BitVec 32 := 1#32
  let v1203 : BitVec 32 := Scalar.muli c0_i32_1213 c1_i32_1214
  let v1204 : BitVec 32 := Scalar.addi c0_i32_1215 v1203
  v1204.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_728 : BitVec 32 := 0#32
  let v728 : BitVec 1 := Scalar.cmpi .ne v2 c0_i32_728
  let v729 : BitVec 32 := Scalar.extui v728
  let c0_i32_730 : BitVec 32 := 0#32
  let v730 : BitVec 1 := Scalar.cmpi .ne v729 c0_i32_730
  v730

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off4 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev34 : Nat :=
  let c0_i32_1215 : BitVec 32 := 0#32
  let c0_i32_1213 : BitVec 32 := 0#32
  let c1_i32_1214 : BitVec 32 := 1#32
  let v1203 : BitVec 32 := Scalar.muli c0_i32_1213 c1_i32_1214
  let v1204 : BitVec 32 := Scalar.addi c0_i32_1215 v1203
  v1204.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_731 : BitVec 32 := 1#32
  let v731 : BitVec 1 := Scalar.cmpi .ne v2 c1_i32_731
  let v732 : BitVec 32 := Scalar.extui v731
  let c0_i32_733 : BitVec 32 := 0#32
  let v733 : BitVec 1 := Scalar.cmpi .ne v732 c0_i32_733
  v733

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off6 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev35 : Nat :=
  let c0_i32_1215 : BitVec 32 := 0#32
  let c1_i32_1213 : BitVec 32 := 1#32
  let c1_i32_1214 : BitVec 32 := 1#32
  let v1203 : BitVec 32 := Scalar.muli c1_i32_1213 c1_i32_1214
  let v1204 : BitVec 32 := Scalar.addi c0_i32_1215 v1203
  v1204.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_734 : BitVec 32 := 1#32
  let v734 : BitVec 1 := Scalar.cmpi .ne v2 c1_i32_734
  let v735 : BitVec 32 := Scalar.extui v734
  let c0_i32_736 : BitVec 32 := 0#32
  let v736 : BitVec 1 := Scalar.cmpi .ne v735 c0_i32_736
  v736

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off8 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev36 : Nat :=
  let c0_i32_1215 : BitVec 32 := 0#32
  let c1_i32_1213 : BitVec 32 := 1#32
  let c1_i32_1214 : BitVec 32 := 1#32
  let v1203 : BitVec 32 := Scalar.muli c1_i32_1213 c1_i32_1214
  let v1204 : BitVec 32 := Scalar.addi c0_i32_1215 v1203
  v1204.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_737 : BitVec 32 := 2#32
  let v737 : BitVec 1 := Scalar.cmpi .ne v2 c2_i32_737
  let v738 : BitVec 32 := Scalar.extui v737
  let c0_i32_739 : BitVec 32 := 0#32
  let v739 : BitVec 1 := Scalar.cmpi .ne v738 c0_i32_739
  v739

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off10 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev37 : Nat :=
  let c0_i32_1215 : BitVec 32 := 0#32
  let c2_i32_1213 : BitVec 32 := 2#32
  let c1_i32_1214 : BitVec 32 := 1#32
  let v1203 : BitVec 32 := Scalar.muli c2_i32_1213 c1_i32_1214
  let v1204 : BitVec 32 := Scalar.addi c0_i32_1215 v1203
  v1204.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_740 : BitVec 32 := 2#32
  let v740 : BitVec 1 := Scalar.cmpi .ne v2 c2_i32_740
  let v741 : BitVec 32 := Scalar.extui v740
  let c0_i32_742 : BitVec 32 := 0#32
  let v742 : BitVec 1 := Scalar.cmpi .ne v741 c0_i32_742
  v742

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off12 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev38 : Nat :=
  let c0_i32_1215 : BitVec 32 := 0#32
  let c2_i32_1213 : BitVec 32 := 2#32
  let c1_i32_1214 : BitVec 32 := 1#32
  let v1203 : BitVec 32 := Scalar.muli c2_i32_1213 c1_i32_1214
  let v1204 : BitVec 32 := Scalar.addi c0_i32_1215 v1203
  v1204.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_743 : BitVec 32 := 3#32
  let v743 : BitVec 1 := Scalar.cmpi .ne v2 c3_i32_743
  let v744 : BitVec 32 := Scalar.extui v743
  let c0_i32_745 : BitVec 32 := 0#32
  let v745 : BitVec 1 := Scalar.cmpi .ne v744 c0_i32_745
  v745

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off14 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev39 : Nat :=
  let c0_i32_1215 : BitVec 32 := 0#32
  let c3_i32_1213 : BitVec 32 := 3#32
  let c1_i32_1214 : BitVec 32 := 1#32
  let v1203 : BitVec 32 := Scalar.muli c3_i32_1213 c1_i32_1214
  let v1204 : BitVec 32 := Scalar.addi c0_i32_1215 v1203
  v1204.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_746 : BitVec 32 := 3#32
  let v746 : BitVec 1 := Scalar.cmpi .ne v2 c3_i32_746
  let v747 : BitVec 32 := Scalar.extui v746
  let c0_i32_748 : BitVec 32 := 0#32
  let v748 : BitVec 1 := Scalar.cmpi .ne v747 c0_i32_748
  v748

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off16 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev40 : Nat :=
  let c0_i32_1215 : BitVec 32 := 0#32
  let c3_i32_1213 : BitVec 32 := 3#32
  let c1_i32_1214 : BitVec 32 := 1#32
  let v1203 : BitVec 32 := Scalar.muli c3_i32_1213 c1_i32_1214
  let v1204 : BitVec 32 := Scalar.addi c0_i32_1215 v1203
  v1204.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_760 : BitVec 32 := 4#32
  let v759 : BitVec 1 := Scalar.cmpi .ne v2 c4_i32_760
  let v760 : BitVec 32 := Scalar.extui v759
  let c0_i32_762 : BitVec 32 := 0#32
  let v761 : BitVec 1 := Scalar.cmpi .ne v760 c0_i32_762
  v761

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off18 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev41 : Nat :=
  let c0_i32_1215 : BitVec 32 := 0#32
  let c4_i32_1213 : BitVec 32 := 4#32
  let c1_i32_1214 : BitVec 32 := 1#32
  let v1203 : BitVec 32 := Scalar.muli c4_i32_1213 c1_i32_1214
  let v1204 : BitVec 32 := Scalar.addi c0_i32_1215 v1203
  v1204.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_763 : BitVec 32 := 4#32
  let v762 : BitVec 1 := Scalar.cmpi .ne v2 c4_i32_763
  let v763 : BitVec 32 := Scalar.extui v762
  let c0_i32_765 : BitVec 32 := 0#32
  let v764 : BitVec 1 := Scalar.cmpi .ne v763 c0_i32_765
  v764

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off20 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev42 : Nat :=
  let c0_i32_1215 : BitVec 32 := 0#32
  let c4_i32_1213 : BitVec 32 := 4#32
  let c1_i32_1214 : BitVec 32 := 1#32
  let v1203 : BitVec 32 := Scalar.muli c4_i32_1213 c1_i32_1214
  let v1204 : BitVec 32 := Scalar.addi c0_i32_1215 v1203
  v1204.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_766 : BitVec 32 := 5#32
  let v765 : BitVec 1 := Scalar.cmpi .ne v2 c5_i32_766
  let v766 : BitVec 32 := Scalar.extui v765
  let c0_i32_768 : BitVec 32 := 0#32
  let v767 : BitVec 1 := Scalar.cmpi .ne v766 c0_i32_768
  v767

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off22 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev43 : Nat :=
  let c0_i32_1215 : BitVec 32 := 0#32
  let c5_i32_1213 : BitVec 32 := 5#32
  let c1_i32_1214 : BitVec 32 := 1#32
  let v1203 : BitVec 32 := Scalar.muli c5_i32_1213 c1_i32_1214
  let v1204 : BitVec 32 := Scalar.addi c0_i32_1215 v1203
  v1204.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_769 : BitVec 32 := 5#32
  let v768 : BitVec 1 := Scalar.cmpi .ne v2 c5_i32_769
  let v769 : BitVec 32 := Scalar.extui v768
  let c0_i32_771 : BitVec 32 := 0#32
  let v770 : BitVec 1 := Scalar.cmpi .ne v769 c0_i32_771
  v770

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off24 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev44 : Nat :=
  let c0_i32_1215 : BitVec 32 := 0#32
  let c5_i32_1213 : BitVec 32 := 5#32
  let c1_i32_1214 : BitVec 32 := 1#32
  let v1203 : BitVec 32 := Scalar.muli c5_i32_1213 c1_i32_1214
  let v1204 : BitVec 32 := Scalar.addi c0_i32_1215 v1203
  v1204.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_772 : BitVec 32 := 6#32
  let v771 : BitVec 1 := Scalar.cmpi .ne v2 c6_i32_772
  let v772 : BitVec 32 := Scalar.extui v771
  let c0_i32_774 : BitVec 32 := 0#32
  let v773 : BitVec 1 := Scalar.cmpi .ne v772 c0_i32_774
  v773

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off26 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev45 : Nat :=
  let c0_i32_1215 : BitVec 32 := 0#32
  let c6_i32_1213 : BitVec 32 := 6#32
  let c1_i32_1214 : BitVec 32 := 1#32
  let v1203 : BitVec 32 := Scalar.muli c6_i32_1213 c1_i32_1214
  let v1204 : BitVec 32 := Scalar.addi c0_i32_1215 v1203
  v1204.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_775 : BitVec 32 := 6#32
  let v774 : BitVec 1 := Scalar.cmpi .ne v2 c6_i32_775
  let v775 : BitVec 32 := Scalar.extui v774
  let c0_i32_777 : BitVec 32 := 0#32
  let v776 : BitVec 1 := Scalar.cmpi .ne v775 c0_i32_777
  v776

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off28 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev46 : Nat :=
  let c0_i32_1215 : BitVec 32 := 0#32
  let c6_i32_1213 : BitVec 32 := 6#32
  let c1_i32_1214 : BitVec 32 := 1#32
  let v1203 : BitVec 32 := Scalar.muli c6_i32_1213 c1_i32_1214
  let v1204 : BitVec 32 := Scalar.addi c0_i32_1215 v1203
  v1204.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_778 : BitVec 32 := 7#32
  let v777 : BitVec 1 := Scalar.cmpi .ne v2 c7_i32_778
  let v778 : BitVec 32 := Scalar.extui v777
  let c0_i32_780 : BitVec 32 := 0#32
  let v779 : BitVec 1 := Scalar.cmpi .ne v778 c0_i32_780
  v779

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off30 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev47 : Nat :=
  let c0_i32_1215 : BitVec 32 := 0#32
  let c7_i32_1213 : BitVec 32 := 7#32
  let c1_i32_1214 : BitVec 32 := 1#32
  let v1203 : BitVec 32 := Scalar.muli c7_i32_1213 c1_i32_1214
  let v1204 : BitVec 32 := Scalar.addi c0_i32_1215 v1203
  v1204.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_781 : BitVec 32 := 7#32
  let v780 : BitVec 1 := Scalar.cmpi .ne v2 c7_i32_781
  let v781 : BitVec 32 := Scalar.extui v780
  let c0_i32_783 : BitVec 32 := 0#32
  let v782 : BitVec 1 := Scalar.cmpi .ne v781 c0_i32_783
  v782

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off32 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev48 : Nat :=
  let c0_i32_1215 : BitVec 32 := 0#32
  let c7_i32_1213 : BitVec 32 := 7#32
  let c1_i32_1214 : BitVec 32 := 1#32
  let v1203 : BitVec 32 := Scalar.muli c7_i32_1213 c1_i32_1214
  let v1204 : BitVec 32 := Scalar.addi c0_i32_1215 v1203
  v1204.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_795 : BitVec 32 := 8#32
  let v793 : BitVec 1 := Scalar.cmpi .ne v2 c8_i32_795
  let v794 : BitVec 32 := Scalar.extui v793
  let c0_i32_797 : BitVec 32 := 0#32
  let v795 : BitVec 1 := Scalar.cmpi .ne v794 c0_i32_797
  v795

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off34 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev49 : Nat :=
  let c0_i32_1215 : BitVec 32 := 0#32
  let c8_i32_1213 : BitVec 32 := 8#32
  let c1_i32_1214 : BitVec 32 := 1#32
  let v1203 : BitVec 32 := Scalar.muli c8_i32_1213 c1_i32_1214
  let v1204 : BitVec 32 := Scalar.addi c0_i32_1215 v1203
  v1204.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_798 : BitVec 32 := 8#32
  let v796 : BitVec 1 := Scalar.cmpi .ne v2 c8_i32_798
  let v797 : BitVec 32 := Scalar.extui v796
  let c0_i32_800 : BitVec 32 := 0#32
  let v798 : BitVec 1 := Scalar.cmpi .ne v797 c0_i32_800
  v798

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off36 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev50 : Nat :=
  let c0_i32_1215 : BitVec 32 := 0#32
  let c8_i32_1213 : BitVec 32 := 8#32
  let c1_i32_1214 : BitVec 32 := 1#32
  let v1203 : BitVec 32 := Scalar.muli c8_i32_1213 c1_i32_1214
  let v1204 : BitVec 32 := Scalar.addi c0_i32_1215 v1203
  v1204.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_801 : BitVec 32 := 9#32
  let v799 : BitVec 1 := Scalar.cmpi .ne v2 c9_i32_801
  let v800 : BitVec 32 := Scalar.extui v799
  let c0_i32_803 : BitVec 32 := 0#32
  let v801 : BitVec 1 := Scalar.cmpi .ne v800 c0_i32_803
  v801

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off38 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev51 : Nat :=
  let c0_i32_1215 : BitVec 32 := 0#32
  let c9_i32_1213 : BitVec 32 := 9#32
  let c1_i32_1214 : BitVec 32 := 1#32
  let v1203 : BitVec 32 := Scalar.muli c9_i32_1213 c1_i32_1214
  let v1204 : BitVec 32 := Scalar.addi c0_i32_1215 v1203
  v1204.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_804 : BitVec 32 := 9#32
  let v802 : BitVec 1 := Scalar.cmpi .ne v2 c9_i32_804
  let v803 : BitVec 32 := Scalar.extui v802
  let c0_i32_806 : BitVec 32 := 0#32
  let v804 : BitVec 1 := Scalar.cmpi .ne v803 c0_i32_806
  v804

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off40 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev52 : Nat :=
  let c0_i32_1215 : BitVec 32 := 0#32
  let c9_i32_1213 : BitVec 32 := 9#32
  let c1_i32_1214 : BitVec 32 := 1#32
  let v1203 : BitVec 32 := Scalar.muli c9_i32_1213 c1_i32_1214
  let v1204 : BitVec 32 := Scalar.addi c0_i32_1215 v1203
  v1204.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_807 : BitVec 32 := 10#32
  let v805 : BitVec 1 := Scalar.cmpi .ne v2 c10_i32_807
  let v806 : BitVec 32 := Scalar.extui v805
  let c0_i32_809 : BitVec 32 := 0#32
  let v807 : BitVec 1 := Scalar.cmpi .ne v806 c0_i32_809
  v807

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off42 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev53 : Nat :=
  let c0_i32_1215 : BitVec 32 := 0#32
  let c10_i32_1213 : BitVec 32 := 10#32
  let c1_i32_1214 : BitVec 32 := 1#32
  let v1203 : BitVec 32 := Scalar.muli c10_i32_1213 c1_i32_1214
  let v1204 : BitVec 32 := Scalar.addi c0_i32_1215 v1203
  v1204.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_810 : BitVec 32 := 10#32
  let v808 : BitVec 1 := Scalar.cmpi .ne v2 c10_i32_810
  let v809 : BitVec 32 := Scalar.extui v808
  let c0_i32_812 : BitVec 32 := 0#32
  let v810 : BitVec 1 := Scalar.cmpi .ne v809 c0_i32_812
  v810

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off44 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev54 : Nat :=
  let c0_i32_1215 : BitVec 32 := 0#32
  let c10_i32_1213 : BitVec 32 := 10#32
  let c1_i32_1214 : BitVec 32 := 1#32
  let v1203 : BitVec 32 := Scalar.muli c10_i32_1213 c1_i32_1214
  let v1204 : BitVec 32 := Scalar.addi c0_i32_1215 v1203
  v1204.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_813 : BitVec 32 := 11#32
  let v811 : BitVec 1 := Scalar.cmpi .ne v2 c11_i32_813
  let v812 : BitVec 32 := Scalar.extui v811
  let c0_i32_815 : BitVec 32 := 0#32
  let v813 : BitVec 1 := Scalar.cmpi .ne v812 c0_i32_815
  v813

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off46 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev55 : Nat :=
  let c0_i32_1215 : BitVec 32 := 0#32
  let c11_i32_1213 : BitVec 32 := 11#32
  let c1_i32_1214 : BitVec 32 := 1#32
  let v1203 : BitVec 32 := Scalar.muli c11_i32_1213 c1_i32_1214
  let v1204 : BitVec 32 := Scalar.addi c0_i32_1215 v1203
  v1204.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_816 : BitVec 32 := 11#32
  let v814 : BitVec 1 := Scalar.cmpi .ne v2 c11_i32_816
  let v815 : BitVec 32 := Scalar.extui v814
  let c0_i32_818 : BitVec 32 := 0#32
  let v816 : BitVec 1 := Scalar.cmpi .ne v815 c0_i32_818
  v816

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off48 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev56 : Nat :=
  let c0_i32_1215 : BitVec 32 := 0#32
  let c11_i32_1213 : BitVec 32 := 11#32
  let c1_i32_1214 : BitVec 32 := 1#32
  let v1203 : BitVec 32 := Scalar.muli c11_i32_1213 c1_i32_1214
  let v1204 : BitVec 32 := Scalar.addi c0_i32_1215 v1203
  v1204.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_830 : BitVec 32 := 12#32
  let v827 : BitVec 1 := Scalar.cmpi .ne v2 c12_i32_830
  let v828 : BitVec 32 := Scalar.extui v827
  let c0_i32_832 : BitVec 32 := 0#32
  let v829 : BitVec 1 := Scalar.cmpi .ne v828 c0_i32_832
  v829

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off50 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev57 : Nat :=
  let c0_i32_1215 : BitVec 32 := 0#32
  let c12_i32_1213 : BitVec 32 := 12#32
  let c1_i32_1214 : BitVec 32 := 1#32
  let v1203 : BitVec 32 := Scalar.muli c12_i32_1213 c1_i32_1214
  let v1204 : BitVec 32 := Scalar.addi c0_i32_1215 v1203
  v1204.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_833 : BitVec 32 := 12#32
  let v830 : BitVec 1 := Scalar.cmpi .ne v2 c12_i32_833
  let v831 : BitVec 32 := Scalar.extui v830
  let c0_i32_835 : BitVec 32 := 0#32
  let v832 : BitVec 1 := Scalar.cmpi .ne v831 c0_i32_835
  v832

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off52 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev58 : Nat :=
  let c0_i32_1215 : BitVec 32 := 0#32
  let c12_i32_1213 : BitVec 32 := 12#32
  let c1_i32_1214 : BitVec 32 := 1#32
  let v1203 : BitVec 32 := Scalar.muli c12_i32_1213 c1_i32_1214
  let v1204 : BitVec 32 := Scalar.addi c0_i32_1215 v1203
  v1204.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_836 : BitVec 32 := 13#32
  let v833 : BitVec 1 := Scalar.cmpi .ne v2 c13_i32_836
  let v834 : BitVec 32 := Scalar.extui v833
  let c0_i32_838 : BitVec 32 := 0#32
  let v835 : BitVec 1 := Scalar.cmpi .ne v834 c0_i32_838
  v835

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off54 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev59 : Nat :=
  let c0_i32_1215 : BitVec 32 := 0#32
  let c13_i32_1213 : BitVec 32 := 13#32
  let c1_i32_1214 : BitVec 32 := 1#32
  let v1203 : BitVec 32 := Scalar.muli c13_i32_1213 c1_i32_1214
  let v1204 : BitVec 32 := Scalar.addi c0_i32_1215 v1203
  v1204.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_839 : BitVec 32 := 13#32
  let v836 : BitVec 1 := Scalar.cmpi .ne v2 c13_i32_839
  let v837 : BitVec 32 := Scalar.extui v836
  let c0_i32_841 : BitVec 32 := 0#32
  let v838 : BitVec 1 := Scalar.cmpi .ne v837 c0_i32_841
  v838

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off56 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev60 : Nat :=
  let c0_i32_1215 : BitVec 32 := 0#32
  let c13_i32_1213 : BitVec 32 := 13#32
  let c1_i32_1214 : BitVec 32 := 1#32
  let v1203 : BitVec 32 := Scalar.muli c13_i32_1213 c1_i32_1214
  let v1204 : BitVec 32 := Scalar.addi c0_i32_1215 v1203
  v1204.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_842 : BitVec 32 := 14#32
  let v839 : BitVec 1 := Scalar.cmpi .ne v2 c14_i32_842
  let v840 : BitVec 32 := Scalar.extui v839
  let c0_i32_844 : BitVec 32 := 0#32
  let v841 : BitVec 1 := Scalar.cmpi .ne v840 c0_i32_844
  v841

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off58 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev61 : Nat :=
  let c0_i32_1215 : BitVec 32 := 0#32
  let c14_i32_1213 : BitVec 32 := 14#32
  let c1_i32_1214 : BitVec 32 := 1#32
  let v1203 : BitVec 32 := Scalar.muli c14_i32_1213 c1_i32_1214
  let v1204 : BitVec 32 := Scalar.addi c0_i32_1215 v1203
  v1204.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_845 : BitVec 32 := 14#32
  let v842 : BitVec 1 := Scalar.cmpi .ne v2 c14_i32_845
  let v843 : BitVec 32 := Scalar.extui v842
  let c0_i32_847 : BitVec 32 := 0#32
  let v844 : BitVec 1 := Scalar.cmpi .ne v843 c0_i32_847
  v844

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off60 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev62 : Nat :=
  let c0_i32_1215 : BitVec 32 := 0#32
  let c14_i32_1213 : BitVec 32 := 14#32
  let c1_i32_1214 : BitVec 32 := 1#32
  let v1203 : BitVec 32 := Scalar.muli c14_i32_1213 c1_i32_1214
  let v1204 : BitVec 32 := Scalar.addi c0_i32_1215 v1203
  v1204.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_848 : BitVec 32 := 15#32
  let v845 : BitVec 1 := Scalar.cmpi .ne v2 c15_i32_848
  let v846 : BitVec 32 := Scalar.extui v845
  let c0_i32_850 : BitVec 32 := 0#32
  let v847 : BitVec 1 := Scalar.cmpi .ne v846 c0_i32_850
  v847

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off62 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev63 : Nat :=
  let c0_i32_1215 : BitVec 32 := 0#32
  let c15_i32_1213 : BitVec 32 := 15#32
  let c1_i32_1214 : BitVec 32 := 1#32
  let v1203 : BitVec 32 := Scalar.muli c15_i32_1213 c1_i32_1214
  let v1204 : BitVec 32 := Scalar.addi c0_i32_1215 v1203
  v1204.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_851 : BitVec 32 := 15#32
  let v848 : BitVec 1 := Scalar.cmpi .ne v2 c15_i32_851
  let v849 : BitVec 32 := Scalar.extui v848
  let c0_i32_853 : BitVec 32 := 0#32
  let v850 : BitVec 1 := Scalar.cmpi .ne v849 c0_i32_853
  v850

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off64 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev64 : Nat :=
  let c0_i32_1215 : BitVec 32 := 0#32
  let c15_i32_1213 : BitVec 32 := 15#32
  let c1_i32_1214 : BitVec 32 := 1#32
  let v1203 : BitVec 32 := Scalar.muli c15_i32_1213 c1_i32_1214
  let v1204 : BitVec 32 := Scalar.addi c0_i32_1215 v1203
  v1204.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_865 : BitVec 32 := 16#32
  let v861 : BitVec 1 := Scalar.cmpi .ne v2 c16_i32_865
  let v862 : BitVec 32 := Scalar.extui v861
  let c0_i32_867 : BitVec 32 := 0#32
  let v863 : BitVec 1 := Scalar.cmpi .ne v862 c0_i32_867
  v863

def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off66 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev65 : Nat :=
  let c0_i32_1215 : BitVec 32 := 0#32
  let c16_i32_1213 : BitVec 32 := 16#32
  let c1_i32_1214 : BitVec 32 := 1#32
  let v1203 : BitVec 32 := Scalar.muli c16_i32_1213 c1_i32_1214
  let v1204 : BitVec 32 := Scalar.addi c0_i32_1215 v1203
  v1204.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_868 : BitVec 32 := 16#32
  let v864 : BitVec 1 := Scalar.cmpi .ne v2 c16_i32_868
  let v865 : BitVec 32 := Scalar.extui v864
  let c0_i32_870 : BitVec 32 := 0#32
  let v866 : BitVec 1 := Scalar.cmpi .ne v865 c0_i32_870
  v866

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off68 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev66 : Nat :=
  let c0_i32_1215 : BitVec 32 := 0#32
  let c16_i32_1213 : BitVec 32 := 16#32
  let c1_i32_1214 : BitVec 32 := 1#32
  let v1203 : BitVec 32 := Scalar.muli c16_i32_1213 c1_i32_1214
  let v1204 : BitVec 32 := Scalar.addi c0_i32_1215 v1203
  v1204.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_871 : BitVec 32 := 17#32
  let v867 : BitVec 1 := Scalar.cmpi .ne v2 c17_i32_871
  let v868 : BitVec 32 := Scalar.extui v867
  let c0_i32_873 : BitVec 32 := 0#32
  let v869 : BitVec 1 := Scalar.cmpi .ne v868 c0_i32_873
  v869

def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off70 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev67 : Nat :=
  let c0_i32_1215 : BitVec 32 := 0#32
  let c17_i32_1213 : BitVec 32 := 17#32
  let c1_i32_1214 : BitVec 32 := 1#32
  let v1203 : BitVec 32 := Scalar.muli c17_i32_1213 c1_i32_1214
  let v1204 : BitVec 32 := Scalar.addi c0_i32_1215 v1203
  v1204.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_874 : BitVec 32 := 17#32
  let v870 : BitVec 1 := Scalar.cmpi .ne v2 c17_i32_874
  let v871 : BitVec 32 := Scalar.extui v870
  let c0_i32_876 : BitVec 32 := 0#32
  let v872 : BitVec 1 := Scalar.cmpi .ne v871 c0_i32_876
  v872

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off72 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev68 : Nat :=
  let c0_i32_1215 : BitVec 32 := 0#32
  let c17_i32_1213 : BitVec 32 := 17#32
  let c1_i32_1214 : BitVec 32 := 1#32
  let v1203 : BitVec 32 := Scalar.muli c17_i32_1213 c1_i32_1214
  let v1204 : BitVec 32 := Scalar.addi c0_i32_1215 v1203
  v1204.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_877 : BitVec 32 := 18#32
  let v873 : BitVec 1 := Scalar.cmpi .ne v2 c18_i32_877
  let v874 : BitVec 32 := Scalar.extui v873
  let c0_i32_879 : BitVec 32 := 0#32
  let v875 : BitVec 1 := Scalar.cmpi .ne v874 c0_i32_879
  v875

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off74 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev69 : Nat :=
  let c0_i32_1215 : BitVec 32 := 0#32
  let c18_i32_1213 : BitVec 32 := 18#32
  let c1_i32_1214 : BitVec 32 := 1#32
  let v1203 : BitVec 32 := Scalar.muli c18_i32_1213 c1_i32_1214
  let v1204 : BitVec 32 := Scalar.addi c0_i32_1215 v1203
  v1204.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_880 : BitVec 32 := 18#32
  let v876 : BitVec 1 := Scalar.cmpi .ne v2 c18_i32_880
  let v877 : BitVec 32 := Scalar.extui v876
  let c0_i32_882 : BitVec 32 := 0#32
  let v878 : BitVec 1 := Scalar.cmpi .ne v877 c0_i32_882
  v878

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off76 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev70 : Nat :=
  let c0_i32_1215 : BitVec 32 := 0#32
  let c18_i32_1213 : BitVec 32 := 18#32
  let c1_i32_1214 : BitVec 32 := 1#32
  let v1203 : BitVec 32 := Scalar.muli c18_i32_1213 c1_i32_1214
  let v1204 : BitVec 32 := Scalar.addi c0_i32_1215 v1203
  v1204.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_883 : BitVec 32 := 19#32
  let v879 : BitVec 1 := Scalar.cmpi .ne v2 c19_i32_883
  let v880 : BitVec 32 := Scalar.extui v879
  let c0_i32_885 : BitVec 32 := 0#32
  let v881 : BitVec 1 := Scalar.cmpi .ne v880 c0_i32_885
  v881

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off78 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev71 : Nat :=
  let c0_i32_1215 : BitVec 32 := 0#32
  let c19_i32_1213 : BitVec 32 := 19#32
  let c1_i32_1214 : BitVec 32 := 1#32
  let v1203 : BitVec 32 := Scalar.muli c19_i32_1213 c1_i32_1214
  let v1204 : BitVec 32 := Scalar.addi c0_i32_1215 v1203
  v1204.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_886 : BitVec 32 := 19#32
  let v882 : BitVec 1 := Scalar.cmpi .ne v2 c19_i32_886
  let v883 : BitVec 32 := Scalar.extui v882
  let c0_i32_888 : BitVec 32 := 0#32
  let v884 : BitVec 1 := Scalar.cmpi .ne v883 c0_i32_888
  v884

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off80 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev72 : Nat :=
  let c0_i32_1215 : BitVec 32 := 0#32
  let c19_i32_1213 : BitVec 32 := 19#32
  let c1_i32_1214 : BitVec 32 := 1#32
  let v1203 : BitVec 32 := Scalar.muli c19_i32_1213 c1_i32_1214
  let v1204 : BitVec 32 := Scalar.addi c0_i32_1215 v1203
  v1204.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_900 : BitVec 32 := 20#32
  let v895 : BitVec 1 := Scalar.cmpi .ne v2 c20_i32_900
  let v896 : BitVec 32 := Scalar.extui v895
  let c0_i32_902 : BitVec 32 := 0#32
  let v897 : BitVec 1 := Scalar.cmpi .ne v896 c0_i32_902
  v897

def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off82 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev73 : Nat :=
  let c0_i32_1215 : BitVec 32 := 0#32
  let c20_i32_1213 : BitVec 32 := 20#32
  let c1_i32_1214 : BitVec 32 := 1#32
  let v1203 : BitVec 32 := Scalar.muli c20_i32_1213 c1_i32_1214
  let v1204 : BitVec 32 := Scalar.addi c0_i32_1215 v1203
  v1204.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_903 : BitVec 32 := 20#32
  let v898 : BitVec 1 := Scalar.cmpi .ne v2 c20_i32_903
  let v899 : BitVec 32 := Scalar.extui v898
  let c0_i32_905 : BitVec 32 := 0#32
  let v900 : BitVec 1 := Scalar.cmpi .ne v899 c0_i32_905
  v900

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off84 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev74 : Nat :=
  let c0_i32_1215 : BitVec 32 := 0#32
  let c20_i32_1213 : BitVec 32 := 20#32
  let c1_i32_1214 : BitVec 32 := 1#32
  let v1203 : BitVec 32 := Scalar.muli c20_i32_1213 c1_i32_1214
  let v1204 : BitVec 32 := Scalar.addi c0_i32_1215 v1203
  v1204.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_906 : BitVec 32 := 21#32
  let v901 : BitVec 1 := Scalar.cmpi .ne v2 c21_i32_906
  let v902 : BitVec 32 := Scalar.extui v901
  let c0_i32_908 : BitVec 32 := 0#32
  let v903 : BitVec 1 := Scalar.cmpi .ne v902 c0_i32_908
  v903

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off86 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev75 : Nat :=
  let c0_i32_1215 : BitVec 32 := 0#32
  let c21_i32_1213 : BitVec 32 := 21#32
  let c1_i32_1214 : BitVec 32 := 1#32
  let v1203 : BitVec 32 := Scalar.muli c21_i32_1213 c1_i32_1214
  let v1204 : BitVec 32 := Scalar.addi c0_i32_1215 v1203
  v1204.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_909 : BitVec 32 := 21#32
  let v904 : BitVec 1 := Scalar.cmpi .ne v2 c21_i32_909
  let v905 : BitVec 32 := Scalar.extui v904
  let c0_i32_911 : BitVec 32 := 0#32
  let v906 : BitVec 1 := Scalar.cmpi .ne v905 c0_i32_911
  v906

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off88 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev76 : Nat :=
  let c0_i32_1215 : BitVec 32 := 0#32
  let c21_i32_1213 : BitVec 32 := 21#32
  let c1_i32_1214 : BitVec 32 := 1#32
  let v1203 : BitVec 32 := Scalar.muli c21_i32_1213 c1_i32_1214
  let v1204 : BitVec 32 := Scalar.addi c0_i32_1215 v1203
  v1204.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_912 : BitVec 32 := 22#32
  let v907 : BitVec 1 := Scalar.cmpi .ne v2 c22_i32_912
  let v908 : BitVec 32 := Scalar.extui v907
  let c0_i32_914 : BitVec 32 := 0#32
  let v909 : BitVec 1 := Scalar.cmpi .ne v908 c0_i32_914
  v909

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off90 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev77 : Nat :=
  let c0_i32_1215 : BitVec 32 := 0#32
  let c22_i32_1213 : BitVec 32 := 22#32
  let c1_i32_1214 : BitVec 32 := 1#32
  let v1203 : BitVec 32 := Scalar.muli c22_i32_1213 c1_i32_1214
  let v1204 : BitVec 32 := Scalar.addi c0_i32_1215 v1203
  v1204.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_915 : BitVec 32 := 22#32
  let v910 : BitVec 1 := Scalar.cmpi .ne v2 c22_i32_915
  let v911 : BitVec 32 := Scalar.extui v910
  let c0_i32_917 : BitVec 32 := 0#32
  let v912 : BitVec 1 := Scalar.cmpi .ne v911 c0_i32_917
  v912

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off92 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev78 : Nat :=
  let c0_i32_1215 : BitVec 32 := 0#32
  let c22_i32_1213 : BitVec 32 := 22#32
  let c1_i32_1214 : BitVec 32 := 1#32
  let v1203 : BitVec 32 := Scalar.muli c22_i32_1213 c1_i32_1214
  let v1204 : BitVec 32 := Scalar.addi c0_i32_1215 v1203
  v1204.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_918 : BitVec 32 := 23#32
  let v913 : BitVec 1 := Scalar.cmpi .ne v2 c23_i32_918
  let v914 : BitVec 32 := Scalar.extui v913
  let c0_i32_920 : BitVec 32 := 0#32
  let v915 : BitVec 1 := Scalar.cmpi .ne v914 c0_i32_920
  v915

def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off94 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev79 : Nat :=
  let c0_i32_1215 : BitVec 32 := 0#32
  let c23_i32_1213 : BitVec 32 := 23#32
  let c1_i32_1214 : BitVec 32 := 1#32
  let v1203 : BitVec 32 := Scalar.muli c23_i32_1213 c1_i32_1214
  let v1204 : BitVec 32 := Scalar.addi c0_i32_1215 v1203
  v1204.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_921 : BitVec 32 := 23#32
  let v916 : BitVec 1 := Scalar.cmpi .ne v2 c23_i32_921
  let v917 : BitVec 32 := Scalar.extui v916
  let c0_i32_923 : BitVec 32 := 0#32
  let v918 : BitVec 1 := Scalar.cmpi .ne v917 c0_i32_923
  v918

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off96 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev80 : Nat :=
  let c0_i32_1215 : BitVec 32 := 0#32
  let c23_i32_1213 : BitVec 32 := 23#32
  let c1_i32_1214 : BitVec 32 := 1#32
  let v1203 : BitVec 32 := Scalar.muli c23_i32_1213 c1_i32_1214
  let v1204 : BitVec 32 := Scalar.addi c0_i32_1215 v1203
  v1204.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_935 : BitVec 32 := 24#32
  let v929 : BitVec 1 := Scalar.cmpi .ne v2 c24_i32_935
  let v930 : BitVec 32 := Scalar.extui v929
  let c0_i32_937 : BitVec 32 := 0#32
  let v931 : BitVec 1 := Scalar.cmpi .ne v930 c0_i32_937
  v931

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off98 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev81 : Nat :=
  let c0_i32_1215 : BitVec 32 := 0#32
  let c24_i32_1213 : BitVec 32 := 24#32
  let c1_i32_1214 : BitVec 32 := 1#32
  let v1203 : BitVec 32 := Scalar.muli c24_i32_1213 c1_i32_1214
  let v1204 : BitVec 32 := Scalar.addi c0_i32_1215 v1203
  v1204.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_938 : BitVec 32 := 24#32
  let v932 : BitVec 1 := Scalar.cmpi .ne v2 c24_i32_938
  let v933 : BitVec 32 := Scalar.extui v932
  let c0_i32_940 : BitVec 32 := 0#32
  let v934 : BitVec 1 := Scalar.cmpi .ne v933 c0_i32_940
  v934

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off100 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev82 : Nat :=
  let c0_i32_1215 : BitVec 32 := 0#32
  let c24_i32_1213 : BitVec 32 := 24#32
  let c1_i32_1214 : BitVec 32 := 1#32
  let v1203 : BitVec 32 := Scalar.muli c24_i32_1213 c1_i32_1214
  let v1204 : BitVec 32 := Scalar.addi c0_i32_1215 v1203
  v1204.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_941 : BitVec 32 := 25#32
  let v935 : BitVec 1 := Scalar.cmpi .ne v2 c25_i32_941
  let v936 : BitVec 32 := Scalar.extui v935
  let c0_i32_943 : BitVec 32 := 0#32
  let v937 : BitVec 1 := Scalar.cmpi .ne v936 c0_i32_943
  v937

def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off102 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev83 : Nat :=
  let c0_i32_1215 : BitVec 32 := 0#32
  let c25_i32_1213 : BitVec 32 := 25#32
  let c1_i32_1214 : BitVec 32 := 1#32
  let v1203 : BitVec 32 := Scalar.muli c25_i32_1213 c1_i32_1214
  let v1204 : BitVec 32 := Scalar.addi c0_i32_1215 v1203
  v1204.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_944 : BitVec 32 := 25#32
  let v938 : BitVec 1 := Scalar.cmpi .ne v2 c25_i32_944
  let v939 : BitVec 32 := Scalar.extui v938
  let c0_i32_946 : BitVec 32 := 0#32
  let v940 : BitVec 1 := Scalar.cmpi .ne v939 c0_i32_946
  v940

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off104 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev84 : Nat :=
  let c0_i32_1215 : BitVec 32 := 0#32
  let c25_i32_1213 : BitVec 32 := 25#32
  let c1_i32_1214 : BitVec 32 := 1#32
  let v1203 : BitVec 32 := Scalar.muli c25_i32_1213 c1_i32_1214
  let v1204 : BitVec 32 := Scalar.addi c0_i32_1215 v1203
  v1204.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_947 : BitVec 32 := 26#32
  let v941 : BitVec 1 := Scalar.cmpi .ne v2 c26_i32_947
  let v942 : BitVec 32 := Scalar.extui v941
  let c0_i32_949 : BitVec 32 := 0#32
  let v943 : BitVec 1 := Scalar.cmpi .ne v942 c0_i32_949
  v943

def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off106 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev85 : Nat :=
  let c0_i32_1215 : BitVec 32 := 0#32
  let c26_i32_1213 : BitVec 32 := 26#32
  let c1_i32_1214 : BitVec 32 := 1#32
  let v1203 : BitVec 32 := Scalar.muli c26_i32_1213 c1_i32_1214
  let v1204 : BitVec 32 := Scalar.addi c0_i32_1215 v1203
  v1204.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_950 : BitVec 32 := 26#32
  let v944 : BitVec 1 := Scalar.cmpi .ne v2 c26_i32_950
  let v945 : BitVec 32 := Scalar.extui v944
  let c0_i32_952 : BitVec 32 := 0#32
  let v946 : BitVec 1 := Scalar.cmpi .ne v945 c0_i32_952
  v946

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off108 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev86 : Nat :=
  let c0_i32_1215 : BitVec 32 := 0#32
  let c26_i32_1213 : BitVec 32 := 26#32
  let c1_i32_1214 : BitVec 32 := 1#32
  let v1203 : BitVec 32 := Scalar.muli c26_i32_1213 c1_i32_1214
  let v1204 : BitVec 32 := Scalar.addi c0_i32_1215 v1203
  v1204.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_953 : BitVec 32 := 27#32
  let v947 : BitVec 1 := Scalar.cmpi .ne v2 c27_i32_953
  let v948 : BitVec 32 := Scalar.extui v947
  let c0_i32_955 : BitVec 32 := 0#32
  let v949 : BitVec 1 := Scalar.cmpi .ne v948 c0_i32_955
  v949

def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off110 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev87 : Nat :=
  let c0_i32_1215 : BitVec 32 := 0#32
  let c27_i32_1213 : BitVec 32 := 27#32
  let c1_i32_1214 : BitVec 32 := 1#32
  let v1203 : BitVec 32 := Scalar.muli c27_i32_1213 c1_i32_1214
  let v1204 : BitVec 32 := Scalar.addi c0_i32_1215 v1203
  v1204.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_956 : BitVec 32 := 27#32
  let v950 : BitVec 1 := Scalar.cmpi .ne v2 c27_i32_956
  let v951 : BitVec 32 := Scalar.extui v950
  let c0_i32_958 : BitVec 32 := 0#32
  let v952 : BitVec 1 := Scalar.cmpi .ne v951 c0_i32_958
  v952

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off112 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev88 : Nat :=
  let c0_i32_1215 : BitVec 32 := 0#32
  let c27_i32_1213 : BitVec 32 := 27#32
  let c1_i32_1214 : BitVec 32 := 1#32
  let v1203 : BitVec 32 := Scalar.muli c27_i32_1213 c1_i32_1214
  let v1204 : BitVec 32 := Scalar.addi c0_i32_1215 v1203
  v1204.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_970 : BitVec 32 := 28#32
  let v963 : BitVec 1 := Scalar.cmpi .ne v2 c28_i32_970
  let v964 : BitVec 32 := Scalar.extui v963
  let c0_i32_972 : BitVec 32 := 0#32
  let v965 : BitVec 1 := Scalar.cmpi .ne v964 c0_i32_972
  v965

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off114 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev89 : Nat :=
  let c0_i32_1215 : BitVec 32 := 0#32
  let c28_i32_1213 : BitVec 32 := 28#32
  let c1_i32_1214 : BitVec 32 := 1#32
  let v1203 : BitVec 32 := Scalar.muli c28_i32_1213 c1_i32_1214
  let v1204 : BitVec 32 := Scalar.addi c0_i32_1215 v1203
  v1204.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_973 : BitVec 32 := 28#32
  let v966 : BitVec 1 := Scalar.cmpi .ne v2 c28_i32_973
  let v967 : BitVec 32 := Scalar.extui v966
  let c0_i32_975 : BitVec 32 := 0#32
  let v968 : BitVec 1 := Scalar.cmpi .ne v967 c0_i32_975
  v968

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off116 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev90 : Nat :=
  let c0_i32_1215 : BitVec 32 := 0#32
  let c28_i32_1213 : BitVec 32 := 28#32
  let c1_i32_1214 : BitVec 32 := 1#32
  let v1203 : BitVec 32 := Scalar.muli c28_i32_1213 c1_i32_1214
  let v1204 : BitVec 32 := Scalar.addi c0_i32_1215 v1203
  v1204.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_976 : BitVec 32 := 29#32
  let v969 : BitVec 1 := Scalar.cmpi .ne v2 c29_i32_976
  let v970 : BitVec 32 := Scalar.extui v969
  let c0_i32_978 : BitVec 32 := 0#32
  let v971 : BitVec 1 := Scalar.cmpi .ne v970 c0_i32_978
  v971

def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off118 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev91 : Nat :=
  let c0_i32_1215 : BitVec 32 := 0#32
  let c29_i32_1213 : BitVec 32 := 29#32
  let c1_i32_1214 : BitVec 32 := 1#32
  let v1203 : BitVec 32 := Scalar.muli c29_i32_1213 c1_i32_1214
  let v1204 : BitVec 32 := Scalar.addi c0_i32_1215 v1203
  v1204.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_979 : BitVec 32 := 29#32
  let v972 : BitVec 1 := Scalar.cmpi .ne v2 c29_i32_979
  let v973 : BitVec 32 := Scalar.extui v972
  let c0_i32_981 : BitVec 32 := 0#32
  let v974 : BitVec 1 := Scalar.cmpi .ne v973 c0_i32_981
  v974

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off120 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev92 : Nat :=
  let c0_i32_1215 : BitVec 32 := 0#32
  let c29_i32_1213 : BitVec 32 := 29#32
  let c1_i32_1214 : BitVec 32 := 1#32
  let v1203 : BitVec 32 := Scalar.muli c29_i32_1213 c1_i32_1214
  let v1204 : BitVec 32 := Scalar.addi c0_i32_1215 v1203
  v1204.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_982 : BitVec 32 := 30#32
  let v975 : BitVec 1 := Scalar.cmpi .ne v2 c30_i32_982
  let v976 : BitVec 32 := Scalar.extui v975
  let c0_i32_984 : BitVec 32 := 0#32
  let v977 : BitVec 1 := Scalar.cmpi .ne v976 c0_i32_984
  v977

def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off122 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev93 : Nat :=
  let c0_i32_1215 : BitVec 32 := 0#32
  let c30_i32_1213 : BitVec 32 := 30#32
  let c1_i32_1214 : BitVec 32 := 1#32
  let v1203 : BitVec 32 := Scalar.muli c30_i32_1213 c1_i32_1214
  let v1204 : BitVec 32 := Scalar.addi c0_i32_1215 v1203
  v1204.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_985 : BitVec 32 := 30#32
  let v978 : BitVec 1 := Scalar.cmpi .ne v2 c30_i32_985
  let v979 : BitVec 32 := Scalar.extui v978
  let c0_i32_987 : BitVec 32 := 0#32
  let v980 : BitVec 1 := Scalar.cmpi .ne v979 c0_i32_987
  v980

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off124 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev94 : Nat :=
  let c0_i32_1215 : BitVec 32 := 0#32
  let c30_i32_1213 : BitVec 32 := 30#32
  let c1_i32_1214 : BitVec 32 := 1#32
  let v1203 : BitVec 32 := Scalar.muli c30_i32_1213 c1_i32_1214
  let v1204 : BitVec 32 := Scalar.addi c0_i32_1215 v1203
  v1204.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_988 : BitVec 32 := 31#32
  let v981 : BitVec 1 := Scalar.cmpi .ne v2 c31_i32_988
  let v982 : BitVec 32 := Scalar.extui v981
  let c0_i32_990 : BitVec 32 := 0#32
  let v983 : BitVec 1 := Scalar.cmpi .ne v982 c0_i32_990
  v983

def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off126 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev95 : Nat :=
  let c0_i32_1215 : BitVec 32 := 0#32
  let c31_i32_1213 : BitVec 32 := 31#32
  let c1_i32_1214 : BitVec 32 := 1#32
  let v1203 : BitVec 32 := Scalar.muli c31_i32_1213 c1_i32_1214
  let v1204 : BitVec 32 := Scalar.addi c0_i32_1215 v1203
  v1204.toNat
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_991 : BitVec 32 := 31#32
  let v984 : BitVec 1 := Scalar.cmpi .ne v2 c31_i32_991
  let v985 : BitVec 32 := Scalar.extui v984
  let c0_i32_993 : BitVec 32 := 0#32
  let v986 : BitVec 1 := Scalar.cmpi .ne v985 c0_i32_993
  v986

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  ![v19.toNat]
def k0_off128 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1216 : BitVec 32 := 0#32
  let c0_i32_1217 : BitVec 32 := 0#32
  let c0_i32_1218 : BitVec 32 := 0#32
  ![v19.toNat, 0, 0, 0]
def k0_dev96 : Nat :=
  let c0_i32_1215 : BitVec 32 := 0#32
  let c31_i32_1213 : BitVec 32 := 31#32
  let c1_i32_1214 : BitVec 32 := 1#32
  let v1203 : BitVec 32 := Scalar.muli c31_i32_1213 c1_i32_1214
  let v1204 : BitVec 32 := Scalar.addi c0_i32_1215 v1203
  v1204.toNat
def k0_off129 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_995 : BitVec 32 := 0#32
  let c0_i32_996 : BitVec 32 := 0#32
  let c0_i32_997 : BitVec 32 := 0#32
  ![v19.toNat, 0, 0, 0]
def k0_off130 (d0 : Dev nD) : Fin 3 → Nat :=
  let c0_i32_998 : BitVec 32 := 0#32
  let c0_i32_999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v987 : BitVec 32 := Scalar.muli v2 c256_i32
  ![0, 0, v987.toNat]
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1007 : BitVec 32 := 0#32
  let v999 : BitVec 1 := Scalar.cmpi .ne v2 c0_i32_1007
  let v1000 : BitVec 32 := Scalar.extui v999
  let c0_i32_1009 : BitVec 32 := 0#32
  let v1001 : BitVec 1 := Scalar.cmpi .ne v1000 c0_i32_1009
  v1001

def k0_off131 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1218 : BitVec 32 := 0#32
  let c0_i32_1219 : BitVec 32 := 0#32
  let c0_i32_1220 : BitVec 32 := 0#32
  ![v19.toNat, 0, 0, 0]
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1010 : BitVec 32 := 0#32
  let v1002 : BitVec 1 := Scalar.cmpi .ne v2 c0_i32_1010
  let v1003 : BitVec 32 := Scalar.extui v1002
  let c0_i32_1012 : BitVec 32 := 0#32
  let v1004 : BitVec 1 := Scalar.cmpi .ne v1003 c0_i32_1012
  v1004

def k0_off132 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1218 : BitVec 32 := 0#32
  let c0_i32_1219 : BitVec 32 := 0#32
  let c0_i32_1220 : BitVec 32 := 0#32
  ![v19.toNat, 0, 0, 0]
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1013 : BitVec 32 := 1#32
  let v1005 : BitVec 1 := Scalar.cmpi .ne v2 c1_i32_1013
  let v1006 : BitVec 32 := Scalar.extui v1005
  let c0_i32_1015 : BitVec 32 := 0#32
  let v1007 : BitVec 1 := Scalar.cmpi .ne v1006 c0_i32_1015
  v1007

def k0_off133 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1218 : BitVec 32 := 0#32
  let c0_i32_1219 : BitVec 32 := 0#32
  let c0_i32_1220 : BitVec 32 := 0#32
  ![v19.toNat, 0, 0, 0]
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1016 : BitVec 32 := 1#32
  let v1008 : BitVec 1 := Scalar.cmpi .ne v2 c1_i32_1016
  let v1009 : BitVec 32 := Scalar.extui v1008
  let c0_i32_1018 : BitVec 32 := 0#32
  let v1010 : BitVec 1 := Scalar.cmpi .ne v1009 c0_i32_1018
  v1010

def k0_off134 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1218 : BitVec 32 := 0#32
  let c0_i32_1219 : BitVec 32 := 0#32
  let c0_i32_1220 : BitVec 32 := 0#32
  ![v19.toNat, 0, 0, 0]
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1019 : BitVec 32 := 2#32
  let v1011 : BitVec 1 := Scalar.cmpi .ne v2 c2_i32_1019
  let v1012 : BitVec 32 := Scalar.extui v1011
  let c0_i32_1021 : BitVec 32 := 0#32
  let v1013 : BitVec 1 := Scalar.cmpi .ne v1012 c0_i32_1021
  v1013

def k0_off135 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1022 : BitVec 32 := 2#32
  let v1014 : BitVec 1 := Scalar.cmpi .ne v2 c2_i32_1022
  let v1015 : BitVec 32 := Scalar.extui v1014
  let c0_i32_1024 : BitVec 32 := 0#32
  let v1016 : BitVec 1 := Scalar.cmpi .ne v1015 c0_i32_1024
  v1016

def k0_off136 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1025 : BitVec 32 := 3#32
  let v1017 : BitVec 1 := Scalar.cmpi .ne v2 c3_i32_1025
  let v1018 : BitVec 32 := Scalar.extui v1017
  let c0_i32_1027 : BitVec 32 := 0#32
  let v1019 : BitVec 1 := Scalar.cmpi .ne v1018 c0_i32_1027
  v1019

def k0_off137 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1028 : BitVec 32 := 3#32
  let v1020 : BitVec 1 := Scalar.cmpi .ne v2 c3_i32_1028
  let v1021 : BitVec 32 := Scalar.extui v1020
  let c0_i32_1030 : BitVec 32 := 0#32
  let v1022 : BitVec 1 := Scalar.cmpi .ne v1021 c0_i32_1030
  v1022

def k0_off138 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1031 : BitVec 32 := 4#32
  let v1023 : BitVec 1 := Scalar.cmpi .ne v2 c4_i32_1031
  let v1024 : BitVec 32 := Scalar.extui v1023
  let c0_i32_1033 : BitVec 32 := 0#32
  let v1025 : BitVec 1 := Scalar.cmpi .ne v1024 c0_i32_1033
  v1025

def k0_off139 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1034 : BitVec 32 := 4#32
  let v1026 : BitVec 1 := Scalar.cmpi .ne v2 c4_i32_1034
  let v1027 : BitVec 32 := Scalar.extui v1026
  let c0_i32_1036 : BitVec 32 := 0#32
  let v1028 : BitVec 1 := Scalar.cmpi .ne v1027 c0_i32_1036
  v1028

def k0_off140 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1037 : BitVec 32 := 5#32
  let v1029 : BitVec 1 := Scalar.cmpi .ne v2 c5_i32_1037
  let v1030 : BitVec 32 := Scalar.extui v1029
  let c0_i32_1039 : BitVec 32 := 0#32
  let v1031 : BitVec 1 := Scalar.cmpi .ne v1030 c0_i32_1039
  v1031

def k0_off141 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1040 : BitVec 32 := 5#32
  let v1032 : BitVec 1 := Scalar.cmpi .ne v2 c5_i32_1040
  let v1033 : BitVec 32 := Scalar.extui v1032
  let c0_i32_1042 : BitVec 32 := 0#32
  let v1034 : BitVec 1 := Scalar.cmpi .ne v1033 c0_i32_1042
  v1034

def k0_off142 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1043 : BitVec 32 := 6#32
  let v1035 : BitVec 1 := Scalar.cmpi .ne v2 c6_i32_1043
  let v1036 : BitVec 32 := Scalar.extui v1035
  let c0_i32_1045 : BitVec 32 := 0#32
  let v1037 : BitVec 1 := Scalar.cmpi .ne v1036 c0_i32_1045
  v1037

def k0_off143 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1046 : BitVec 32 := 6#32
  let v1038 : BitVec 1 := Scalar.cmpi .ne v2 c6_i32_1046
  let v1039 : BitVec 32 := Scalar.extui v1038
  let c0_i32_1048 : BitVec 32 := 0#32
  let v1040 : BitVec 1 := Scalar.cmpi .ne v1039 c0_i32_1048
  v1040

def k0_off144 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1049 : BitVec 32 := 7#32
  let v1041 : BitVec 1 := Scalar.cmpi .ne v2 c7_i32_1049
  let v1042 : BitVec 32 := Scalar.extui v1041
  let c0_i32_1051 : BitVec 32 := 0#32
  let v1043 : BitVec 1 := Scalar.cmpi .ne v1042 c0_i32_1051
  v1043

def k0_off145 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1052 : BitVec 32 := 7#32
  let v1044 : BitVec 1 := Scalar.cmpi .ne v2 c7_i32_1052
  let v1045 : BitVec 32 := Scalar.extui v1044
  let c0_i32_1054 : BitVec 32 := 0#32
  let v1046 : BitVec 1 := Scalar.cmpi .ne v1045 c0_i32_1054
  v1046

def k0_off146 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1055 : BitVec 32 := 8#32
  let v1047 : BitVec 1 := Scalar.cmpi .ne v2 c8_i32_1055
  let v1048 : BitVec 32 := Scalar.extui v1047
  let c0_i32_1057 : BitVec 32 := 0#32
  let v1049 : BitVec 1 := Scalar.cmpi .ne v1048 c0_i32_1057
  v1049

def k0_off147 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1058 : BitVec 32 := 8#32
  let v1050 : BitVec 1 := Scalar.cmpi .ne v2 c8_i32_1058
  let v1051 : BitVec 32 := Scalar.extui v1050
  let c0_i32_1060 : BitVec 32 := 0#32
  let v1052 : BitVec 1 := Scalar.cmpi .ne v1051 c0_i32_1060
  v1052

def k0_off148 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1061 : BitVec 32 := 9#32
  let v1053 : BitVec 1 := Scalar.cmpi .ne v2 c9_i32_1061
  let v1054 : BitVec 32 := Scalar.extui v1053
  let c0_i32_1063 : BitVec 32 := 0#32
  let v1055 : BitVec 1 := Scalar.cmpi .ne v1054 c0_i32_1063
  v1055

def k0_off149 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1064 : BitVec 32 := 9#32
  let v1056 : BitVec 1 := Scalar.cmpi .ne v2 c9_i32_1064
  let v1057 : BitVec 32 := Scalar.extui v1056
  let c0_i32_1066 : BitVec 32 := 0#32
  let v1058 : BitVec 1 := Scalar.cmpi .ne v1057 c0_i32_1066
  v1058

def k0_off150 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1067 : BitVec 32 := 10#32
  let v1059 : BitVec 1 := Scalar.cmpi .ne v2 c10_i32_1067
  let v1060 : BitVec 32 := Scalar.extui v1059
  let c0_i32_1069 : BitVec 32 := 0#32
  let v1061 : BitVec 1 := Scalar.cmpi .ne v1060 c0_i32_1069
  v1061

def k0_off151 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1070 : BitVec 32 := 10#32
  let v1062 : BitVec 1 := Scalar.cmpi .ne v2 c10_i32_1070
  let v1063 : BitVec 32 := Scalar.extui v1062
  let c0_i32_1072 : BitVec 32 := 0#32
  let v1064 : BitVec 1 := Scalar.cmpi .ne v1063 c0_i32_1072
  v1064

def k0_off152 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1073 : BitVec 32 := 11#32
  let v1065 : BitVec 1 := Scalar.cmpi .ne v2 c11_i32_1073
  let v1066 : BitVec 32 := Scalar.extui v1065
  let c0_i32_1075 : BitVec 32 := 0#32
  let v1067 : BitVec 1 := Scalar.cmpi .ne v1066 c0_i32_1075
  v1067

def k0_off153 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1076 : BitVec 32 := 11#32
  let v1068 : BitVec 1 := Scalar.cmpi .ne v2 c11_i32_1076
  let v1069 : BitVec 32 := Scalar.extui v1068
  let c0_i32_1078 : BitVec 32 := 0#32
  let v1070 : BitVec 1 := Scalar.cmpi .ne v1069 c0_i32_1078
  v1070

def k0_off154 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1079 : BitVec 32 := 12#32
  let v1071 : BitVec 1 := Scalar.cmpi .ne v2 c12_i32_1079
  let v1072 : BitVec 32 := Scalar.extui v1071
  let c0_i32_1081 : BitVec 32 := 0#32
  let v1073 : BitVec 1 := Scalar.cmpi .ne v1072 c0_i32_1081
  v1073

def k0_off155 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1082 : BitVec 32 := 12#32
  let v1074 : BitVec 1 := Scalar.cmpi .ne v2 c12_i32_1082
  let v1075 : BitVec 32 := Scalar.extui v1074
  let c0_i32_1084 : BitVec 32 := 0#32
  let v1076 : BitVec 1 := Scalar.cmpi .ne v1075 c0_i32_1084
  v1076

def k0_off156 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1085 : BitVec 32 := 13#32
  let v1077 : BitVec 1 := Scalar.cmpi .ne v2 c13_i32_1085
  let v1078 : BitVec 32 := Scalar.extui v1077
  let c0_i32_1087 : BitVec 32 := 0#32
  let v1079 : BitVec 1 := Scalar.cmpi .ne v1078 c0_i32_1087
  v1079

def k0_off157 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1088 : BitVec 32 := 13#32
  let v1080 : BitVec 1 := Scalar.cmpi .ne v2 c13_i32_1088
  let v1081 : BitVec 32 := Scalar.extui v1080
  let c0_i32_1090 : BitVec 32 := 0#32
  let v1082 : BitVec 1 := Scalar.cmpi .ne v1081 c0_i32_1090
  v1082

def k0_off158 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1091 : BitVec 32 := 14#32
  let v1083 : BitVec 1 := Scalar.cmpi .ne v2 c14_i32_1091
  let v1084 : BitVec 32 := Scalar.extui v1083
  let c0_i32_1093 : BitVec 32 := 0#32
  let v1085 : BitVec 1 := Scalar.cmpi .ne v1084 c0_i32_1093
  v1085

def k0_off159 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1094 : BitVec 32 := 14#32
  let v1086 : BitVec 1 := Scalar.cmpi .ne v2 c14_i32_1094
  let v1087 : BitVec 32 := Scalar.extui v1086
  let c0_i32_1096 : BitVec 32 := 0#32
  let v1088 : BitVec 1 := Scalar.cmpi .ne v1087 c0_i32_1096
  v1088

def k0_off160 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1097 : BitVec 32 := 15#32
  let v1089 : BitVec 1 := Scalar.cmpi .ne v2 c15_i32_1097
  let v1090 : BitVec 32 := Scalar.extui v1089
  let c0_i32_1099 : BitVec 32 := 0#32
  let v1091 : BitVec 1 := Scalar.cmpi .ne v1090 c0_i32_1099
  v1091

def k0_off161 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1100 : BitVec 32 := 15#32
  let v1092 : BitVec 1 := Scalar.cmpi .ne v2 c15_i32_1100
  let v1093 : BitVec 32 := Scalar.extui v1092
  let c0_i32_1102 : BitVec 32 := 0#32
  let v1094 : BitVec 1 := Scalar.cmpi .ne v1093 c0_i32_1102
  v1094

def k0_off162 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1103 : BitVec 32 := 16#32
  let v1095 : BitVec 1 := Scalar.cmpi .ne v2 c16_i32_1103
  let v1096 : BitVec 32 := Scalar.extui v1095
  let c0_i32_1105 : BitVec 32 := 0#32
  let v1097 : BitVec 1 := Scalar.cmpi .ne v1096 c0_i32_1105
  v1097

def k0_off163 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1106 : BitVec 32 := 16#32
  let v1098 : BitVec 1 := Scalar.cmpi .ne v2 c16_i32_1106
  let v1099 : BitVec 32 := Scalar.extui v1098
  let c0_i32_1108 : BitVec 32 := 0#32
  let v1100 : BitVec 1 := Scalar.cmpi .ne v1099 c0_i32_1108
  v1100

def k0_off164 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1109 : BitVec 32 := 17#32
  let v1101 : BitVec 1 := Scalar.cmpi .ne v2 c17_i32_1109
  let v1102 : BitVec 32 := Scalar.extui v1101
  let c0_i32_1111 : BitVec 32 := 0#32
  let v1103 : BitVec 1 := Scalar.cmpi .ne v1102 c0_i32_1111
  v1103

def k0_off165 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1112 : BitVec 32 := 17#32
  let v1104 : BitVec 1 := Scalar.cmpi .ne v2 c17_i32_1112
  let v1105 : BitVec 32 := Scalar.extui v1104
  let c0_i32_1114 : BitVec 32 := 0#32
  let v1106 : BitVec 1 := Scalar.cmpi .ne v1105 c0_i32_1114
  v1106

def k0_off166 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1115 : BitVec 32 := 18#32
  let v1107 : BitVec 1 := Scalar.cmpi .ne v2 c18_i32_1115
  let v1108 : BitVec 32 := Scalar.extui v1107
  let c0_i32_1117 : BitVec 32 := 0#32
  let v1109 : BitVec 1 := Scalar.cmpi .ne v1108 c0_i32_1117
  v1109

def k0_off167 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1118 : BitVec 32 := 18#32
  let v1110 : BitVec 1 := Scalar.cmpi .ne v2 c18_i32_1118
  let v1111 : BitVec 32 := Scalar.extui v1110
  let c0_i32_1120 : BitVec 32 := 0#32
  let v1112 : BitVec 1 := Scalar.cmpi .ne v1111 c0_i32_1120
  v1112

def k0_off168 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1121 : BitVec 32 := 19#32
  let v1113 : BitVec 1 := Scalar.cmpi .ne v2 c19_i32_1121
  let v1114 : BitVec 32 := Scalar.extui v1113
  let c0_i32_1123 : BitVec 32 := 0#32
  let v1115 : BitVec 1 := Scalar.cmpi .ne v1114 c0_i32_1123
  v1115

def k0_off169 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1124 : BitVec 32 := 19#32
  let v1116 : BitVec 1 := Scalar.cmpi .ne v2 c19_i32_1124
  let v1117 : BitVec 32 := Scalar.extui v1116
  let c0_i32_1126 : BitVec 32 := 0#32
  let v1118 : BitVec 1 := Scalar.cmpi .ne v1117 c0_i32_1126
  v1118

def k0_off170 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1127 : BitVec 32 := 20#32
  let v1119 : BitVec 1 := Scalar.cmpi .ne v2 c20_i32_1127
  let v1120 : BitVec 32 := Scalar.extui v1119
  let c0_i32_1129 : BitVec 32 := 0#32
  let v1121 : BitVec 1 := Scalar.cmpi .ne v1120 c0_i32_1129
  v1121

def k0_off171 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1130 : BitVec 32 := 20#32
  let v1122 : BitVec 1 := Scalar.cmpi .ne v2 c20_i32_1130
  let v1123 : BitVec 32 := Scalar.extui v1122
  let c0_i32_1132 : BitVec 32 := 0#32
  let v1124 : BitVec 1 := Scalar.cmpi .ne v1123 c0_i32_1132
  v1124

def k0_off172 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1133 : BitVec 32 := 21#32
  let v1125 : BitVec 1 := Scalar.cmpi .ne v2 c21_i32_1133
  let v1126 : BitVec 32 := Scalar.extui v1125
  let c0_i32_1135 : BitVec 32 := 0#32
  let v1127 : BitVec 1 := Scalar.cmpi .ne v1126 c0_i32_1135
  v1127

def k0_off173 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1136 : BitVec 32 := 21#32
  let v1128 : BitVec 1 := Scalar.cmpi .ne v2 c21_i32_1136
  let v1129 : BitVec 32 := Scalar.extui v1128
  let c0_i32_1138 : BitVec 32 := 0#32
  let v1130 : BitVec 1 := Scalar.cmpi .ne v1129 c0_i32_1138
  v1130

def k0_off174 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1139 : BitVec 32 := 22#32
  let v1131 : BitVec 1 := Scalar.cmpi .ne v2 c22_i32_1139
  let v1132 : BitVec 32 := Scalar.extui v1131
  let c0_i32_1141 : BitVec 32 := 0#32
  let v1133 : BitVec 1 := Scalar.cmpi .ne v1132 c0_i32_1141
  v1133

def k0_off175 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1142 : BitVec 32 := 22#32
  let v1134 : BitVec 1 := Scalar.cmpi .ne v2 c22_i32_1142
  let v1135 : BitVec 32 := Scalar.extui v1134
  let c0_i32_1144 : BitVec 32 := 0#32
  let v1136 : BitVec 1 := Scalar.cmpi .ne v1135 c0_i32_1144
  v1136

def k0_off176 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1145 : BitVec 32 := 23#32
  let v1137 : BitVec 1 := Scalar.cmpi .ne v2 c23_i32_1145
  let v1138 : BitVec 32 := Scalar.extui v1137
  let c0_i32_1147 : BitVec 32 := 0#32
  let v1139 : BitVec 1 := Scalar.cmpi .ne v1138 c0_i32_1147
  v1139

def k0_off177 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1148 : BitVec 32 := 23#32
  let v1140 : BitVec 1 := Scalar.cmpi .ne v2 c23_i32_1148
  let v1141 : BitVec 32 := Scalar.extui v1140
  let c0_i32_1150 : BitVec 32 := 0#32
  let v1142 : BitVec 1 := Scalar.cmpi .ne v1141 c0_i32_1150
  v1142

def k0_off178 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1151 : BitVec 32 := 24#32
  let v1143 : BitVec 1 := Scalar.cmpi .ne v2 c24_i32_1151
  let v1144 : BitVec 32 := Scalar.extui v1143
  let c0_i32_1153 : BitVec 32 := 0#32
  let v1145 : BitVec 1 := Scalar.cmpi .ne v1144 c0_i32_1153
  v1145

def k0_off179 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1154 : BitVec 32 := 24#32
  let v1146 : BitVec 1 := Scalar.cmpi .ne v2 c24_i32_1154
  let v1147 : BitVec 32 := Scalar.extui v1146
  let c0_i32_1156 : BitVec 32 := 0#32
  let v1148 : BitVec 1 := Scalar.cmpi .ne v1147 c0_i32_1156
  v1148

def k0_off180 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1157 : BitVec 32 := 25#32
  let v1149 : BitVec 1 := Scalar.cmpi .ne v2 c25_i32_1157
  let v1150 : BitVec 32 := Scalar.extui v1149
  let c0_i32_1159 : BitVec 32 := 0#32
  let v1151 : BitVec 1 := Scalar.cmpi .ne v1150 c0_i32_1159
  v1151

def k0_off181 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1160 : BitVec 32 := 25#32
  let v1152 : BitVec 1 := Scalar.cmpi .ne v2 c25_i32_1160
  let v1153 : BitVec 32 := Scalar.extui v1152
  let c0_i32_1162 : BitVec 32 := 0#32
  let v1154 : BitVec 1 := Scalar.cmpi .ne v1153 c0_i32_1162
  v1154

def k0_off182 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1163 : BitVec 32 := 26#32
  let v1155 : BitVec 1 := Scalar.cmpi .ne v2 c26_i32_1163
  let v1156 : BitVec 32 := Scalar.extui v1155
  let c0_i32_1165 : BitVec 32 := 0#32
  let v1157 : BitVec 1 := Scalar.cmpi .ne v1156 c0_i32_1165
  v1157

def k0_off183 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1166 : BitVec 32 := 26#32
  let v1158 : BitVec 1 := Scalar.cmpi .ne v2 c26_i32_1166
  let v1159 : BitVec 32 := Scalar.extui v1158
  let c0_i32_1168 : BitVec 32 := 0#32
  let v1160 : BitVec 1 := Scalar.cmpi .ne v1159 c0_i32_1168
  v1160

def k0_off184 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1169 : BitVec 32 := 27#32
  let v1161 : BitVec 1 := Scalar.cmpi .ne v2 c27_i32_1169
  let v1162 : BitVec 32 := Scalar.extui v1161
  let c0_i32_1171 : BitVec 32 := 0#32
  let v1163 : BitVec 1 := Scalar.cmpi .ne v1162 c0_i32_1171
  v1163

def k0_off185 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1172 : BitVec 32 := 27#32
  let v1164 : BitVec 1 := Scalar.cmpi .ne v2 c27_i32_1172
  let v1165 : BitVec 32 := Scalar.extui v1164
  let c0_i32_1174 : BitVec 32 := 0#32
  let v1166 : BitVec 1 := Scalar.cmpi .ne v1165 c0_i32_1174
  v1166

def k0_off186 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1175 : BitVec 32 := 28#32
  let v1167 : BitVec 1 := Scalar.cmpi .ne v2 c28_i32_1175
  let v1168 : BitVec 32 := Scalar.extui v1167
  let c0_i32_1177 : BitVec 32 := 0#32
  let v1169 : BitVec 1 := Scalar.cmpi .ne v1168 c0_i32_1177
  v1169

def k0_off187 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1178 : BitVec 32 := 28#32
  let v1170 : BitVec 1 := Scalar.cmpi .ne v2 c28_i32_1178
  let v1171 : BitVec 32 := Scalar.extui v1170
  let c0_i32_1180 : BitVec 32 := 0#32
  let v1172 : BitVec 1 := Scalar.cmpi .ne v1171 c0_i32_1180
  v1172

def k0_off188 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1181 : BitVec 32 := 29#32
  let v1173 : BitVec 1 := Scalar.cmpi .ne v2 c29_i32_1181
  let v1174 : BitVec 32 := Scalar.extui v1173
  let c0_i32_1183 : BitVec 32 := 0#32
  let v1175 : BitVec 1 := Scalar.cmpi .ne v1174 c0_i32_1183
  v1175

def k0_off189 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1184 : BitVec 32 := 29#32
  let v1176 : BitVec 1 := Scalar.cmpi .ne v2 c29_i32_1184
  let v1177 : BitVec 32 := Scalar.extui v1176
  let c0_i32_1186 : BitVec 32 := 0#32
  let v1178 : BitVec 1 := Scalar.cmpi .ne v1177 c0_i32_1186
  v1178

def k0_off190 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1187 : BitVec 32 := 30#32
  let v1179 : BitVec 1 := Scalar.cmpi .ne v2 c30_i32_1187
  let v1180 : BitVec 32 := Scalar.extui v1179
  let c0_i32_1189 : BitVec 32 := 0#32
  let v1181 : BitVec 1 := Scalar.cmpi .ne v1180 c0_i32_1189
  v1181

def k0_off191 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1190 : BitVec 32 := 30#32
  let v1182 : BitVec 1 := Scalar.cmpi .ne v2 c30_i32_1190
  let v1183 : BitVec 32 := Scalar.extui v1182
  let c0_i32_1192 : BitVec 32 := 0#32
  let v1184 : BitVec 1 := Scalar.cmpi .ne v1183 c0_i32_1192
  v1184

def k0_off192 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1193 : BitVec 32 := 31#32
  let v1185 : BitVec 1 := Scalar.cmpi .ne v2 c31_i32_1193
  let v1186 : BitVec 32 := Scalar.extui v1185
  let c0_i32_1195 : BitVec 32 := 0#32
  let v1187 : BitVec 1 := Scalar.cmpi .ne v1186 c0_i32_1195
  v1187

def k0_off193 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1196 : BitVec 32 := 31#32
  let v1188 : BitVec 1 := Scalar.cmpi .ne v2 c31_i32_1196
  let v1189 : BitVec 32 := Scalar.extui v1188
  let c0_i32_1198 : BitVec 32 := 0#32
  let v1190 : BitVec 1 := Scalar.cmpi .ne v1189 c0_i32_1198
  v1190

def k0_off194 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c0_i32_1217 : BitVec 32 := 0#32
  let c0_i32_1218 : BitVec 32 := 0#32
  let c0_i32_1219 : BitVec 32 := 0#32
  ![v19.toNat, 0, 0, 0]
def k0_dev97 (d0 : Dev nD) : Nat :=
  let c0_i32_576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_571 : BitVec 32 := 1#32
  let v582 : BitVec 32 := Scalar.xori v2 c1_i32_571
  let c1_i32_575 : BitVec 32 := 1#32
  let v583 : BitVec 32 := Scalar.muli v582 c1_i32_575
  let v584 : BitVec 32 := Scalar.addi c0_i32_576 v583
  v584.toNat
def k0_dev98 (d0 : Dev nD) : Nat :=
  let c0_i32_604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_599 : BitVec 32 := 2#32
  let v608 : BitVec 32 := Scalar.xori v2 c2_i32_599
  let c1_i32_603 : BitVec 32 := 1#32
  let v609 : BitVec 32 := Scalar.muli v608 c1_i32_603
  let v610 : BitVec 32 := Scalar.addi c0_i32_604 v609
  v610.toNat
def k0_dev99 (d0 : Dev nD) : Nat :=
  let c0_i32_632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_627 : BitVec 32 := 4#32
  let v634 : BitVec 32 := Scalar.xori v2 c4_i32_627
  let c1_i32_631 : BitVec 32 := 1#32
  let v635 : BitVec 32 := Scalar.muli v634 c1_i32_631
  let v636 : BitVec 32 := Scalar.addi c0_i32_632 v635
  v636.toNat
def k0_dev100 (d0 : Dev nD) : Nat :=
  let c0_i32_659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_654 : BitVec 32 := 8#32
  let v660 : BitVec 32 := Scalar.xori v2 c8_i32_654
  let c1_i32_658 : BitVec 32 := 1#32
  let v661 : BitVec 32 := Scalar.muli v660 c1_i32_658
  let v662 : BitVec 32 := Scalar.addi c0_i32_659 v661
  v662.toNat
def k0_dev101 (d0 : Dev nD) : Nat :=
  let c0_i32_686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_681 : BitVec 32 := 16#32
  let v686 : BitVec 32 := Scalar.xori v2 c16_i32_681
  let c1_i32_685 : BitVec 32 := 1#32
  let v687 : BitVec 32 := Scalar.muli v686 c1_i32_685
  let v688 : BitVec 32 := Scalar.addi c0_i32_686 v687
  v688.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S2x4096x8192 : Shape := ⟨3, ![2, 4096, 8192]⟩
abbrev S8192x512 : Shape := ⟨2, ![8192, 512]⟩
abbrev S2x4096x128x64 : Shape := ⟨4, ![2, 4096, 128, 64]⟩
abbrev S2x128x8192 : Shape := ⟨3, ![2, 128, 8192]⟩
abbrev S2x128x128x64 : Shape := ⟨4, ![2, 128, 128, 64]⟩
abbrev S128 : Shape := ⟨1, ![128]⟩
abbrev S_ : Shape := ⟨0, ![]⟩
abbrev S128x1 : Shape := ⟨2, ![128, 1]⟩
abbrev S4096 : Shape := ⟨1, ![4096]⟩
abbrev S1x4096 : Shape := ⟨2, ![1, 4096]⟩
abbrev S128x4096 : Shape := ⟨2, ![128, 4096]⟩
abbrev S2x128x128x4096 : Shape := ⟨4, ![2, 128, 128, 4096]⟩
abbrev S1x1x128x4096 : Shape := ⟨4, ![1, 1, 128, 4096]⟩
abbrev S2x128x128 : Shape := ⟨3, ![2, 128, 128]⟩
abbrev S2x128x128x1 : Shape := ⟨4, ![2, 128, 128, 1]⟩
abbrev S1x1x128x1 : Shape := ⟨4, ![1, 1, 128, 1]⟩
abbrev S2x128x64x128 : Shape := ⟨4, ![2, 128, 64, 128]⟩

abbrev nBuf : Space → Nat
  | .hbm => 144
  | .vmem => 0
  | .smem => 0
  | _ => 0

abbrev hbmTy0_0 (i : Nat) : BufTy := match i % 128 with
  | 0 => ⟨S2x128x512, .bf16⟩
  | 1 => ⟨S512x8192, .bf16⟩
  | 2 => ⟨S2x4096x8192, .bf16⟩
  | 3 => ⟨S2x4096x8192, .bf16⟩
  | 4 => ⟨S8192x512, .bf16⟩
  | 5 => ⟨S2x128x512, .f32⟩
  | 6 => ⟨S512x8192, .f32⟩
  | 7 => ⟨S2x4096x8192, .f32⟩
  | 8 => ⟨S2x4096x8192, .f32⟩
  | 9 => ⟨S8192x512, .f32⟩
  | 10 => ⟨S2x4096x128x64, .f32⟩
  | 11 => ⟨S2x4096x128x64, .f32⟩
  | 12 => ⟨S2x128x8192, .f32⟩
  | 13 => ⟨S2x128x128x64, .f32⟩
  | 14 => ⟨S128, .i32⟩
  | 15 => ⟨S_, .i32⟩
  | 16 => ⟨S_, .i32⟩
  | 17 => ⟨S128, .i32⟩
  | 18 => ⟨S128, .i32⟩
  | 19 => ⟨S128, .i32⟩
  | 20 => ⟨S_, .i32⟩
  | 21 => ⟨S128, .i32⟩
  | 22 => ⟨S128, .i1⟩
  | 23 => ⟨S128, .i32⟩
  | 24 => ⟨S128, .i32⟩
  | 25 => ⟨S_, .i32⟩
  | 26 => ⟨S128, .i32⟩
  | 27 => ⟨S128, .i1⟩
  | 28 => ⟨S128, .i1⟩
  | 29 => ⟨S_, .i32⟩
  | 30 => ⟨S128, .i32⟩
  | 31 => ⟨S128, .i32⟩
  | 32 => ⟨S128, .i32⟩
  | 33 => ⟨S128x1, .i32⟩
  | 34 => ⟨S4096, .i32⟩
  | 35 => ⟨S_, .i32⟩
  | 36 => ⟨S_, .i32⟩
  | 37 => ⟨S4096, .i32⟩
  | 38 => ⟨S4096, .i32⟩
  | 39 => ⟨S4096, .i32⟩
  | 40 => ⟨S_, .i32⟩
  | 41 => ⟨S4096, .i32⟩
  | 42 => ⟨S4096, .i1⟩
  | 43 => ⟨S4096, .i32⟩
  | 44 => ⟨S4096, .i32⟩
  | 45 => ⟨S_, .i32⟩
  | 46 => ⟨S4096, .i32⟩
  | 47 => ⟨S4096, .i1⟩
  | 48 => ⟨S4096, .i1⟩
  | 49 => ⟨S_, .i32⟩
  | 50 => ⟨S4096, .i32⟩
  | 51 => ⟨S4096, .i32⟩
  | 52 => ⟨S4096, .i32⟩
  | 53 => ⟨S1x4096, .i32⟩
  | 54 => ⟨S128x4096, .i32⟩
  | 55 => ⟨S128x4096, .i32⟩
  | 56 => ⟨S128x4096, .i1⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S1x4096, .i32⟩
  | 64 => ⟨S1x4096, .i32⟩
  | 65 => ⟨S_, .i32⟩
  | 66 => ⟨S1x4096, .i32⟩
  | 67 => ⟨S1x4096, .i1⟩
  | 68 => ⟨S_, .i32⟩
  | 69 => ⟨S1x4096, .i32⟩
  | 70 => ⟨S1x4096, .i1⟩
  | 71 => ⟨S_, .i32⟩
  | 72 => ⟨S_, .i1⟩
  | 73 => ⟨S1x4096, .i1⟩
  | 74 => ⟨S1x4096, .i1⟩
  | 75 => ⟨S1x4096, .i1⟩
  | 76 => ⟨S1x4096, .i32⟩
  | 77 => ⟨S1x4096, .i32⟩
  | 78 => ⟨S1x4096, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S128x1, .i32⟩
  | 86 => ⟨S128x1, .i32⟩
  | 87 => ⟨S_, .i32⟩
  | 88 => ⟨S128x1, .i32⟩
  | 89 => ⟨S128x1, .i1⟩
  | 90 => ⟨S_, .i32⟩
  | 91 => ⟨S128x1, .i32⟩
  | 92 => ⟨S128x1, .i1⟩
  | 93 => ⟨S_, .i32⟩
  | 94 => ⟨S_, .i1⟩
  | 95 => ⟨S128x1, .i1⟩
  | 96 => ⟨S128x1, .i1⟩
  | 97 => ⟨S128x1, .i1⟩
  | 98 => ⟨S128x1, .i32⟩
  | 99 => ⟨S128x1, .i32⟩
  | 100 => ⟨S128x1, .i32⟩
  | 101 => ⟨S128x4096, .i32⟩
  | 102 => ⟨S128x4096, .i32⟩
  | 103 => ⟨S128x4096, .i1⟩
  | 104 => ⟨S128x4096, .i1⟩
  | 105 => ⟨S2x128x128x4096, .f32⟩
  | 106 => ⟨S_, .f32⟩
  | 107 => ⟨S2x128x128x4096, .f32⟩
  | 108 => ⟨S2x128x128x4096, .f32⟩
  | 109 => ⟨S1x1x128x4096, .i1⟩
  | 110 => ⟨S_, .f32⟩
  | 111 => ⟨S_, .f32⟩
  | 112 => ⟨S2x128x128x4096, .i1⟩
  | 113 => ⟨S2x128x128x4096, .f32⟩
  | 114 => ⟨S2x128x128x4096, .f32⟩
  | 115 => ⟨S_, .f32⟩
  | 116 => ⟨S2x128x128, .f32⟩
  | 117 => ⟨S2x128x128x1, .f32⟩
  | 118 => ⟨S2x128x128x4096, .f32⟩
  | 119 => ⟨S2x128x128x4096, .f32⟩
  | 120 => ⟨S2x128x128x4096, .f32⟩
  | 121 => ⟨S_, .i1⟩
  | 122 => ⟨S128, .i1⟩
  | 123 => ⟨S1x1x128x1, .i1⟩
  | 124 => ⟨S_, .f32⟩
  | 125 => ⟨S2x128x128, .f32⟩
  | 126 => ⟨S2x128x128x1, .f32⟩
  | 127 => ⟨S_, .f32⟩
  | _ => ⟨S2x128x512, .bf16⟩

abbrev hbmTy0_1 (i : Nat) : BufTy := match i % 128 with
  | 0 => ⟨S_, .f32⟩
  | 1 => ⟨S2x128x128x1, .i1⟩
  | 2 => ⟨S2x128x128x1, .f32⟩
  | 3 => ⟨S2x128x128x1, .f32⟩
  | 4 => ⟨S2x128x128x4096, .f32⟩
  | 5 => ⟨S2x128x128x4096, .f32⟩
  | 6 => ⟨S1x1x128x1, .i1⟩
  | 7 => ⟨S_, .f32⟩
  | 8 => ⟨S_, .f32⟩
  | 9 => ⟨S2x128x128x4096, .i1⟩
  | 10 => ⟨S2x128x128x4096, .f32⟩
  | 11 => ⟨S2x128x128x4096, .f32⟩
  | 12 => ⟨S2x128x64x128, .f32⟩
  | 13 => ⟨S2x128x128x64, .f32⟩
  | 14 => ⟨S2x128x8192, .f32⟩
  | 15 => ⟨S2x128x512, .f32⟩
  | _ => ⟨S2x128x512, .bf16⟩

abbrev hbmTy (i : Nat) : BufTy := match i / 128 with
  | 0 => hbmTy0_0 i
  | 1 => hbmTy0_1 i
  | _ => ⟨S2x128x512, .bf16⟩

abbrev bufTy : (tb : Table) → Fin (tcTables nBuf tb) → BufTy
  | .hbm, ⟨i, _⟩ => hbmTy i
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_c_1 : Ref sig .tc := ⟨.hbm, 57, rfl⟩
abbrev main_call2_v0 : Ref sig .tc := ⟨.hbm, 58, rfl⟩
abbrev main_call2_c : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_1 : Ref sig .tc := ⟨.hbm, 65, rfl⟩
abbrev main_call2_v5 : Ref sig .tc := ⟨.hbm, 66, rfl⟩
abbrev main_call2_v6 : Ref sig .tc := ⟨.hbm, 67, rfl⟩
abbrev main_call2_c_2 : Ref sig .tc := ⟨.hbm, 68, rfl⟩
abbrev main_call2_v7 : Ref sig .tc := ⟨.hbm, 69, rfl⟩
abbrev main_call2_v8 : Ref sig .tc := ⟨.hbm, 70, rfl⟩
abbrev main_call2_c_3 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_v18 : Ref sig .tc := ⟨.hbm, 78, rfl⟩
abbrev main_c_2 : Ref sig .tc := ⟨.hbm, 79, rfl⟩
abbrev main_call3_v0 : Ref sig .tc := ⟨.hbm, 80, rfl⟩
abbrev main_call3_c : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_c_1 : Ref sig .tc := ⟨.hbm, 87, rfl⟩
abbrev main_call3_v5 : Ref sig .tc := ⟨.hbm, 88, rfl⟩
abbrev main_call3_v6 : Ref sig .tc := ⟨.hbm, 89, rfl⟩
abbrev main_call3_c_2 : Ref sig .tc := ⟨.hbm, 90, rfl⟩
abbrev main_call3_v7 : Ref sig .tc := ⟨.hbm, 91, rfl⟩
abbrev main_call3_v8 : Ref sig .tc := ⟨.hbm, 92, rfl⟩
abbrev main_call3_c_3 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_v23 : Ref sig .tc := ⟨.hbm, 104, rfl⟩
abbrev main_v24 : Ref sig .tc := ⟨.hbm, 105, rfl⟩
abbrev main_cst : Ref sig .tc := ⟨.hbm, 106, rfl⟩
abbrev main_v25 : Ref sig .tc := ⟨.hbm, 107, rfl⟩
abbrev main_v26 : Ref sig .tc := ⟨.hbm, 108, rfl⟩
abbrev main_v27 : Ref sig .tc := ⟨.hbm, 109, rfl⟩
abbrev main_cst_3 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_v28 : Ref sig .tc := ⟨.hbm, 114, rfl⟩
abbrev main_cst_4 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_c_5 : Ref sig .tc := ⟨.hbm, 121, rfl⟩
abbrev main_v34 : Ref sig .tc := ⟨.hbm, 122, rfl⟩
abbrev main_v35 : Ref sig .tc := ⟨.hbm, 123, rfl⟩
abbrev main_cst_6 : Ref sig .tc := ⟨.hbm, 124, rfl⟩
abbrev main_v36 : Ref sig .tc := ⟨.hbm, 125, rfl⟩
abbrev main_v37 : Ref sig .tc := ⟨.hbm, 126, rfl⟩
abbrev main_cst_7 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_cst_8 : Ref sig .tc := ⟨.hbm, 135, rfl⟩
abbrev main_call6_v0 : Ref sig .tc := ⟨.hbm, 136, rfl⟩
abbrev main_call6_v1 : Ref sig .tc := ⟨.hbm, 137, rfl⟩
abbrev main_call6_v2 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩

abbrev nD : Nat := 1
abbrev τ : Topo := Topo.v7x

variable {F : FTy → Type} [FloatOps F]
-- ==== Proof.K.Cells.lean ====
/-
The sparse-attention kernel with a head-sharded output projection, on 32 devices: memrefs, contents,
semaphore cells and the schedule of what every landing hands over.

Device `c` holds one 128-row band of the keys and values (`kbf`, `vbf` after staging) and four heads' worth of
columns of the two projections. An even device sends column chunk `d` of its band to slot `c / 2` of device `d`
(its own chunk by a local copy); every device then attends over its sixteen slots, multiplies with its rows of the
output projection, and five rounds of pairwise exchange sum the partial products.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Memref
public import Idealize.ShloMosaic.Lib.ValueIdxCore

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

/-! ## The resource algebra: the pipeline library's copy and the exchange's, whose duties are named by the paying device -/

abbrev D : Type := Dev nD
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Memrefs -/

/-- The staged copy of the keys (`false`) or the values (`true`) in the launch's block. -/
abbrev aM : Bool → Memref sig .tc .vmem S2x128x8192 .bf16
  | false => Memref.whole cc0_stg2_0
  | true => Memref.whole cc0_stg3_0
/-- The kernel's own copy of that block, from which chunks are sent. -/
abbrev bM : Bool → Memref sig .tc .vmem S2x128x8192 .bf16
  | false => Memref.whole cc0_scratch0
  | true => Memref.whole cc0_scratch1
/-- The sixteen slots the gathered chunks land in. -/
abbrev gM : Bool → Memref sig .tc .vmem S16x2x128x256 .bf16
  | false => Memref.whole cc0_scratch2
  | true => Memref.whole cc0_scratch3
abbrev qM : Memref sig .tc .vmem S256x256 .bf16 := Memref.whole cc0_scratch4
abbrev ctxM : Memref sig .tc .vmem S256x256 .f32 := Memref.whole cc0_scratch5
abbrev accM : Memref sig .tc .vmem S256x512 .f32 := Memref.whole cc0_scratch6
abbrev arM : Memref sig .tc .vmem S5x256x512 .f32 := Memref.whole cc0_scratch7

theorem inb_group (j : Fin 8) : ∀ a, (![0, 0, 1024 * (j : ℕ)] : Fin 3 → ℕ) a + S2x128x1024.size a ≤ S2x128x8192.size a := by
  revert j; decide +kernel
theorem inb_chunk (d : Dev nD) : ∀ a, (![0, 0, 256 * (d : ℕ)] : Fin 3 → ℕ) a + S2x128x256.size a ≤ S2x128x8192.size a := by
  revert d; decide +kernel
theorem inb_slot (s : Fin 16) : ∀ a, (![(s : ℕ), 0, 0, 0] : Fin 4 → ℕ) a + S1x2x128x256.size a ≤ S16x2x128x256.size a := by
  revert s; decide +kernel
theorem inb_ar (r : Fin 5) : ∀ a, (![(r : ℕ), 0, 0] : Fin 3 → ℕ) a + S1x256x512.size a ≤ S5x256x512.size a := by
  revert r; decide +kernel

/-- Column group `j`, 1024 columns; chunk `d`, 256 columns; slot `s`; exchange slot `r`. -/
abbrev groupR (j : Fin 8) : Rect S2x128x8192 := Rect.unit (s := S2x128x8192) ![0, 0, 1024 * (j : ℕ)] S2x128x1024.size (inb_group j)
abbrev chunkR (d : Dev nD) : Rect S2x128x8192 := Rect.unit (s := S2x128x8192) ![0, 0, 256 * (d : ℕ)] S2x128x256.size (inb_chunk d)
abbrev slotR (s : Fin 16) : Rect S16x2x128x256 := Rect.unit (s := S16x2x128x256) ![(s : ℕ), 0, 0, 0] S1x2x128x256.size (inb_slot s)
abbrev arR (r : Fin 5) : Rect S5x256x512 := Rect.unit (s := S5x256x512) ![(r : ℕ), 0, 0] S1x256x512.size (inb_ar r)

abbrev chunkM (kv : Bool) (d : Dev nD) : Memref sig .tc .vmem S2x128x256 .bf16 := (bM kv).slice (chunkR d) (fun _ => rfl)
abbrev slotM (kv : Bool) (s : Fin 16) : Memref sig .tc .vmem S2x128x256 .bf16 :=
  ((gM kv).slice (slotR s) (fun _ => rfl)).squeeze S2x128x256 squeezes_S1x2x128x256_S2x128x256
abbrev arSlotM (r : Fin 5) : Memref sig .tc .vmem S256x512 .f32 :=
  (arM.slice (arR r) (fun _ => rfl)).squeeze S256x512 squeezes_S1x256x512_S256x512

/-! ## Semaphore cells -/

/-- The runtime's barrier semaphore of collective id 0. -/
abbrev barS : Sem sig := (SemArray.scalar (sig.barrier 0 rfl) : Sems sig S_).sem

/-- The kinds of cell of one device: its barrier cell; the send cell of chunk `d`; the receive cell of slot `s`; the exchange's
    send and receive cells of round `r`; the local copies'. -/
inductive CK where
  | bar
  | snd (kv : Bool) (d : Dev nD)
  | rcv (kv : Bool) (s : Fin 16)
  | ars (r : Fin 5)
  | arr (r : Fin 5)
  | loc (kv : Bool)
deriving DecidableEq

def CK.equiv : CK ≃ Unit ⊕ (Bool × Dev nD) ⊕ (Bool × Fin 16) ⊕ Fin 5 ⊕ Fin 5 ⊕ Bool where
  toFun
    | .bar => .inl ()
    | .snd kv d => .inr (.inl (kv, d))
    | .rcv kv s => .inr (.inr (.inl (kv, s)))
    | .ars r => .inr (.inr (.inr (.inl r)))
    | .arr r => .inr (.inr (.inr (.inr (.inl r))))
    | .loc kv => .inr (.inr (.inr (.inr (.inr kv))))
  invFun
    | .inl () => .bar
    | .inr (.inl (kv, d)) => .snd kv d
    | .inr (.inr (.inl (kv, s))) => .rcv kv s
    | .inr (.inr (.inr (.inl r))) => .ars r
    | .inr (.inr (.inr (.inr (.inl r)))) => .arr r
    | .inr (.inr (.inr (.inr (.inr kv)))) => .loc kv
  left_inv x := by cases x <;> rfl
  right_inv x := by rcases x with _ | ⟨_, _⟩ | ⟨_, _⟩ | _ | _ | _ <;> rfl

instance : Fintype CK := Fintype.ofEquiv _ CK.equiv.symm

/-- The number of a DMA cell in the device's pool. -/
def CK.num : CK → Fin 114
  | .bar => 0
  | .snd kv d => ⟨6 + 32 * (if kv then 1 else 0) + d, by have : (d : ℕ) < 32 := d.isLt; split <;> omega⟩
  | .rcv kv s => ⟨70 + 16 * (if kv then 1 else 0) + s, by have := s.isLt; split <;> omega⟩
  | .ars r => ⟨102 + r, by omega⟩
  | .arr r => ⟨107 + r, by omega⟩
  | .loc kv => ⟨112 + (if kv then 1 else 0), by split <;> omega⟩

def csem : CK → SemLoc sig
  | .bar => .reg barS
  | k => .dma k.num

/-- The kind a pool number belongs to (a staging semaphore: none). -/
def kOfDma (n : Fin 114) : Option CK :=
  if n < 6 then none
  else if h : n < 70 then some (.snd (decide (38 ≤ (n : ℕ))) ⟨(n - 6 : ℕ) % 32, Nat.mod_lt _ (by decide)⟩)
  else if h : n < 102 then some (.rcv (decide (86 ≤ (n : ℕ))) ⟨(n - 70 : ℕ) % 16, Nat.mod_lt _ (by decide)⟩)
  else if h : n < 107 then some (.ars ⟨(n - 102 : ℕ) % 5, Nat.mod_lt _ (by decide)⟩)
  else if h : n < 112 then some (.arr ⟨(n - 107 : ℕ) % 5, Nat.mod_lt _ (by decide)⟩)
  else some (.loc (decide (113 ≤ (n : ℕ))))

def kOf : SemLoc sig → Option CK
  | .reg _ => some .bar
  | .dma n => kOfDma n

theorem kOf_csem (k : CK) : kOf (csem k) = some k := by
  cases k with
  | bar => rfl
  | snd kv d => revert kv d; decide +kernel
  | rcv kv s => revert kv s; decide +kernel
  | ars r => revert r; decide +kernel
  | arr r => revert r; decide +kernel
  | loc kv => revert kv; decide +kernel

theorem csem_injective : Function.Injective csem := fun a b h => by
  have := kOf_csem a; rw [h, kOf_csem b] at this; exact (Option.some.inj this).symm

abbrev cell (c : Dev nD) (k : CK) : GSem nD τ sig := ((c : Thread nD τ), csem k)
abbrev kcell (x : Dev nD × CK) : GSem nD τ sig := cell x.1 x.2

theorem kcell_injective : Function.Injective kcell := fun a b h => by
  have h₁ : (a.1 : Thread nD τ) = (b.1 : Thread nD τ) := congrArg Prod.fst h
  have h₂ : csem a.2 = csem b.2 := congrArg Prod.snd h
  exact Prod.ext (Fin.ext (congrArg (fun t : Thread nD τ => (t.1 : ℕ)) h₁)) (csem_injective h₂)

/-- The credit of one chunk's transfer and of one exchange round's. -/
abbrev N : ℕ := (slotM false 0).view.dmaCredit
abbrev Nar : ℕ := (arSlotM 0).view.dmaCredit
theorem N_pos : 0 < N := View.dmaCredit_pos _ (by decide)
theorem Nar_pos : 0 < Nar := View.dmaCredit_pos _ (by decide)
theorem N_slot (kv s) : (slotM kv s).view.dmaCredit = N := by cases kv <;> rfl
theorem N_chunk (kv d) : (chunkM kv d).view.dmaCredit = N := by cases kv <;> rfl
theorem N_ar (r) : (arSlotM r).view.dmaCredit = Nar := rfl
theorem N_acc : (accM : Memref sig .tc .vmem S256x512 .f32).view.dmaCredit = Nar := rfl

/-! ## Devices -/

set_option backward.proofsInPublic true in
/-- The device whose chunks land in slot `s`. -/
def dv (s : Fin 16) : Dev nD := ⟨2 * (s : ℕ), by have := s.isLt; show 2 * (s : ℕ) < 32; omega⟩
set_option backward.proofsInPublic true in
/-- The slot a device's chunks land in. -/
def sl (c : Dev nD) : Fin 16 := ⟨(c : ℕ) / 2, by have : (c : ℕ) < 32 := c.isLt; omega⟩
set_option backward.proofsInPublic true in
/-- The partner of exchange round `r`: the device whose number differs in bit `r`. -/
def pr (r : ℕ) (c : Dev nD) : Dev nD := ⟨((c : ℕ) ^^^ 2 ^ r) % 32, Nat.mod_lt _ (by decide)⟩
abbrev Ev (c : Dev nD) : Prop := (c : ℕ) % 2 = 0

theorem pr_pr (r : Fin 5) (c : Dev nD) : pr r (pr r c) = c := by revert r c; decide +kernel
theorem pr_ne (r : Fin 5) (c : Dev nD) : pr r c ≠ c := by revert r c; decide +kernel
theorem pr_inj (r r' : Fin 5) (c : Dev nD) : pr r c = pr r' c → r = r' := by revert r r' c; decide +kernel
theorem sl_dv (s : Fin 16) : sl (dv s) = s := by revert s; decide +kernel
theorem dv_sl (c : Dev nD) (h : Ev c) : dv (sl c) = c := by revert c; decide +kernel
theorem ev_dv (s : Fin 16) : Ev (dv s) := by revert s; decide +kernel

/-! ## Contents -/

/-- Device `c`'s staged inputs. -/
def x0 (c : Dev nD) : S2x128x512.Idx → Elt F .bf16 := (win0_0.blk (0 : Fin 1)).view.read (Elt F) (m ((c : Thread nD τ).loc main_arg0))
def x1 (c : Dev nD) : S512x256.Idx → Elt F .bf16 := (win0_1.blk (0 : Fin 1)).view.read (Elt F) (m ((c : Thread nD τ).loc main_arg1))
def x2 (c : Dev nD) : S2x128x8192.Idx → Elt F .bf16 := (win0_2.blk (0 : Fin 1)).view.read (Elt F) (m ((c : Thread nD τ).loc main_arg2))
def x3 (c : Dev nD) : S2x128x8192.Idx → Elt F .bf16 := (win0_3.blk (0 : Fin 1)).view.read (Elt F) (m ((c : Thread nD τ).loc main_arg3))
def x4 (c : Dev nD) : S256x512.Idx → Elt F .bf16 := (win0_4.blk (0 : Fin 1)).view.read (Elt F) (m ((c : Thread nD τ).loc main_arg4))

/-- The keys' (`false`) or values' (`true`) band of device `c`. -/
def xkv (kv : Bool) (c : Dev nD) : S2x128x8192.Idx → Elt F .bf16 := if kv then x3 m c else x2 m c

/-- Column chunk `d` of that band. -/
def chunkX (kv : Bool) (c d : Dev nD) : S2x128x256.Idx → Elt F .bf16 := fun j => xkv m kv c ((chunkR d).emb j)

/-- Where slot entry `j` (axes batch, row, column) lies among all sixteen slots, read as a slot index and the entry. -/
def gIx (i : S16x2x128x256.Idx) : S2x128x256.Idx := ix3 (i 1) (i 2) (i 3)

/-- What device `c` gathers: slot `s` holds chunk `c` of device `2 s`. -/
def gX (kv : Bool) (c : Dev nD) : S16x2x128x256.Idx → Elt F .bf16 := fun i => chunkX m kv (dv (i 0)) c (gIx i)

/-- The projected queries. -/
def qX (c : Dev nD) : S256x256.Idx → Elt F .bf16 := k0_pay22 (k0_pay21 (x0 m c) (x1 m c))

/-! ### Attention by blocks: block `t` is rows `64 (t / 4)` and columns `64 (t % 4)` of the context -/

theorem inb_blk (t : Fin 16) : ∀ a, (![64 * ((t : ℕ) / 4), 64 * ((t : ℕ) % 4)] : Fin 2 → ℕ) a + S64x64.size a ≤ S256x256.size a := by
  revert t; decide +kernel
theorem inb_kv (t : Fin 16) : ∀ a, (![0, (t : ℕ) / 8, 64 * ((t : ℕ) / 4 % 2), 64 * ((t : ℕ) % 4)] : Fin 4 → ℕ) a + S16x1x64x64.size a ≤ S16x2x128x256.size a := by
  revert t; decide +kernel
abbrev blkR (t : Fin 16) : Rect S256x256 := Rect.unit (s := S256x256) ![64 * ((t : ℕ) / 4), 64 * ((t : ℕ) % 4)] S64x64.size (inb_blk t)
abbrev kvR (t : Fin 16) : Rect S16x2x128x256 :=
  Rect.unit (s := S16x2x128x256) ![0, (t : ℕ) / 8, 64 * ((t : ℕ) / 4 % 2), 64 * ((t : ℕ) % 4)] S16x1x64x64.size (inb_kv t)

/-- One block of the context: a head's 64 queries against the keys and values the block's queries may see. -/
def blkV (c : Dev nD) (t : Fin 16) : S64x64.Idx → Elt F .f32 :=
  k0_pay27 (fun j => qX m c ((blkR t).emb j)) (fun j => gX m false c ((kvR t).emb j)) (fun j => gX m true c ((kvR t).emb j))

/-- The block an entry of the context lies in, and its place there. -/
def blkOf (i : S256x256.Idx) : Fin 16 :=
  ⟨4 * ((i 0 : ℕ) / 64) + (i 1 : ℕ) / 64, by have h0 : (i 0 : ℕ) < 256 := (i 0).isLt; have h1 : (i 1 : ℕ) < 256 := (i 1).isLt; omega⟩
def blkIx (i : S256x256.Idx) : S64x64.Idx :=
  ix2 (n0 := 64) (n1 := 64) ⟨(i 0 : ℕ) % 64, Nat.mod_lt _ (by decide)⟩ ⟨(i 1 : ℕ) % 64, Nat.mod_lt _ (by decide)⟩

/-- The context of device `c`'s four heads. -/
def ctxX (c : Dev nD) : S256x256.Idx → Elt F .f32 := fun i => blkV m c (blkOf i) (blkIx i)

/-! ### The exchange -/

/-- A `[256, 512]` array read through the `[1, 256, 512]` shape of an exchange slot. -/
def unsqAr {α : Type} (b : S256x512.Idx → α) : S1x256x512.Idx → α :=
  fun i => b ((Shape.reshapeEquiv squeezes_S1x256x512_S256x512.numel_eq).symm i)
/-- A `[2, 128, 256]` array read through the `[1, 2, 128, 256]` shape of a gathered slot. -/
def unsqSl {α : Type} (b : S2x128x256.Idx → α) : S1x2x128x256.Idx → α :=
  fun i => b ((Shape.reshapeEquiv squeezes_S1x2x128x256_S2x128x256.numel_eq).symm i)

/-- Device `c`'s accumulator before exchange round `r`: its partial product, then the sum with its partner's, round by round. -/
def accX : ℕ → Dev nD → (S256x512.Idx → Elt F .f32)
  | 0, c => k0_pay55 (ctxX m c) (x4 m c)
  | r + 1, c => k0_pay56 (accX r c) (unsqAr (accX r (pr r c)))

/-- The kernel's result on device `c`. -/
def outX (c : Dev nD) : S2x128x512.Idx → Elt F .f32 := k0_pay2 (accX m 5 c)

end Cert.KP

end
-- ==== Proof.K.Sched.lean ====
/-
The schedule of the exchange: who pays into each semaphore cell, how much, and the contents each payment hands over;
what every device owes at launch, and the order the waits respect.

  * barrier cell of `c`: every device pays one unit; device `d`'s unit hands `c` the slots of `d` that `c` will write:
    `d`'s gathered slots `c / 2` if `c` is even and not `d`, and `d`'s exchange slot `r` if `d` is `c`'s partner in round `r`;
  * send cell of chunk `d`: paid by the transfer itself, handing the chunk back;
  * receive cell of slot `s`: paid by device `2 s`, handing the slot holding that device's chunk;
  * the exchange's send cell: hands the accumulator back; its receive cell: the slot holding the partner's accumulator;
  * the local copies' cells: hand the own chunk back and the own slot holding it.
-/
module

public import proofs.«01_k».proof.Proof.K.Cells

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Ownership -/

/-- Device `c` owns the memref and reads `X` through it. -/
abbrev ow (c : Dev nD) {sp : Space} {sh : Shape} {e : EltTy} (M : Memref sig .tc sp sh e) (X : sh.Idx → Elt F e) : sProp 𝕄 :=
  ownsTc c M fullShare X
/-- Device `c` owns the memref at some contents. -/
def owX (c : Dev nD) {sp : Space} {sh : Shape} {e : EltTy} (M : Memref sig .tc sp sh e) : sProp 𝕄 := iprop(∃ X, ow (F := F) c M X)

instance owX_storable (c : Dev nD) {sp : Space} {sh : Shape} {e : EltTy} (M : Memref sig .tc sp sh e) :
    BI.Storable (upEmb : UEmb _ 𝕄) (owX (F := F) c M) := by unfold owX; infer_instance

theorem ow_owX (c : Dev nD) {sp : Space} {sh : Shape} {e : EltTy} (M : Memref sig .tc sp sh e) (X) : ow (F := F) c M X ⊢ owX c M := by
  unfold owX; iintro H; iexists X; iexact H

/-! ## Payloads -/

/-- What device `d`'s barrier signal hands device `c`. -/
def barPay (c d : Dev nD) : sProp 𝕄 :=
  iprop((if Ev c ∧ c ≠ d then iprop(owX d (slotM false (sl c)) ∗ owX d (slotM true (sl c))) else iprop(emp))
    ∗ bigSep Finset.univ fun r : Fin 5 => if pr r c = d then owX d (arSlotM r) else iprop(emp))

def pay (c : Dev nD) : CK → Dev nD → sProp 𝕄
  | .bar, d => barPay c d
  | .snd kv d, _ => ow c (chunkM kv d) (chunkX m kv c d)
  | .rcv kv s, _ => ow c (slotM kv s) (chunkX m kv (dv s) c)
  | .ars r, _ => ow c accM (accX m r c)
  | .arr r, _ => ow c (arSlotM r) (accX m r (pr r c))
  | .loc kv, _ => iprop(ow c (slotM kv (sl c)) (chunkX m kv c c) ∗ ow c (chunkM kv c) (chunkX m kv c c))

instance barPay_storable (c d : Dev nD) : BI.Storable (upEmb : UEmb _ 𝕄) (barPay (F := F) c d) := by
  unfold barPay
  have : ∀ r : Fin 5, BI.Storable (upEmb : UEmb _ 𝕄) (if pr r c = d then owX (F := F) d (arSlotM r) else iprop(emp)) := fun r => by
    split <;> infer_instance
  have : BI.Storable (upEmb : UEmb _ 𝕄) (if Ev c ∧ c ≠ d then iprop(owX (F := F) d (slotM false (sl c)) ∗ owX d (slotM true (sl c))) else iprop(emp)) := by
    split <;> infer_instance
  infer_instance

instance pay_storable (c : Dev nD) (k : CK) (d : Dev nD) : BI.Storable (upEmb : UEmb _ 𝕄) (pay (F := F) m c k d) := by
  cases k <;> (unfold pay; infer_instance)

/-! ## Duties and amounts -/

/-- The devices that pay into a cell, in its one round. -/
def dut (c : Dev nD) : CK → Finset D
  | .bar => Finset.univ
  | .snd kv d => if Ev c ∧ d ≠ c then {c} else ∅
  | .rcv kv s => if c ≠ dv s then {dv s} else ∅
  | .ars r => {c}
  | .arr r => {pr r c}
  | .loc kv => if Ev c then {c} else ∅

def amt : CK → ℕ
  | .bar => 1
  | .ars _ => Nar
  | .arr _ => Nar
  | _ => N

theorem amt_pos (k : CK) : 0 < amt k := by
  cases k <;> first | exact Nat.one_pos | exact Nar_pos | exact N_pos

def Rd : Rounds.Schedule (GSem nD τ sig) D 𝕄 where
  duties g r := if r = 0 then (match kOf g.2 with | some k => dut g.1.1 k | none => ∅) else ∅
  unitless _ := False
  amount g _ _ := match kOf g.2 with | some k => amt k | none => 1
  payload g _ d := match kOf g.2 with | some k => pay m g.1.1 k d | none => iprop(emp)
  amount_pos g _ _ _ := by
    cases h : kOf g.2 with
    | none => exact Nat.one_pos
    | some k => exact amt_pos k

instance Rd_payload_storable (g : GSem nD τ sig) (r : ℕ) (d : D) :
    BI.Storable (upEmb : UEmb _ 𝕄) ((Rd (F := F) m).payload g r d) := by
  show BI.Storable upEmb (match kOf g.2 with | some k => pay m g.1.1 k d | none => iprop(emp))
  cases h : kOf g.2 with
  | none => simp only; infer_instance
  | some k => simp only; infer_instance

section Sched
variable (c : Dev nD) (k : CK)

omit [FloatOps F] in
theorem duties_cell [FloatOps F] : (Rd (F := F) m).duties (cell c k) 0 = dut c k := by
  dsimp only [Rd]; rw [if_pos rfl]; simp only [kOf_csem]
theorem duties_later (g : GSem nD τ sig) : ∀ r, 1 ≤ r → (Rd (F := F) m).duties g r = ∅ :=
  fun r hr => by dsimp only [Rd]; rw [if_neg (by omega)]
theorem duties_empty (h : dut c k = ∅) : ∀ r, 0 ≤ r → (Rd (F := F) m).duties (cell c k) r = ∅ := fun r _ => by
  rcases Nat.eq_zero_or_pos r with rfl | hr
  · rw [duties_cell, h]
  · exact duties_later m _ r hr
theorem amount_cell (r : ℕ) (d : D) : (Rd (F := F) m).amount (cell c k) r d = amt k := by
  dsimp only [Rd]; simp only [kOf_csem]
theorem payload_cell (r : ℕ) (d : D) : (Rd (F := F) m).payload (cell c k) r d = pay m c k d := by
  dsimp only [Rd]; simp only [kOf_csem]
theorem expect_cell : (Rd (F := F) m).expect (cell c k) 0 = (dut c k).card * amt k := by
  unfold Schedule.expect Schedule.amountOf
  rw [duties_cell, Finset.sum_congr rfl fun d _ => amount_cell m c k 0 d, Finset.sum_const, smul_eq_mul]
theorem rest_cell : bigSep ((Rd (F := F) m).duties (cell c k) 0 \ ∅) (fun d => (Rd (F := F) m).payload (cell c k) 0 d)
    = bigSep (dut c k) fun d => pay m c k d := by
  rw [Finset.sdiff_empty, duties_cell]
  exact bigSep_congr fun d _ => payload_cell m c k 0 d

end Sched

/-! ## What is owed, and levels -/

abbrev CT := CellTallies nD τ sig Unit

/-- `f x` units owed to cell `x`, for every cell `x`. -/
def OW (f : Dev nD × CK → ℕ) : CT := ∑ x, tallyAt (kcell x) () (f x)

theorem OW_split (f f' : Dev nD × CK → ℕ) (x : Dev nD × CK) (a : ℕ) (h : f x = a) (h0 : f' x = 0) (hne : ∀ y, y ≠ x → f' y = f y) :
    OW f = OW f' + tallyAt (kcell x) () a := by
  classical
  unfold OW
  rw [← Finset.add_sum_erase _ _ (Finset.mem_univ x), ← Finset.add_sum_erase _ (fun y => tallyAt (kcell y) () (f' y)) (Finset.mem_univ x), h, h0,
    Finset.sum_congr rfl (fun y hy => by rw [← hne y (Finset.ne_of_mem_erase hy)])]
  rw [show (tallyAt (kcell x) () 0 : CT) = 0 from tallyAt_zero _ _, zero_add, add_comm]

theorem CT_sum_apply {α : Type} (S : Finset α) (t : α → CT) (g : GSem nD τ sig) (u : Unit) :
    (∑ x ∈ S, t x) g u = ∑ x ∈ S, t x g u := by
  classical
  induction S using Finset.induction_on with
  | empty => rfl
  | insert a S ha ih => rw [Finset.sum_insert ha, Finset.sum_insert ha, Pi.add_apply, Finsupp.add_apply, ih]

theorem OW_pos {f : Dev nD × CK → ℕ} {g : GSem nD τ sig} {u : Unit} (h : 0 < OW f g u) : ∃ x, g = kcell x ∧ 0 < f x := by
  classical
  unfold OW at h
  rw [CT_sum_apply] at h
  obtain ⟨x, -, hx⟩ := Finset.exists_ne_zero_of_sum_ne_zero (Nat.pos_iff_ne_zero.mp h)
  rw [tallyAt_apply] at hx
  refine ⟨x, ?_, ?_⟩
  · by_contra hn; exact hx (if_neg fun h' => hn h'.1)
  · by_contra hn
    refine hx ?_
    split
    · omega
    · rfl

/-- The order of the waits: the barrier's before the chunks', those before the exchange's, round by round; the cells a
    device pays itself are waited on last of all, owing nothing that matters. -/
def levK : CK → ℕ
  | .bar => 1
  | .rcv _ _ => 2
  | .arr r => 3 + r
  | _ => 0

def L (g : GSem nD τ sig) : Finset Unit := if g.1.2 = .tc then {()} else ∅
def lv (g : GSem nD τ sig) (_ : Unit) : ℕ := match kOf g.2 with | some k => levK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) : lv (cell c k) () = levK k := by unfold lv; simp only [kOf_csem]

omit [FloatOps F] in
theorem mayWait_of [FloatOps F] (c : Dev nD) (sm : SemLoc sig) (b : ℕ) (hb : lv ((c : Thread nD τ), sm) () ≤ b) (f : Dev nD × CK → ℕ)
    (hf : ∀ y, 0 < f y → b < levK y.2) :
    (levAts L lv : sProp 𝕄) ⊢ MayWait (c : Thread nD τ) sm () (OW f) :=
  MayOwe.of_cut (L := L) (lev := lv) b (fun p hp => by rw [Finset.mem_singleton.mp hp, L_tc]; exact Finset.mem_singleton_self _)
    (fun g u hg => by obtain ⟨x, rfl, -⟩ := OW_pos hg; exact Finset.mem_singleton_self _)
    (fun p hp => by rw [Finset.mem_singleton.mp hp]; exact hb)
    (fun g u hg => by obtain ⟨x, rfl, hx⟩ := OW_pos hg; exact (lv_cell x.1 x.2).symm ▸ hf x hx)

/-- What device `c` still owes after `nB` barrier signals, the sends of the first `nK` key and `nV` value chunks, and `nA`
    exchange sends. -/
def rem (c : Dev nD) (nB nK nV nA : ℕ) (y : Dev nD × CK) : ℕ :=
  match y.2 with
  | .bar => if nB ≤ (y.1 : ℕ) then 1 else 0
  | .rcv kv s => if Ev c ∧ s = sl c ∧ y.1 ≠ c ∧ (if kv then nV else nK) ≤ (y.1 : ℕ) then N else 0
  | .arr r => if y.1 = pr r c ∧ nA ≤ (r : ℕ) then Nar else 0
  | _ => 0

theorem rem_bar (c d : Dev nD) : OW (rem c d 0 0 0) = OW (rem c (d + 1) 0 0 0) + tallyAt (cell d .bar) () 1 := by
  refine OW_split _ _ (d, .bar) 1 (if_pos le_rfl) (if_neg (Nat.not_succ_le_self _)) fun y hy => ?_
  obtain ⟨y, k⟩ := y
  cases k <;> try rfl
  have : (y : ℕ) ≠ d := fun h => hy (by rw [Fin.ext h])
  unfold rem
  dsimp only
  split <;> split <;> first | rfl | omega

theorem rem_K (c d : Dev nD) (nV : ℕ) (hc : Ev c) (hd : d ≠ c) :
    OW (rem c 32 d nV 0) = OW (rem c 32 (d + 1) nV 0) + tallyAt (cell d (.rcv false (sl c))) () N := by
  refine OW_split _ _ (d, .rcv false (sl c)) N (if_pos ⟨hc, rfl, hd, le_rfl⟩) (if_neg fun h => Nat.not_succ_le_self _ h.2.2.2) fun y hy => ?_
  obtain ⟨y, k⟩ := y
  cases k with
  | rcv kv s =>
    cases kv with
    | true => rfl
    | false =>
      unfold rem
      dsimp only
      by_cases hs : s = sl c
      · have : (y : ℕ) ≠ d := fun h => hy (by rw [Fin.ext h, hs])
        have : ((d : ℕ) + 1 ≤ (y : ℕ)) ↔ ((d : ℕ) ≤ (y : ℕ)) := by omega
        simp only [this, Bool.false_eq_true, if_false]
      · rw [if_neg fun h => hs h.2.1, if_neg fun h => hs h.2.1]
  | _ => rfl

theorem rem_V (c d : Dev nD) (nK : ℕ) (hc : Ev c) (hd : d ≠ c) :
    OW (rem c 32 nK d 0) = OW (rem c 32 nK (d + 1) 0) + tallyAt (cell d (.rcv true (sl c))) () N := by
  refine OW_split _ _ (d, .rcv true (sl c)) N (if_pos ⟨hc, rfl, hd, le_rfl⟩) (if_neg fun h => Nat.not_succ_le_self _ h.2.2.2) fun y hy => ?_
  obtain ⟨y, k⟩ := y
  cases k with
  | rcv kv s =>
    cases kv with
    | false => rfl
    | true =>
      unfold rem
      dsimp only
      by_cases hs : s = sl c
      · have : (y : ℕ) ≠ d := fun h => hy (by rw [Fin.ext h, hs])
        have : ((d : ℕ) + 1 ≤ (y : ℕ)) ↔ ((d : ℕ) ≤ (y : ℕ)) := by omega
        simp only [this, if_true]
      · rw [if_neg fun h => hs h.2.1, if_neg fun h => hs h.2.1]
  | _ => rfl

/-- The own chunk is not sent: passing it changes nothing. -/
theorem rem_K_self (c : Dev nD) (nV : ℕ) : rem c 32 c nV 0 = rem c 32 (c + 1 : ℕ) nV 0 := by
  funext y; obtain ⟨y, k⟩ := y
  cases k with
  | rcv kv s =>
    cases kv with
    | true => rfl
    | false =>
      unfold rem
      dsimp only
      by_cases hs : y = c
      · rw [if_neg fun h => h.2.2.1 hs, if_neg fun h => h.2.2.1 hs]
      · have : (y : ℕ) ≠ c := fun h => hs (Fin.ext h)
        have : ((c : ℕ) + 1 ≤ (y : ℕ)) ↔ ((c : ℕ) ≤ (y : ℕ)) := by omega
        simp only [this, Bool.false_eq_true, if_false]
  | _ => rfl
theorem rem_V_self (c : Dev nD) (nK : ℕ) : rem c 32 nK c 0 = rem c 32 nK (c + 1 : ℕ) 0 := by
  funext y; obtain ⟨y, k⟩ := y
  cases k with
  | rcv kv s =>
    cases kv with
    | false => rfl
    | true =>
      unfold rem
      dsimp only
      by_cases hs : y = c
      · rw [if_neg fun h => h.2.2.1 hs, if_neg fun h => h.2.2.1 hs]
      · have : (y : ℕ) ≠ c := fun h => hs (Fin.ext h)
        have : ((c : ℕ) + 1 ≤ (y : ℕ)) ↔ ((c : ℕ) ≤ (y : ℕ)) := by omega
        simp only [this, if_true]
  | _ => rfl

/-- An odd device sends no chunk. -/
theorem rem_odd (c : Dev nD) (hc : ¬ Ev c) (nA : ℕ) : rem c 32 0 0 nA = rem c 32 32 32 nA := by
  funext y; obtain ⟨y, k⟩ := y
  cases k with
  | rcv kv s => unfold rem; dsimp only; rw [if_neg fun h => hc h.1, if_neg fun h => hc h.1]
  | _ => rfl

theorem rem_ar (c : Dev nD) (r : Fin 5) : OW (rem c 32 32 32 r) = OW (rem c 32 32 32 (r + 1)) + tallyAt (cell (pr r c) (.arr r)) () Nar := by
  refine OW_split _ _ (pr r c, .arr r) Nar (if_pos ⟨rfl, le_rfl⟩) (if_neg fun h => Nat.not_succ_le_self _ h.2) fun y hy => ?_
  obtain ⟨y, k⟩ := y
  cases k with
  | arr r' =>
    unfold rem
    dsimp only
    by_cases hy' : y = pr r' c
    · have : (r' : ℕ) ≠ r := fun h => hy (by rw [hy', Fin.ext h])
      have : ((r : ℕ) + 1 ≤ (r' : ℕ)) ↔ ((r : ℕ) ≤ (r' : ℕ)) := by omega
      simp only [this]
    · rw [if_neg fun h => hy' h.1, if_neg fun h => hy' h.1]
  | _ => rfl

theorem rem_end (c : Dev nD) : OW (rem c 32 32 32 5) = 0 := by
  unfold OW
  refine Finset.sum_eq_zero fun y _ => ?_
  have : rem c 32 32 32 5 y = 0 := by
    obtain ⟨y, k⟩ := y
    have hy : (y : ℕ) < 32 := y.isLt
    cases k with
    | bar => exact if_neg (by dsimp only; omega)
    | rcv kv s => refine if_neg fun h => ?_; have := h.2.2.2; cases kv <;> simp at this <;> omega
    | arr r => exact if_neg fun h => by have := h.2; omega
    | _ => rfl
  rw [this]; exact tallyAt_zero _ _

/-! What a device still owes lies above the cell it waits on. -/

theorem lev_start (c : Dev nD) (y) (h : 0 < rem c 0 0 0 0 y) : 0 < levK y.2 := by
  obtain ⟨y, k⟩ := y; cases k <;> first | exact absurd h (Nat.lt_irrefl 0) | (unfold levK; dsimp only; omega)
theorem lev_bar (c : Dev nD) (y) (h : 0 < rem c 32 0 0 0 y) : 1 < levK y.2 := by
  obtain ⟨y, k⟩ := y
  have hy : (y : ℕ) < 32 := y.isLt
  cases k with
  | bar => unfold rem at h; dsimp only at h; rw [if_neg (by omega)] at h; exact absurd h (Nat.lt_irrefl 0)
  | rcv kv s => exact Nat.lt_succ_self 1
  | arr r => unfold levK; dsimp only; omega
  | _ => exact absurd h (Nat.lt_irrefl 0)
theorem lev_rcv (c : Dev nD) (nA : ℕ) (y) (h : 0 < rem c 32 32 32 nA y) : 2 + nA < levK y.2 := by
  obtain ⟨y, k⟩ := y
  have hy : (y : ℕ) < 32 := y.isLt
  cases k with
  | bar => unfold rem at h; dsimp only at h; rw [if_neg (by omega)] at h; exact absurd h (Nat.lt_irrefl 0)
  | rcv kv s =>
    unfold rem at h; dsimp only at h
    rw [if_neg (fun h => by have := h.2.2.2; cases kv <;> simp at this <;> omega)] at h; exact absurd h (Nat.lt_irrefl 0)
  | arr r =>
    unfold rem at h; dsimp only at h
    have : nA ≤ (r : ℕ) := by by_contra hn; rw [if_neg (fun h => hn h.2)] at h; exact absurd h (Nat.lt_irrefl 0)
    unfold levK; dsimp only; omega
  | _ => exact absurd h (Nat.lt_irrefl 0)

end Cert.KP

end
-- ==== Proof.K.Steps.lean ====
/-
One step of a device's program at a time: what each effect needs and leaves, each as an entailment with the rest of the
state carried along.
-/
module

public import proofs.«01_k».proof.Proof.K.Sched

@[expose] public section

set_option maxRecDepth 10000

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

abbrev 𝒱₀ : Variants := Variants.none

/-- The weakest precondition of device `c`'s TensorCore program. -/
@[irreducible] def WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem WP_eq (c : Dev nD) {α : Type} (p : Prog (TpuEff nD τ sig (Elt F) Λ₀ .tc) α) (Q : α → sProp 𝕄) :
    WP c p Q = wp frame (wpE (defs₀ (F := F)) 𝒱₀ (c : Thread nD τ) none) Set.univ p Q := by unfold WP; rfl

theorem WP_bind (c : Dev nD) {α β : Type} (p : Prog (TpuEff nD τ sig (Elt F) Λ₀ .tc) α) (k : α → Prog (TpuEff nD τ sig (Elt F) Λ₀ .tc) β)
    (Q : β → sProp 𝕄) : WP c (p.bind k) Q = WP c p (fun x => WP c (k x) Q) := by
  simp only [WP_eq]; exact wp_bind _ _ _ p k Q

theorem WP_mono (c : Dev nD) {α : Type} (p : Prog (TpuEff nD τ sig (Elt F) Λ₀ .tc) α) {Q Q' : α → sProp 𝕄}
    (h : ∀ x, Q x ⊢ Q' x) : WP c p Q ⊢ WP c p Q' := by
  simp only [WP_eq]; exact wp_mono _ _ _ h

theorem WP_ret (c : Dev nD) {α : Type} (x : α) {P : sProp 𝕄} {Q : α → sProp 𝕄} (h : P ⊢ Q x) : P ⊢ WP c (.ret x) Q := by
  rw [WP_eq, wp_ret]; exact h.trans (fupd_intro (PROP := sProp 𝕄))

/-- The persistent record: every cell's invariant, that its one round is reached, and the levels. -/
def Prs : sProp 𝕄 :=
  iprop((bigSep Finset.univ fun x : Dev nD × CK => iprop(cellInv ER (Rd m) (K x) (kcell x) ∗ reached ER (kcell x) 0)) ∗ levAts L lv)

instance Prs_persistent : BI.Persistent (Prs (F := F) m K) := by unfold Prs; infer_instance

theorem Prs_cell (c : Dev nD) (k : CK) :
    (Prs (F := F) m K : sProp 𝕄) ⊢ iprop(cellInv ER (Rd m) (K (c, k)) (cell c k) ∗ reached ER (cell c k) 0) := by
  unfold Prs
  iintro ⟨H, -⟩
  ihave H' := (show bigSep Finset.univ (fun x : Dev nD × CK => iprop(cellInv ER (Rd (F := F) m) (K x) (kcell x) ∗ reached ER (kcell x) 0)) ⊢ iprop(cellInv ER (Rd m) (K (c, k)) (cell c k) ∗ reached ER (cell c k) 0) from bigSep_elim (Finset.mem_univ ((c, k) : Dev nD × CK))) $$ H
  iexact H'
theorem Prs_mayWait (c : Dev nD) (kS : CK) (f : Dev nD × CK → ℕ) (hf : ∀ y, 0 < f y → levK kS < levK y.2) :
    (Prs (F := F) m K : sProp 𝕄) ⊢ MayWait (c : Thread nD τ) (csem kS) () (OW f) := by
  unfold Prs
  iintro ⟨-, H⟩
  iapply (mayWait_of c (csem kS) (levK kS) (le_of_eq (lv_cell c kS)) f hf)
  iexact H

/-- What device `c` owes, the waits it recorded left open. -/
def owe (c : Dev nD) (f : Dev nD × CK → ℕ) : sProp 𝕄 := iprop(∃ W, owes (c : Thread nD τ) (OW f) W)
theorem owe_intro (c : Dev nD) (f) (W) : (owes (c : Thread nD τ) (OW f) W : sProp 𝕄) ⊢ owe c f := by
  unfold owe; iintro H; iexists W; iexact H

section
variable {c : Dev nD} {α : Type}

/-! ## Loads and stores -/

theorem ow_unfold (c : Dev nD) {sp : Space} {sh : Shape} {e : EltTy} (M : Memref sig .tc sp sh e) (X : sh.Idx → Elt F e) :
    (ow c M X : sProp 𝕄) = iprop(∃ f, ⌜M.view.read (Elt F) f = X⌝ ∗ M.view.loc (c : Thread nD τ) ↦[M.view.set]{fullShare} f) := rfl

theorem load_step {Q : α → sProp 𝕄} {R : sProp 𝕄} {cs : CoreSpace} {s : Shape} {e : EltTy} {M : Memref sig .tc cs s e} {r : LoadRect s} {hl : M.view.LoadsAt r}
    {k : (r.shape.Idx → Elt F e) → Prog (TpuEff nD τ sig (Elt F) Λ₀ .tc) α} {X : s.Idx → Elt F e}
    (h : iprop(ow c M X ∗ R) ⊢ WP c (k fun j => X (r.idx j)) Q) :
    iprop(ow c M X ∗ R) ⊢ WP c (.op (.load M r hl) k) Q := by
  rw [ow_unfold]
  iintro ⟨⟨%f, %hf, H⟩, HR⟩
  rw [WP_eq]
  iapply (wp_load 𝒱₀ (c : Thread nD τ) none Set.univ (m := M) (S := M.view.set) (q := fullShare) (f := f) (Finset.map_subset_map.mpr (Finset.subset_univ _))) $$ H
  iintro H
  have hv : M.view.readAt (Elt F) r f = fun j => X (r.idx j) := by rw [← hf]; rfl
  rw [hv]
  rw [← WP_eq]
  iapply h
  isplitl [H]
  · rw [ow_unfold]; iexists f; isplitr
    · ipureintro; exact hf
    iexact H
  iexact HR

theorem read_store {cs : CoreSpace} {s : Shape} {e : EltTy} (M : Memref sig .tc cs s e) (r : Rect s) (w : r.shape.Idx → Elt F e)
    (f : M.view.ty.Contents (Elt F)) :
    M.view.read (Elt F) ((M.access r).write (Elt F) f w Finset.univ) = r.overlay (M.view.read (Elt F) f) w := by
  funext y
  by_cases hy : y ∈ r.set
  · obtain ⟨x, rfl⟩ : ∃ x, r.emb x = y := by
      rw [← Rect.map_emb_univ] at hy
      obtain ⟨x, -, hx⟩ := Finset.mem_map.mp hy
      exact ⟨x, hx⟩
    rw [Rect.overlay_emb]
    exact View.read_slice_write_emb r f w (Finset.mem_univ x)
  · rw [Rect.overlay_of_not_mem _ _ _ hy]
    exact View.read_slice_write_of_not_mem r f w Finset.univ (by rw [Rect.map_emb_univ]; exact hy)

theorem store_step {Q : α → sProp 𝕄} {R : sProp 𝕄} {cs : CoreSpace} {s : Shape} {e : EltTy} {M : Memref sig .tc cs s e} {r : Rect s} {w : r.shape.Idx → Elt F e}
    {hx : (M.access r).Stores Finset.univ} {hm}
    {k : PUnit → Prog (TpuEff nD τ sig (Elt F) Λ₀ .tc) α} {X : s.Idx → Elt F e}
    (h : iprop(ow c M (r.overlay X w) ∗ R) ⊢ WP c (k ⟨⟩) Q) :
    iprop(ow c M X ∗ R) ⊢ WP c (.op (.store M r w Finset.univ hx hm) k) Q := by
  rw [ow_unfold]
  iintro ⟨⟨%f, %hf, H⟩, HR⟩
  rw [WP_eq]
  iapply (wp_store 𝒱₀ (c : Thread nD τ) none Set.univ (m := M) (r := r) (Mk := Finset.univ) (S := M.view.set) (f := f) (View.set_slice_subset M.view r)) $$ H
  iintro H
  rw [← WP_eq]
  iapply h
  isplitl [H]
  · rw [ow_unfold]; iexists ((M.access r).write (Elt F) f w Finset.univ); isplitr
    · ipureintro; rw [← hf]; exact read_store M r w f
    iexact H
  iexact HR

/-! ## Signals, transfers, waits -/

theorem signal_step {Q : α → sProp 𝕄} {R : sProp 𝕄} (d n : Dev nD) (hn : n = d) {sem : Sem sig} (hs : sem = barS) {k' : ℕ} (hk : k' = 1)
    {k : PUnit → Prog (TpuEff nD τ sig (Elt F) Λ₀ .tc) α}
    {f f' : Dev nD × CK → ℕ} (hO : OW f = OW f' + tallyAt (cell d .bar) () 1)
    (h : iprop(Prs m K ∗ owe c f' ∗ R) ⊢ WP c (k ⟨⟩) Q) :
    iprop(Prs m K ∗ owe c f ∗ dutyTok ER (cell d .bar) 0 c ∗ barPay d c ∗ R)
      ⊢ WP c (.op (.semSignal (n : Thread nD τ) sem k') k) Q := by
  subst hn; subst hs; subst hk
  unfold owe
  iintro ⟨#HI, ⟨%W, HO⟩, Ht, Hp, HR⟩
  ihave Hc := (Prs_cell (F := F) m K n .bar) $$ HI
  icases Hc with ⟨#Hc, #Hr⟩
  rw [WP_eq]
  iapply (Rounds.wp_signal 𝒱₀ ER (Rd m) (c : Thread nD τ) none (dst := (n : Thread nD τ)) (sem := barS) (κ := K (n, .bar)) (r := 0)
      (d := c) (by rw [show ((n : Thread nD τ), SemLoc.reg barS) = cell n .bar from rfl, duties_cell]; exact Finset.mem_univ _)
      (amount_cell m n .bar 0 c) () (OW f') hO) $$ [HO Ht Hp]
  · isplitr; · iexact Hc
    isplitl [HO]; · iexact HO
    isplitl [Ht]; · iexact Ht
    isplitl [Hp]
    · rw [show ((n : Thread nD τ), SemLoc.reg barS) = cell n .bar from rfl, payload_cell, show pay m n .bar c = barPay n c from rfl]; iexact Hp
    iexact Hr
  iintro HO
  rw [← WP_eq]
  iapply h
  isplitr; · iexact HI
  isplitl [HO]; · iapply (owe_intro c _ W); iexact HO
  iexact HR

theorem send_step {Q : α → sProp 𝕄} {R : sProp 𝕄} (d n : Dev nD) (hn : n = d) (kS kR : CK) {sp sp' : Space} {s : Shape} {e : EltTy}
    {src : Memref sig .tc sp s e} {dst : Memref sig .tc sp' s e} {sS sem : SemLoc sig} (hS : sS = csem kS) (hR : sem = csem kR)
    {hsc : (dst : Memref sig (Dev.tc n : Thread nD τ).2.kind sp' s e).view.ref.isScScratch = false}
    {hsrc : src.view.WordExact} {hdst : dst.view.WordExact}
    {hsem : DmaTarget.Typed sp sem (.remote (Dev.tc n : Thread nD τ) dst sS hsc)}
    (a : ℕ) (hN : dst.view.amount (csem kR) = a) (ha₁ : amt kS = a) (ha₂ : amt kR = a) (hd₁ : c ∈ dut c kS) (hd₂ : c ∈ dut d kR)
    (X : s.Idx → Elt F e) (hp₁ : pay m c kS c = ow c src X) (hp₂ : pay m d kR c = ow d dst X)
    {k : PUnit → Prog (TpuEff nD τ sig (Elt F) Λ₀ .tc) α}
    {f f' : Dev nD × CK → ℕ} (hO : OW f = OW f' + tallyAt (cell d kR) () a)
    (h : iprop(Prs m K ∗ cred (tallyAt (cell c kS) () a) ∗ owe c f' ∗ R) ⊢ WP c (k ⟨⟩) Q) :
    iprop(Prs m K ∗ owe c f ∗ dutyTok ER (cell c kS) 0 c ∗ dutyTok ER (cell d kR) 0 c ∗ ow c src X ∗ owX d dst ∗ R)
      ⊢ WP c (.op (.enqueueDma src (.remote (Dev.tc n : Thread nD τ) dst sS hsc) sem hsrc hdst hsem) k) Q := by
  subst hn; subst hS; subst hR
  unfold owe owX
  simp only [ow_unfold]
  iintro ⟨#HI, ⟨%W, HO⟩, Ht1, Ht2, ⟨%fs, %hfs, Hs⟩, ⟨%X', %fd, %hfd, Hd⟩, HR⟩
  ihave Hc1 := (Prs_cell (F := F) m K c kS) $$ HI
  icases Hc1 with ⟨#Hc1, #Hr1⟩
  ihave Hc2 := (Prs_cell (F := F) m K n kR) $$ HI
  icases Hc2 with ⟨#Hc2, #Hr2⟩
  rw [WP_eq]
  iapply (Rounds.wp_send_pointsTo 𝒱₀ ER (Rd m) (c : Thread nD τ) none (κ₁ := K (c, kS)) (κ₂ := K (n, kR))
      (r₁ := 0) (r₂ := 0) (d₁ := c) (d₂ := c) (fd := fd) (fs := fs) (q := fullShare)
      (by rw [duties_cell]; exact hd₁) (by rw [duties_cell]; exact hd₂)
      () () a hN ((amount_cell m c kS 0 c).trans ha₁) ((amount_cell m n kR 0 c).trans ha₂) (OW f') hO (W := W)
      (by
        rw [payload_cell, hp₁, ow_unfold]
        iintro H; iexists fs; isplitr
        · ipureintro; exact hfs
        iexact H)
      (by
        rw [payload_cell, hp₂, ow_unfold]
        iintro H; iexists (dst.view.write (Elt F) fd (src.view.read (Elt F) fs) Finset.univ); isplitr
        · ipureintro; rw [View.read_write_univ]; exact hfs
        iexact H)) $$ [HO Ht1 Ht2 Hs Hd]
  · isplitr; · iexact Hc1
    isplitr; · iexact Hc2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcr, HO⟩
  rw [← WP_eq]
  iapply h
  isplitr; · iexact HI
  isplitl [Hcr]; · iexact Hcr
  isplitl [HO]; · iapply (owe_intro c _ W); iexact HO
  iexact HR

theorem copy_step {Q : α → sProp 𝕄} {R : sProp 𝕄} (kS : CK) {sp sp' : Space} {s : Shape} {e : EltTy}
    {src : Memref sig .tc sp s e} {dst : Memref sig .tc sp' s e} {sem : SemLoc sig} (hR : sem = csem kS)
    {hsrc : src.view.WordExact} {hdst : dst.view.WordExact} {hsem : DmaTarget.Typed (nD := nD) sp sem (DmaTarget.here (p := Proc.tc) dst)}
    (a : ℕ) (hN : dst.view.amount (csem kS) = a) (ha₁ : amt kS = a) (hd₁ : c ∈ dut c kS)
    (X : s.Idx → Elt F e) (hp₁ : pay m c kS c = iprop(ow c dst X ∗ ow c src X))
    {k : PUnit → Prog (TpuEff nD τ sig (Elt F) Λ₀ .tc) α}
    (h : iprop(Prs m K ∗ cred (tallyAt (cell c kS) () a) ∗ R) ⊢ WP c (k ⟨⟩) Q) :
    iprop(Prs m K ∗ dutyTok ER (cell c kS) 0 c ∗ ow c src X ∗ owX c dst ∗ R)
      ⊢ WP c (.op (.enqueueDma src (.here dst) sem hsrc hdst hsem) k) Q := by
  subst hR
  unfold owX
  simp only [ow_unfold]
  iintro ⟨#HI, Ht1, ⟨%fs, %hfs, Hs⟩, ⟨%X', %fd, %hfd, Hd⟩, HR⟩
  ihave Hc1 := (Prs_cell (F := F) m K c kS) $$ HI
  icases Hc1 with ⟨#Hc1, #Hr1⟩
  rw [WP_eq]
  iapply (Rounds.wp_copy_pointsTo 𝒱₀ ER (Rd m) (c : Thread nD τ) none (κ := K (c, kS))
      (r := 0) (d := c) (fd := fd) (fs := fs) (q := fullShare)
      (by rw [duties_cell]; exact hd₁) () a hN ((amount_cell m c kS 0 c).trans ha₁)
      (by
        rw [payload_cell, hp₁, ow_unfold, ow_unfold]
        iintro ⟨H1, H2⟩
        isplitl [H1]
        · iexists (dst.view.write (Elt F) fd (src.view.read (Elt F) fs) Finset.univ); isplitr
          · ipureintro; rw [View.read_write_univ]; exact hfs
          iexact H1
        · iexists fs; isplitr
          · ipureintro; exact hfs
          iexact H2)) $$ [Ht1 Hs Hd]
  · isplitr; · iexact Hc1
    isplitl [Hs]; · iexact Hs
    isplitl [Hd]; · iexact Hd
    isplitl [Ht1]; · iexact Ht1
    iexact Hr1
  iintro Hcr
  rw [← WP_eq]
  iapply h
  isplitr; · iexact HI
  isplitl [Hcr]; · iexact Hcr
  iexact HR

/-- A wait for a cell's whole round, and the cell closed: its counter is zero for good. -/
theorem wait_step {Q : α → sProp 𝕄} {R : sProp 𝕄} (kS : CK) {w : TpuEff nD τ sig (Elt F) Λ₀ .tc PUnit} (a : ℕ)
    (hw : ∀ K : PUnit → sProp 𝕄, wpE (defs₀ (F := F)) 𝒱₀ (c : Thread nD τ) none Set.univ w K = waitSpec (c : Thread nD τ) Set.univ (csem kS) a K)
    (ha : (dut c kS).card * amt kS = a) {f : Dev nD × CK → ℕ} (hf : ∀ y, 0 < f y → levK kS < levK y.2)
    {k : PUnit → Prog (TpuEff nD τ sig (Elt F) Λ₀ .tc) α}
    (h : iprop(Prs m K ∗ semVal (cell c kS) 0 ∗ owe c f ∗ (bigSep (dut c kS) fun d => pay m c kS d) ∗ R) ⊢ WP c (k ⟨⟩) Q) :
    iprop(Prs m K ∗ owe c f ∗ atPos ER (cell c kS) 0 ∅ 0 ∗ cred (tallyAt (cell c kS) () a) ∗ R) ⊢ WP c (.op w k) Q := by
  unfold owe
  iintro ⟨#HI, ⟨%W, HO⟩, Hat, Hcr, HR⟩
  ihave Hc1 := (Prs_cell (F := F) m K c kS) $$ HI
  icases Hc1 with ⟨#Hc1, #Hr1⟩
  rw [WP_eq]
  iapply (Rounds.wp_wait_rest_token 𝒱₀ ER (Rd m) (c : Thread nD τ) none (κ := K (c, kS)) hw (Set.mem_univ _) () (O := OW f) (W := W) (R := 0) (m := 0) (T := ∅)
      (by rw [expect_cell, ha, Nat.zero_add])) $$ [Hcr HO Hat]
  · isplitr; · iexact Hc1
    isplitl [Hcr]; · iexact Hcr
    isplitl [HO]; · iexact HO
    isplitr
    · iapply (Prs_mayWait (F := F) m K c kS f hf); iexact HI
    iexact Hat
  iintro ⟨HO, Hat, -, Hpay⟩
  ihave Hp := (Entails.of_eq (rest_cell m c kS)) $$ Hpay
  imod (Rounds.cell_close ER (Rd m) (Set.mem_univ (K (c, kS))) (fun h => h) (R := 0 + 1) (duties_later m (cell c kS))) $$ [Hat] with Hz
  · isplitr; · iexact Hc1
    iexact Hat
  rw [← WP_eq]
  iapply h
  isplitr; · iexact HI
  isplitl [Hz]; · iexact Hz
  isplitl [HO]; · iapply owe_intro; iexact HO
  isplitl [Hp]; · iexact Hp
  iexact HR

/-- A cell nobody pays into closes at once. -/
theorem close_cell (kS : CK) (hd : dut c kS = ∅) :
    iprop(Prs m K ∗ atPos ER (cell c kS) 0 ∅ 0) ⊢ (iprop(|={Set.univ}=> semVal (cell c kS) 0) : sProp 𝕄) := by
  iintro ⟨#HI, Hat⟩
  ihave Hc1 := (Prs_cell (F := F) m K c kS) $$ HI
  icases Hc1 with ⟨#Hc1, #Hr1⟩
  iapply (Rounds.cell_close ER (Rd m) (Set.mem_univ (K (c, kS))) (fun h => h) (R := 0) (duties_empty m c kS hd))
  isplitr; · iexact Hc1
  iexact Hat

/-- An update before the program goes on. -/
theorem fupd_step {Q : α → sProp 𝕄} {P P' : sProp 𝕄} (hP : P ⊢ iprop(|={Set.univ}=> P')) {p : Prog (TpuEff nD τ sig (Elt F) Λ₀ .tc) α} (h : P' ⊢ WP c p Q) :
    P ⊢ WP c p Q := by
  have h := h.trans (Entails.of_eq (WP_eq c p Q))
  rw [WP_eq]
  exact (hP.trans (fupd_mono h)).trans (fupd_wp _ _ _ p Q)

end

end Cert.KP

end
-- ==== Proof.K.Geom.lean ====
/-
Where the chunks, the column groups and the slots lie, ownership of a whole array as ownership of its parts, and
families of assertions of which one step changes some members.
-/
module

public import proofs.«01_k».proof.Proof.K.Steps
public import Idealize.ShloMosaic.Lib.ValueLayout
public import Idealize.ShloMosaic.Lib.Pointwise.Reshape

@[expose] public section

set_option maxRecDepth 10000

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## Families -/

/-- A family of which the members of `T` are to be changed: they come out, and the family is whole again once the
    changed ones are put back. -/
theorem fam_step {I : Type} [Fintype I] [DecidableEq I] {f g : I → sProp 𝕄} (T : Finset I) (h : ∀ d, d ∉ T → f d = g d) :
    bigSep Finset.univ f ⊢ iprop(bigSep T f ∗ (bigSep T g -∗ bigSep Finset.univ g)) := by
  have e1 : bigSep Finset.univ f = iprop(bigSep T f ∗ bigSep (Finset.univ \ T) f) := bigSep_sdiff_split (Finset.subset_univ T)
  have e2 : bigSep Finset.univ g = iprop(bigSep T g ∗ bigSep (Finset.univ \ T) g) := bigSep_sdiff_split (Finset.subset_univ T)
  have e3 : bigSep (Finset.univ \ T) f = bigSep (Finset.univ \ T) g := bigSep_congr fun d hd => h d (Finset.mem_sdiff.mp hd).2
  rw [e1, e2, e3]
  iintro ⟨H1, H2⟩
  isplitl [H1]; · iexact H1
  iintro H
  isplitl [H]; · iexact H
  iexact H2

theorem fam_step1 {I : Type} [Fintype I] [DecidableEq I] {f g : I → sProp 𝕄} (i : I) (h : ∀ d, d ≠ i → f d = g d) :
    bigSep Finset.univ f ⊢ iprop(f i ∗ (g i -∗ bigSep Finset.univ g)) := by
  have := fam_step (F := F) (f := f) (g := g) {i} (fun d hd => h d (by simpa using hd))
  rwa [show bigSep {i} f = f i from bigSep_singleton .., show bigSep {i} g = g i from bigSep_singleton ..] at this

/-! ## Squeezed memrefs -/

theorem ow_squeeze (c : Dev nD) {sp : Space} {s s' : Shape} {e : EltTy} (M : Memref sig .tc sp s e) (h : s.Squeezes s') (X : s'.Idx → Elt F e) :
    (ow c (M.squeeze s' h) X : sProp 𝕄) ⊢ ow c M (fun i => X ((Shape.reshapeEquiv h.numel_eq).symm i)) := by
  rw [ow_unfold, ow_unfold]
  iintro ⟨%f, %hf, H⟩
  iexists f
  isplitr
  · ipureintro; subst hf; funext i
    show M.view.read (Elt F) f i = M.view.read (Elt F) f (Shape.reshapeEquiv h.numel_eq ((Shape.reshapeEquiv h.numel_eq).symm i))
    rw [Equiv.apply_symm_apply]
  rw [show (M.squeeze s' h).view.set = M.view.set from View.set_reshape _ _]
  iexact H

theorem ow_unsqueeze (c : Dev nD) {sp : Space} {s s' : Shape} {e : EltTy} (M : Memref sig .tc sp s e) (h : s.Squeezes s') (X : s.Idx → Elt F e) :
    (ow c M X : sProp 𝕄) ⊢ ow c (M.squeeze s' h) (fun j => X (Shape.reshapeEquiv h.numel_eq j)) := by
  rw [ow_unfold, ow_unfold]
  iintro ⟨%f, %hf, H⟩
  iexists f
  isplitr
  · ipureintro; subst hf; rfl
  rw [show (M.squeeze s' h).view.set = M.view.set from View.set_reshape _ _]
  iexact H

/-! ## The parts of the arrays -/

theorem mem_chunk (d : Dev nD) (i : S2x128x8192.Idx) : i ∈ (chunkR d).set ↔ 256 * (d : ℕ) ≤ (i 2 : ℕ) ∧ (i 2 : ℕ) < 256 * (d : ℕ) + 256 := by
  rw [Rect.mem_set_unit]
  constructor
  · intro h; exact h 2
  · intro h a
    match a with
    | ⟨0, _⟩ => exact ⟨Nat.zero_le _, lt_of_lt_of_eq (i 0).isLt (Nat.zero_add _).symm⟩
    | ⟨1, _⟩ => exact ⟨Nat.zero_le _, lt_of_lt_of_eq (i 1).isLt (Nat.zero_add _).symm⟩
    | ⟨2, _⟩ => exact h

theorem mem_group (j : Fin 8) (i : S2x128x8192.Idx) : i ∈ (groupR j).set ↔ 1024 * (j : ℕ) ≤ (i 2 : ℕ) ∧ (i 2 : ℕ) < 1024 * (j : ℕ) + 1024 := by
  rw [Rect.mem_set_unit]
  constructor
  · intro h; exact h 2
  · intro h a
    match a with
    | ⟨0, _⟩ => exact ⟨Nat.zero_le _, lt_of_lt_of_eq (i 0).isLt (Nat.zero_add _).symm⟩
    | ⟨1, _⟩ => exact ⟨Nat.zero_le _, lt_of_lt_of_eq (i 1).isLt (Nat.zero_add _).symm⟩
    | ⟨2, _⟩ => exact h

theorem mem_slot (s : Fin 16) (i : S16x2x128x256.Idx) : i ∈ (slotR s).set ↔ (i 0 : ℕ) = s := by
  rw [Rect.mem_set_unit]
  constructor
  · intro h; have h0 := h 0
    have h1 : (s : ℕ) ≤ (i 0 : ℕ) := h0.1
    have h2 : (i 0 : ℕ) < (s : ℕ) + 1 := h0.2
    omega
  · intro h a
    match a with
    | ⟨0, _⟩ => exact ⟨le_of_eq h.symm, by show (i 0 : ℕ) < (s : ℕ) + 1; omega⟩
    | ⟨1, _⟩ => exact ⟨Nat.zero_le _, lt_of_lt_of_eq (i 1).isLt (Nat.zero_add _).symm⟩
    | ⟨2, _⟩ => exact ⟨Nat.zero_le _, lt_of_lt_of_eq (i 2).isLt (Nat.zero_add _).symm⟩
    | ⟨3, _⟩ => exact ⟨Nat.zero_le _, lt_of_lt_of_eq (i 3).isLt (Nat.zero_add _).symm⟩

theorem mem_ar (s : Fin 5) (i : S5x256x512.Idx) : i ∈ (arR s).set ↔ (i 0 : ℕ) = s := by
  rw [Rect.mem_set_unit]
  constructor
  · intro h; have h0 := h 0
    have h1 : (s : ℕ) ≤ (i 0 : ℕ) := h0.1
    have h2 : (i 0 : ℕ) < (s : ℕ) + 1 := h0.2
    omega
  · intro h a
    match a with
    | ⟨0, _⟩ => exact ⟨le_of_eq h.symm, by show (i 0 : ℕ) < (s : ℕ) + 1; omega⟩
    | ⟨1, _⟩ => exact ⟨Nat.zero_le _, lt_of_lt_of_eq (i 1).isLt (Nat.zero_add _).symm⟩
    | ⟨2, _⟩ => exact ⟨Nat.zero_le _, lt_of_lt_of_eq (i 2).isLt (Nat.zero_add _).symm⟩

theorem chunk_disj (d d' : Dev nD) (h : d ≠ d') : Disjoint (chunkR d).set (chunkR d').set :=
  Finset.disjoint_left.mpr fun i h1 h2 => h (Fin.ext (by have h1 := (mem_chunk d i).mp h1; have h2 := (mem_chunk d' i).mp h2; omega))
theorem chunk_cov : (Finset.univ : Finset (Dev nD)).biUnion (fun d => (chunkR d).set) = Finset.univ := by
  ext i
  simp only [Finset.mem_biUnion, Finset.mem_univ, true_and, iff_true]
  have hi : (i 2 : ℕ) < 8192 := (i 2).isLt
  exact ⟨⟨(i 2 : ℕ) / 256, by show (i 2 : ℕ) / 256 < 32; omega⟩, (mem_chunk _ i).mpr ⟨by dsimp only; omega, by dsimp only; omega⟩⟩
theorem slot_disj (d d' : Fin 16) (h : d ≠ d') : Disjoint (slotR d).set (slotR d').set :=
  Finset.disjoint_left.mpr fun i h1 h2 => h (Fin.ext (by have h1 := (mem_slot d i).mp h1; have h2 := (mem_slot d' i).mp h2; omega))
theorem slot_cov : (Finset.univ : Finset (Fin 16)).biUnion (fun d => (slotR d).set) = Finset.univ := by
  ext i
  simp only [Finset.mem_biUnion, Finset.mem_univ, true_and, iff_true]
  exact ⟨i 0, (mem_slot _ i).mpr rfl⟩
theorem ar_disj (d d' : Fin 5) (h : d ≠ d') : Disjoint (arR d).set (arR d').set :=
  Finset.disjoint_left.mpr fun i h1 h2 => h (Fin.ext (by have h1 := (mem_ar d i).mp h1; have h2 := (mem_ar d' i).mp h2; omega))
theorem ar_cov : (Finset.univ : Finset (Fin 5)).biUnion (fun d => (arR d).set) = Finset.univ := by
  ext i
  simp only [Finset.mem_biUnion, Finset.mem_univ, true_and, iff_true]
  exact ⟨i 0, (mem_ar _ i).mpr rfl⟩

/-! ## The band as its chunks -/

/-- Some contents for every part of the band are some contents of the band. -/
theorem chunks_pick (kv : Bool) (X : Dev nD → S2x128x256.Idx → Elt F .bf16) :
    ∃ Y : S2x128x8192.Idx → Elt F .bf16, ∀ d j, Y ((chunkR d).emb j) = X d j := by
  refine ⟨fun i => X ⟨(i 2 : ℕ) / 256, by have hi : (i 2 : ℕ) < 8192 := (i 2).isLt; show (i 2 : ℕ) / 256 < 32; omega⟩
    (ValueIdx.ix3 (n0 := 2) (n1 := 128) (n2 := 256) (i 0) (i 1) ⟨(i 2 : ℕ) % 256, Nat.mod_lt _ (by decide)⟩), fun d j => ?_⟩
  have h2 : (((chunkR d).emb j) 2 : ℕ) = 256 * d + 1 * (j 2 : ℕ) := rfl
  have hj : (j 2 : ℕ) < 256 := (j 2).isLt
  refine congrArg₂ X ?_ ?_
  · exact Fin.ext (by show (((chunkR d).emb j) 2 : ℕ) / 256 = d; rw [h2]; omega)
  · funext a
    match a with
    | ⟨0, _⟩ => exact Fin.ext (by show 0 + 1 * (j 0 : ℕ) = j 0; omega)
    | ⟨1, _⟩ => exact Fin.ext (by show 0 + 1 * (j 1 : ℕ) = j 1; omega)
    | ⟨2, _⟩ => exact Fin.ext (by show (((chunkR d).emb j) 2 : ℕ) % 256 = j 2; rw [h2]; omega)

theorem band_chunks (c : Dev nD) (kv : Bool) :
    (owX c (bM kv) : sProp 𝕄) ⊢ bigSep Finset.univ fun d => owX c (chunkM kv d) := by
  have h : ∀ X, (ow c (bM kv) X : sProp 𝕄) ⊢ bigSep Finset.univ fun d => owX c (chunkM kv d) := fun X =>
    (owns_rects (c : Thread nD τ) (bM kv) fullShare chunkR (fun _ _ => rfl) chunk_disj chunk_cov X).trans
      (bigSep_mono fun d _ => ow_owX c (chunkM kv d) _)
  unfold owX
  unfold owX at h
  iintro ⟨%X, H⟩
  iapply (h X) $$ H

/-- Chunks held at some contents each, for a set of them: the points-to of their union at some buffer contents. -/
theorem chunks_raw (c : Dev nD) (kv : Bool) (T : Finset (Dev nD)) :
    (bigSep T fun d => (owX c (chunkM kv d) : sProp 𝕄))
      ⊢ iprop(∃ g, (bM kv).view.loc (c : Thread nD τ) ↦[T.biUnion fun d => ((bM kv).view.slice (chunkR d)).set]{fullShare} g) := by
  unfold owX
  haveI : ∀ e, Nonempty (Elt F e) := fun e => inferInstance
  refine (bigSep_exists_pi T (fun d (X : S2x128x256.Idx → Elt F .bf16) => ow c (chunkM kv d) X)).trans ?_
  iintro ⟨%X, H⟩
  obtain ⟨Y, hY⟩ := chunks_pick kv X
  have e : ∀ d, X d = fun j => Y ((chunkR d).emb j) := fun d => funext fun j => (hY d j).symm
  have h := (Entails.of_eq (bigSep_congr (s := T) (fun d _ => congrArg _ (e d) : ∀ d ∈ T, ow (F := F) c (chunkM kv d) (X d) = ow c (chunkM kv d) fun j => Y ((chunkR d).emb j)))).trans
    (owns_rects_join (c : Thread nD τ) (bM kv) fullShare chunkR (fun _ _ => rfl) chunk_disj Y T)
  ihave H' := h $$ H
  icases H' with ⟨%g, -, H⟩
  iexists g
  iexact H

theorem chunks_band (c : Dev nD) (kv : Bool) :
    (bigSep Finset.univ fun d => (owX c (chunkM kv d) : sProp 𝕄)) ⊢ owX c (bM kv) := by
  refine (chunks_raw c kv Finset.univ).trans ?_
  have hset : (bM kv).view.set = (Finset.univ : Finset (Dev nD)).biUnion fun t => ((bM kv).view.slice (chunkR t)).set := by
    ext i; constructor
    · intro hi
      obtain ⟨x, -, rfl⟩ := Finset.mem_map.mp hi
      obtain ⟨t, -, hx⟩ := Finset.mem_biUnion.mp (chunk_cov.symm ▸ Finset.mem_univ x)
      exact Finset.mem_biUnion.mpr ⟨t, Finset.mem_univ _, by rw [View.set_slice]; exact Finset.mem_map_of_mem _ hx⟩
    · intro hi
      obtain ⟨t, -, hi⟩ := Finset.mem_biUnion.mp hi
      exact View.set_slice_subset _ _ hi
  rw [← hset]
  unfold owX
  iintro ⟨%g, H⟩
  iexists (bM kv).view.read (Elt F) g
  iapply (owns_intro (c : Thread nD τ) (bM kv) fullShare g) $$ H

/-- Overlaying a part of `Y` gives `Y` there. -/
theorem overlay_part {s : Shape} {α : Type} (r : Rect s) (X Y : s.Idx → α) (i : s.Idx) (hi : i ∈ r.set) :
    r.overlay X (fun j => Y (r.emb j)) i = Y i := by
  obtain ⟨j, rfl⟩ := r.exists_idx_of_mem hi
  exact Rect.overlay_emb ..

/-- The chunks of a column group. -/
def grp (j : Fin 8) : Finset (Dev nD) := Finset.univ.filter fun d => (d : ℕ) / 4 = j

theorem group_sub (j : Fin 8) (kv : Bool) :
    ((bM kv).view.slice (groupR j)).set ⊆ (grp j).biUnion fun d => ((bM kv).view.slice (chunkR d)).set := by
  intro i hi
  rw [View.set_slice] at hi
  obtain ⟨x, hx, rfl⟩ := Finset.mem_map.mp hi
  have hx := (mem_group j x).mp hx
  have hj := j.isLt
  refine Finset.mem_biUnion.mpr ⟨⟨(x 2 : ℕ) / 256, by show (x 2 : ℕ) / 256 < 32; omega⟩, ?_, ?_⟩
  · exact Finset.mem_filter.mpr ⟨Finset.mem_univ _, by dsimp only; omega⟩
  · rw [View.set_slice]; exact Finset.mem_map_of_mem _ ((mem_chunk _ x).mpr ⟨by dsimp only; omega, by dsimp only; omega⟩)

/-- Staging one column group: the old contents read, the new ones stored, and each chunk of the group then holds its part. -/
theorem group_step {c : Dev nD} {α : Type} {Q : α → sProp 𝕄} {R : sProp 𝕄} (kv : Bool) (j : Fin 8) {hl} {hx} {hm}
    {w : (S2x128x1024.Idx → Elt F .bf16) → (S2x128x1024.Idx → Elt F .bf16)} (hw : ∀ x, w x = fun i => xkv m kv c ((groupR j).emb i))
    {k : PUnit → Prog (TpuEff nD τ sig (Elt F) Λ₀ .tc) α}
    (h : iprop((bigSep (grp j) fun d => ow c (chunkM kv d) (chunkX m kv c d)) ∗ R) ⊢ WP c (k ⟨⟩) Q) :
    iprop((bigSep (grp j) fun d => owX c (chunkM kv d)) ∗ R)
      ⊢ WP c (.op (.load (bM kv) (groupR j).toLoadRect hl) fun x => .op (.store (bM kv) (groupR j) (w x) Finset.univ hx hm) k) Q := by
  iintro ⟨H, HR⟩
  ihave H' := (chunks_raw c kv (grp j)) $$ H
  icases H' with ⟨%g, H⟩
  rw [WP_eq]
  iapply (wp_load 𝒱₀ (c : Thread nD τ) none Set.univ (m := bM kv) (r := (groupR j).toLoadRect) (S := (grp j).biUnion fun d => ((bM kv).view.slice (chunkR d)).set) (q := fullShare) (f := g)
    (by have := group_sub j kv; rw [View.set_slice] at this; exact this)) $$ H
  iintro H
  rw [hw]
  iapply (wp_store 𝒱₀ (c : Thread nD τ) none Set.univ (m := bM kv) (r := groupR j) (Mk := Finset.univ)
    (S := (grp j).biUnion fun d => ((bM kv).view.slice (chunkR d)).set) (f := g) (group_sub j kv)) $$ H
  iintro H
  rw [← WP_eq]
  iapply h
  isplitl [H]
  · rw [pointsTo_biUnion _ _ (fun d _ d' _ hd => by rw [View.set_slice, View.set_slice]; exact (Finset.disjoint_map _).mpr (chunk_disj d d' hd))]
    have hh : ∀ d ∈ grp j, ((bM kv).view.loc (c : Thread nD τ) ↦[((bM kv).view.slice (chunkR d)).set]{fullShare}
        ((bM kv).access (groupR j)).write (Elt F) g (fun i => xkv m kv c ((groupR j).emb i)) Finset.univ : sProp 𝕄) ⊢ ow c (chunkM kv d) (chunkX m kv c d) := fun d hd => ?_
    · have h2 : (bigSep (grp j) fun d => ((bM kv).view.loc (c : Thread nD τ) ↦[((bM kv).view.slice (chunkR d)).set]{fullShare}
        ((bM kv).access (groupR j)).write (Elt F) g (fun i => xkv m kv c ((groupR j).emb i)) Finset.univ : sProp 𝕄)) ⊢ bigSep (grp j) fun d => ow c (chunkM kv d) (chunkX m kv c d) := bigSep_mono hh
      exact h2
    rw [← owns_slice_read (c : Thread nD τ) (bM kv) fullShare (chunkR d) (fun _ => rfl), read_store]
    refine Entails.of_eq (congrArg _ (funext fun i => ?_))
    have hd := (Finset.mem_filter.mp hd).2
    have hi := (mem_chunk d ((chunkR d).emb i)).mp ((chunkR d).map_emb_univ ▸ Finset.mem_map_of_mem _ (Finset.mem_univ i))
    exact overlay_part (groupR j) _ (xkv m kv c) _ ((mem_group j _).mpr ⟨by omega, by omega⟩)
  iexact HR

/-! ## The slots -/

theorem unsq_slot {α : Type} (s : Fin 16) (j : S1x2x128x256.Idx) (X : S2x128x256.Idx → α) :
    X ((Shape.reshapeEquiv squeezes_S1x2x128x256_S2x128x256.numel_eq).symm j) = X (gIx ((slotR s).emb j)) := by
  congr 1
  rw [Equiv.symm_apply_eq]
  unfold gIx
  refine Eq.trans ?_ (ValueIdx.reshapeEquiv_ix3_1abc (a := 2) (b := 128) (c := 256) _ _ _ _).symm
  funext a
  match a with
  | ⟨0, _⟩ => exact Fin.ext (by have : (j 0 : ℕ) < 1 := (j 0).isLt; show (j 0 : ℕ) = 0; omega)
  | ⟨1, _⟩ => exact Fin.ext (by show (j 1 : ℕ) = 0 + 1 * (j 1 : ℕ); omega)
  | ⟨2, _⟩ => exact Fin.ext (by show (j 2 : ℕ) = 0 + 1 * (j 2 : ℕ); omega)
  | ⟨3, _⟩ => exact Fin.ext (by show (j 3 : ℕ) = 0 + 1 * (j 3 : ℕ); omega)

/-- The sixteen slots, each holding its device's chunk, are the gathered array. -/
theorem slots_join (c : Dev nD) (kv : Bool) :
    (bigSep Finset.univ fun s => ow c (slotM kv s) (chunkX m kv (dv s) c) : sProp 𝕄) ⊢ ow c (gM kv) (gX m kv c) := by
  refine (bigSep_mono fun s _ => ?_).trans (owns_of_rects (c : Thread nD τ) (gM kv) fullShare slotR (fun _ _ => rfl) slot_disj slot_cov (gX m kv c))
  refine (ow_squeeze c _ _ _).trans (Entails.of_eq (congrArg _ (funext fun j => ?_)))
  refine (unsq_slot s j (chunkX m kv (dv s) c)).trans ?_
  show chunkX m kv (dv s) c _ = chunkX m kv (dv (((slotR s).emb j) 0)) c _
  have : ((slotR s).emb j) 0 = s := Fin.ext (by have : (j 0 : ℕ) < 1 := (j 0).isLt; show (s : ℕ) + 1 * (j 0 : ℕ) = s; omega)
  rw [this]

theorem slots_split (c : Dev nD) (kv : Bool) :
    (owX c (gM kv) : sProp 𝕄) ⊢ bigSep Finset.univ fun s => owX c (slotM kv s) := by
  have h : ∀ X, (ow c (gM kv) X : sProp 𝕄) ⊢ bigSep Finset.univ fun d => owX c (slotM kv d) := fun X =>
    (owns_rects (c : Thread nD τ) (gM kv) fullShare slotR (fun _ _ => rfl) slot_disj slot_cov X).trans
      (bigSep_mono fun d _ => (ow_unsqueeze c _ squeezes_S1x2x128x256_S2x128x256 _).trans (ow_owX c (slotM kv d) _))
  unfold owX
  unfold owX at h
  iintro ⟨%X, H⟩
  iapply (h X) $$ H

theorem ar_split (c : Dev nD) :
    (owX c arM : sProp 𝕄) ⊢ bigSep Finset.univ fun s => owX c (arSlotM s) := by
  have h : ∀ X, (ow c arM X : sProp 𝕄) ⊢ bigSep Finset.univ fun d => owX c (arSlotM d) := fun X =>
    (owns_rects (c : Thread nD τ) arM fullShare arR (fun _ _ => rfl) ar_disj ar_cov X).trans
      (bigSep_mono fun d _ => (ow_unsqueeze c _ squeezes_S1x256x512_S256x512 _).trans (ow_owX c (arSlotM d) _))
  unfold owX
  unfold owX at h
  iintro ⟨%X, H⟩
  iapply (h X) $$ H

end Cert.KP

end
-- ==== Proof.K.Stmt.lean ====
/-
The statements of the kernel, one at a time: staging a column group, sending a chunk if it is not the own one, the local
copies, the waits, each with the state it needs and the state it leaves.
-/
module

public import proofs.«01_k».proof.Proof.K.Geom

@[expose] public section

set_option maxRecDepth 10000

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

theorem ent {P Q R : sProp 𝕄} (h₁ : P ⊢ Q) (h₂ : Q ⊢ R) : P ⊢ R := h₁.trans h₂

/-! ## The device arithmetic, evaluated -/

/-- The comparison a device makes before sending to, or waiting for, number `n`. -/
def condW (c : Dev nD) (n : BitVec 32) : BitVec 1 :=
  Scalar.cmpi .ne (Scalar.extui (Scalar.cmpi .ne (Scalar.remsi (Scalar.divsi (Dev.word c) 1#32) 32#32) n) : BitVec 32) 0#32
theorem condW_iff : ∀ c d : Dev nD, condW c (BitVec.ofNat 32 d) = 1#1 ↔ d ≠ c := by decide +kernel
theorem cond1_iff : ∀ c : Dev nD, k0_cond1 c = 1#1 ↔ Ev c := by decide +kernel
theorem off1_eq : ∀ c : Dev nD, k0_off1 c = ![(sl c : ℕ)] := by decide +kernel
theorem off2_eq : ∀ c : Dev nD, k0_off2 c = ![(sl c : ℕ), 0, 0, 0] := by decide +kernel

theorem slot_eq (kv : Bool) (s : Fin 16) {off : Fin 4 → ℕ} (h : off = ![(s : ℕ), 0, 0, 0]) {inb} {hh} :
    (((gM kv).slice (Rect.unit (s := S16x2x128x256) off S1x2x128x256.size inb) hh).squeeze S2x128x256 squeezes_S1x2x128x256_S2x128x256
      : Memref sig .tc .vmem S2x128x256 .bf16) = slotM kv s := by
  subst h; rfl
theorem chunk_eq (kv : Bool) (d : Dev nD) {off : Fin 3 → ℕ} (h : off = ![0, 0, 256 * (d : ℕ)]) {inb} {hh} :
    ((bM kv).slice (Rect.unit (s := S2x128x8192) off S2x128x256.size inb) hh : Memref sig .tc .vmem S2x128x256 .bf16) = chunkM kv d := by
  subst h; rfl

/-- The arrays of send and of receive semaphores. -/
abbrev sndA : Bool → DmaSems sig S32
  | false => cc0_scratch8
  | true => cc0_scratch9
abbrev rcvA : Bool → DmaSems sig S16
  | false => cc0_scratch10
  | true => cc0_scratch11

theorem inb_s16 (s : Fin 16) : ∀ a, (![(s : ℕ)] : Fin 1 → ℕ) a + S1.size a ≤ S16.size a := by revert s; decide +kernel
theorem inb_s32 (s : Fin 32) : ∀ a, (![(s : ℕ)] : Fin 1 → ℕ) a + S1.size a ≤ S32.size a := by revert s; decide +kernel
theorem rcvA_all : ∀ (kv : Bool) (s : Fin 16), (SemLoc.dma (((rcvA kv).slice (Rect.unit (s := S16) ![(s : ℕ)] S1.size (inb_s16 s))).squeeze S_ squeezes_S1_S_).sem : SemLoc sig) = csem (.rcv kv s) := by
  decide +kernel
theorem sndA_all : ∀ (kv : Bool) (s : Fin 32), (SemLoc.dma (((sndA kv).slice (Rect.unit (s := S32) ![(s : ℕ)] S1.size (inb_s32 s))).squeeze S_ squeezes_S1_S_).sem : SemLoc sig) = csem (.snd kv s) := by
  decide +kernel
theorem rcvA_eq (kv : Bool) (s : Fin 16) {off : Fin 1 → ℕ} (h : off = ![(s : ℕ)]) {inb} :
    (SemLoc.dma (((rcvA kv).slice (Rect.unit (s := S16) off S1.size inb)).squeeze S_ squeezes_S1_S_).sem : SemLoc sig) = csem (.rcv kv s) := by
  subst h; exact rcvA_all kv s
theorem sndA_eq (kv : Bool) (d : Dev nD) {off : Fin 1 → ℕ} (h : off = ![(d : ℕ)]) {inb} :
    (SemLoc.dma (((sndA kv).slice (Rect.unit (s := S32) off S1.size inb)).squeeze S_ squeezes_S1_S_).sem : SemLoc sig) = csem (.snd kv d) := by
  subst h; exact sndA_all kv d

/-! ## Programs as they are printed: an effect and what follows -/

theorem lift_s {c : Dev nD} {α β : Type} {Q : α → sProp 𝕄} {P : sProp 𝕄} {e : TpuEff nD τ sig (Elt F) Λ₀ .tc β}
    {k : β → Prog (TpuEff nD τ sig (Elt F) Λ₀ .tc) α} (h : P ⊢ WP c (.op e k) Q) : P ⊢ WP c (Prog.lift e >>= k) Q := h

theorem pure_s {c : Dev nD} {α : Type} {Q : α → sProp 𝕄} {P : sProp 𝕄} {x : α} (h : P ⊢ Q x) :
    P ⊢ WP c (Pure.pure x : Prog (TpuEff nD τ sig (Elt F) Λ₀ .tc) α) Q := WP_ret c x h

theorem bind_s {c : Dev nD} {α β : Type} {Q : β → sProp 𝕄} {P : sProp 𝕄} {p : Prog (TpuEff nD τ sig (Elt F) Λ₀ .tc) α}
    {k : α → Prog (TpuEff nD τ sig (Elt F) Λ₀ .tc) β} (h : P ⊢ WP c p fun x => WP c (k x) Q) : P ⊢ WP c (p >>= k) Q :=
  h.trans (Entails.of_eq (WP_bind c p k Q).symm)

theorem sep_pull {A B C D : sProp 𝕄} (h : iprop(B ∗ A ∗ C) ⊢ D) : iprop(A ∗ B ∗ C) ⊢ D := by
  refine ent ?_ h
  iintro ⟨HA, HB, HC⟩
  isplitl [HB]; · iexact HB
  isplitl [HA]; · iexact HA
  iexact HC

/-! ## Sending the chunks -/

/-- What device `c` holds for sending chunk `d`: its send cell's position and, unless the chunk is its own, the tokens of the two
    payments and the slot it lands in. -/
def TK (kv : Bool) (c d : Dev nD) : sProp 𝕄 :=
  iprop(atPos ER (cell c (.snd kv d)) 0 ∅ 0
    ∗ if d ≠ c then iprop(dutyTok ER (cell c (.snd kv d)) 0 c ∗ dutyTok ER (cell d (.rcv kv (sl c))) 0 c ∗ owX d (slotM kv (sl c))) else iprop(emp))

/-- Chunk `d` sent: its landing's credit, or the own chunk still in hand. -/
def CK1 (kv : Bool) (c d : Dev nD) : sProp 𝕄 :=
  iprop(atPos ER (cell c (.snd kv d)) 0 ∅ 0
    ∗ if d = c then ow c (chunkM kv c) (chunkX m kv c c) else cred (tallyAt (cell c (.snd kv d)) () N))

/-- The chunks after `n` sends, `4 g` of them staged. -/
def fam (kv : Bool) (c : Dev nD) (n g : ℕ) (d : Dev nD) : sProp 𝕄 :=
  if (d : ℕ) < n then CK1 m kv c d
  else if (d : ℕ) < 4 * g then iprop(TK kv c d ∗ ow c (chunkM kv d) (chunkX m kv c d))
  else iprop(TK kv c d ∗ owX c (chunkM kv d))

/-- Staging group `g`. -/
theorem stage_core {c : Dev nD} {α : Type} {Q : α → sProp 𝕄} {R : sProp 𝕄} (kv : Bool) (g : Fin 8) {n : ℕ} (hn : n ≤ 4 * g) {hl} {hx} {hm}
    {w : (S2x128x1024.Idx → Elt F .bf16) → (S2x128x1024.Idx → Elt F .bf16)} (hw : ∀ x, w x = fun i => xkv m kv c ((groupR g).emb i))
    {k : PUnit → Prog (TpuEff nD τ sig (Elt F) Λ₀ .tc) α}
    (h : iprop(bigSep Finset.univ (fam m kv c n (g + 1)) ∗ R) ⊢ WP c (k ⟨⟩) Q) :
    iprop(bigSep Finset.univ (fam m kv c n g) ∗ R)
      ⊢ WP c (Prog.lift (.load (bM kv) (groupR g).toLoadRect hl) >>= fun x => Prog.lift (.store (bM kv) (groupR g) (w x) Finset.univ hx hm) >>= k) Q := by
  have hlo : ∀ d ∈ grp g, 4 * (g : ℕ) ≤ (d : ℕ) ∧ (d : ℕ) < 4 * (g + 1) := fun d hd => by
    have := (Finset.mem_filter.mp hd).2; omega
  have hT := fam_step (F := F) (f := fam m kv c n g) (g := fam m kv c n (g + 1)) (grp g) (fun d hd => by
    have hd : (d : ℕ) / 4 ≠ g := fun h => hd (Finset.mem_filter.mpr ⟨Finset.mem_univ _, h⟩)
    unfold fam
    by_cases h1 : (d : ℕ) < n
    · rw [if_pos h1, if_pos h1]
    · rw [if_neg h1, if_neg h1]
      by_cases h2 : (d : ℕ) < 4 * g
      · rw [if_pos h2, if_pos (by omega)]
      · rw [if_neg h2, if_neg (by omega)])
  have hA : bigSep (grp g) (fam m kv c n g) = iprop((bigSep (grp g) fun d => TK (F := F) kv c d) ∗ bigSep (grp g) fun d => owX c (chunkM kv d)) := by
    rw [← bigSep_sep']
    exact bigSep_congr fun d hd => by
      have := hlo d hd
      unfold fam; rw [if_neg (by omega), if_neg (by omega)]
  have hB : bigSep (grp g) (fam m kv c n (g + 1)) = iprop((bigSep (grp g) fun d => TK (F := F) kv c d) ∗ bigSep (grp g) fun d => ow c (chunkM kv d) (chunkX m kv c d)) := by
    rw [← bigSep_sep']
    exact bigSep_congr fun d hd => by
      have := hlo d hd
      unfold fam; rw [if_neg (by omega), if_pos (by omega)]
  rw [hA, hB] at hT
  refine lift_s ?_
  refine ent ?_ (group_step (R := iprop((bigSep (grp g) fun d => TK (F := F) kv c d)
    ∗ (((bigSep (grp g) fun d => TK (F := F) kv c d) ∗ bigSep (grp g) fun d => ow c (chunkM kv d) (chunkX m kv c d)) -∗ bigSep Finset.univ (fam m kv c n (g + 1))) ∗ R)) m kv g hw ?_)
  · iintro ⟨H, HR⟩
    ihave H' := hT $$ H
    icases H' with ⟨⟨H1, H2⟩, H3⟩
    isplitl [H2]; · iexact H2
    isplitl [H1]; · iexact H1
    isplitl [H3]; · iexact H3
    iexact HR
  · iintro ⟨H2, H1, H3, HR⟩
    iapply h
    isplitr [HR]
    · iapply H3
      isplitl [H1]; · iexact H1
      iexact H2
    iexact HR

/-- Sending chunk `d` unless it is the own one. -/
theorem send_core {c : Dev nD} {α : Type} {Q : α → sProp 𝕄} {R : sProp 𝕄} (kv : Bool) (d : Dev nD) (hc : Ev c) {g : ℕ} (hg : (d : ℕ) < 4 * g)
    {f f' : Dev nD × CK → ℕ} (hO : d ≠ c → OW f = OW f' + tallyAt (cell d (.rcv kv (sl c))) () N) (hO' : d = c → f = f')
    {p : Prop} [Decidable p] (hp : p ↔ d ≠ c) {t : p → Prog (TpuEff nD τ sig (Elt F) Λ₀ .tc) α} {e : ¬ p → Prog (TpuEff nD τ sig (Elt F) Λ₀ .tc) α}
    {kk : Prog (TpuEff nD τ sig (Elt F) Λ₀ .tc) α} (he : ∀ h, e h = kk)
    (ht : ∀ h, ∃ (n : Dev nD) (sS sem : SemLoc sig) (src dst : Memref sig .tc .vmem S2x128x256 .bf16)
      (hsc : (dst : Memref sig (Dev.tc n : Thread nD τ).2.kind .vmem S2x128x256 .bf16).view.ref.isScScratch = false)
      (hsrc : src.view.WordExact) (hdst : dst.view.WordExact)
      (hsem : DmaTarget.Typed .vmem sem (.remote (Dev.tc n : Thread nD τ) dst sS hsc)),
      t h = .op (.enqueueDma src (.remote (Dev.tc n : Thread nD τ) dst sS hsc) sem hsrc hdst hsem) (fun _ => kk)
        ∧ n = d ∧ sS = csem (.snd kv d) ∧ sem = csem (.rcv kv (sl c)) ∧ src = chunkM kv d ∧ dst = slotM kv (sl c))
    (h : iprop(Prs m K ∗ owe c f' ∗ bigSep Finset.univ (fam m kv c (d + 1) g) ∗ R) ⊢ WP c kk Q) :
    iprop(Prs m K ∗ owe c f ∗ bigSep Finset.univ (fam m kv c d g) ∗ R) ⊢ WP c (dite p t e) Q := by
  have hT := fam_step1 (F := F) (f := fam m kv c d g) (g := fam m kv c (d + 1) g) d (fun d' hd => by
    have hd : (d' : ℕ) ≠ d := fun h => hd (Fin.ext h)
    unfold fam
    by_cases h1 : (d' : ℕ) < d
    · rw [if_pos h1, if_pos (by omega)]
    · rw [if_neg h1, if_neg (show ¬ (d' : ℕ) < d + 1 by omega)])
  rw [show fam m kv c d g d = iprop(TK kv c d ∗ ow c (chunkM kv d) (chunkX m kv c d)) by unfold fam; rw [if_neg (Nat.lt_irrefl _), if_pos hg],
    show fam m kv c (d + 1) g d = CK1 m kv c d by unfold fam; rw [if_pos (Nat.lt_succ_self _)]] at hT
  by_cases hh : p
  · rw [dif_pos hh]
    have hd := hp.mp hh
    obtain ⟨n, sS, sem, src, dst, hsc, hsrc, hdst, hsem, et, rfl, rfl, rfl, rfl, rfl⟩ := ht hh
    rw [et]
    refine ent ?_ (send_step (R := iprop(atPos ER (cell c (.snd kv n)) 0 ∅ 0 ∗ (CK1 m kv c n -∗ bigSep Finset.univ (fam m kv c (n + 1) g)) ∗ R)) m K
      n n rfl (.snd kv n) (.rcv kv (sl c)) rfl rfl N (N_slot kv _) rfl rfl
      (by unfold dut; dsimp only; rw [if_pos ⟨hc, hd⟩]; exact Finset.mem_singleton_self _)
      (by unfold dut; dsimp only; rw [dv_sl c hc, if_pos hd]; exact Finset.mem_singleton_self _)
      (chunkX m kv c n) rfl (by show ow n (slotM kv (sl c)) (chunkX m kv (dv (sl c)) n) = _; rw [dv_sl c hc]) (hO hd) ?_)
    · iintro ⟨HI, HO, HF, HR⟩
      ihave H' := hT $$ HF
      icases H' with ⟨⟨Ht, Hs⟩, HF⟩
      unfold TK
      rw [if_pos hd]
      icases Ht with ⟨Ha, Ht1, Ht2, Hsl⟩
      isplitl [HI]; · iexact HI
      isplitl [HO]; · iexact HO
      isplitl [Ht1]; · iexact Ht1
      isplitl [Ht2]; · iexact Ht2
      isplitl [Hs]; · iexact Hs
      isplitl [Hsl]; · iexact Hsl
      isplitl [Ha]; · iexact Ha
      isplitl [HF]; · iexact HF
      iexact HR
    · iintro ⟨HI, Hcr, HO, Ha, HF, HR⟩
      iapply h
      isplitl [HI]; · iexact HI
      isplitl [HO]; · iexact HO
      isplitr [HR]
      · iapply HF
        unfold CK1
        rw [if_neg hd]
        isplitl [Ha]; · iexact Ha
        iexact Hcr
      iexact HR
  · rw [dif_neg hh, he hh]
    have hd : d = c := by by_contra hn; exact hh (hp.mpr hn)
    rw [hO' hd]
    refine ent ?_ h
    iintro ⟨HI, HO, HF, HR⟩
    ihave H' := hT $$ HF
    icases H' with ⟨⟨Ht, Hs⟩, HF⟩
    isplitl [HI]; · iexact HI
    isplitl [HO]; · iexact HO
    isplitr [HR]
    · iapply HF
      unfold TK CK1
      rw [if_pos hd]
      icases Ht with ⟨Ha, -⟩
      isplitl [Ha]; · iexact Ha
      subst hd
      iexact Hs
    iexact HR

/-! The state of the sending phase: `nK` key and `nV` value chunks sent, `gK` and `gV` groups staged. -/

def SS (c : Dev nD) (nK nV gK gV : ℕ) (R : sProp 𝕄) : sProp 𝕄 :=
  iprop(Prs m K ∗ owe c (rem c 32 nK nV 0) ∗ bigSep Finset.univ (fam m false c nK gK) ∗ bigSep Finset.univ (fam m true c nV gV)
    ∗ ow c (aM false) (xkv m false c) ∗ ow c (aM true) (xkv m true c) ∗ R)

section
variable {c : Dev nD} {α : Type} {nK nV gK gV : ℕ}

theorem read_s {Q : α → sProp 𝕄} {R : sProp 𝕄} (kv : Bool) (g : Fin 8) {hl}
    {k : (S2x128x1024.Idx → Elt F .bf16) → Prog (TpuEff nD τ sig (Elt F) Λ₀ .tc) α}
    (h : SS m K c nK nV gK gV R ⊢ WP c (k fun i => xkv m kv c ((groupR g).emb i)) Q) :
    SS m K c nK nV gK gV R ⊢ WP c (Prog.lift (.load (aM kv) (groupR g).toLoadRect hl) >>= k) Q := by
  unfold SS at h ⊢
  refine lift_s ?_
  cases kv
  · refine ent ?_ (load_step (X := xkv m false c) (R := iprop(Prs m K ∗ owe c (rem c 32 nK nV 0) ∗ bigSep Finset.univ (fam m false c nK gK) ∗ bigSep Finset.univ (fam m true c nV gV)
      ∗ ow c (aM true) (xkv m true c) ∗ R)) (ent ?_ h))
    · iintro ⟨H1, H2, H3, H4, H5, H6, H7⟩
      isplitl [H5]; · iexact H5
      isplitl [H1]; · iexact H1
      isplitl [H2]; · iexact H2
      isplitl [H3]; · iexact H3
      isplitl [H4]; · iexact H4
      isplitl [H6]; · iexact H6
      iexact H7
    · iintro ⟨H5, H1, H2, H3, H4, H6, H7⟩
      isplitl [H1]; · iexact H1
      isplitl [H2]; · iexact H2
      isplitl [H3]; · iexact H3
      isplitl [H4]; · iexact H4
      isplitl [H5]; · iexact H5
      isplitl [H6]; · iexact H6
      iexact H7
  · refine ent ?_ (load_step (X := xkv m true c) (R := iprop(Prs m K ∗ owe c (rem c 32 nK nV 0) ∗ bigSep Finset.univ (fam m false c nK gK) ∗ bigSep Finset.univ (fam m true c nV gV)
      ∗ ow c (aM false) (xkv m false c) ∗ R)) (ent ?_ h))
    · iintro ⟨H1, H2, H3, H4, H5, H6, H7⟩
      isplitl [H6]; · iexact H6
      isplitl [H1]; · iexact H1
      isplitl [H2]; · iexact H2
      isplitl [H3]; · iexact H3
      isplitl [H4]; · iexact H4
      isplitl [H5]; · iexact H5
      iexact H7
    · iintro ⟨H6, H1, H2, H3, H4, H5, H7⟩
      isplitl [H1]; · iexact H1
      isplitl [H2]; · iexact H2
      isplitl [H3]; · iexact H3
      isplitl [H4]; · iexact H4
      isplitl [H5]; · iexact H5
      isplitl [H6]; · iexact H6
      iexact H7

theorem stageK {Q : α → sProp 𝕄} {R : sProp 𝕄} (g : Fin 8) (hgK : gK = g) (hn : nK ≤ 4 * g) {hl} {hx} {hm}
    {w : S2x128x1024.Idx → Elt F .bf16} (hw : w = fun i => xkv m false c ((groupR g).emb i))
    {k : PUnit → Prog (TpuEff nD τ sig (Elt F) Λ₀ .tc) α}
    (h : SS m K c nK nV (g + 1) gV R ⊢ WP c (k ⟨⟩) Q) :
    SS m K c nK nV gK gV R
      ⊢ WP c (Prog.lift (.load (bM false) (groupR g).toLoadRect hl) >>= fun x => Prog.lift (.store (bM false) (groupR g) w Finset.univ hx hm) >>= k) Q := by
  subst hgK
  unfold SS at h ⊢
  refine ent ?_ (stage_core (R := iprop(Prs m K ∗ owe c (rem c 32 nK nV 0) ∗ bigSep Finset.univ (fam m true c nV gV)
      ∗ ow c (aM false) (xkv m false c) ∗ ow c (aM true) (xkv m true c) ∗ R)) m false g hn (w := fun _ => w) (fun _ => hw) (ent ?_ h))
  · iintro ⟨H1, H2, H3, H4⟩
    isplitl [H3]; · iexact H3
    isplitl [H1]; · iexact H1
    isplitl [H2]; · iexact H2
    iexact H4
  · iintro ⟨H3, H1, H2, H4⟩
    isplitl [H1]; · iexact H1
    isplitl [H2]; · iexact H2
    isplitl [H3]; · iexact H3
    iexact H4

theorem stageV {Q : α → sProp 𝕄} {R : sProp 𝕄} (g : Fin 8) (hgV : gV = g) (hn : nV ≤ 4 * g) {hl} {hx} {hm}
    {w : S2x128x1024.Idx → Elt F .bf16} (hw : w = fun i => xkv m true c ((groupR g).emb i))
    {k : PUnit → Prog (TpuEff nD τ sig (Elt F) Λ₀ .tc) α}
    (h : SS m K c nK nV gK (g + 1) R ⊢ WP c (k ⟨⟩) Q) :
    SS m K c nK nV gK gV R
      ⊢ WP c (Prog.lift (.load (bM true) (groupR g).toLoadRect hl) >>= fun x => Prog.lift (.store (bM true) (groupR g) w Finset.univ hx hm) >>= k) Q := by
  subst hgV
  unfold SS at h ⊢
  refine ent ?_ (stage_core (R := iprop(Prs m K ∗ owe c (rem c 32 nK nV 0) ∗ bigSep Finset.univ (fam m false c nK gK)
      ∗ ow c (aM false) (xkv m false c) ∗ ow c (aM true) (xkv m true c) ∗ R)) m true g hn (w := fun _ => w) (fun _ => hw) (ent ?_ h))
  · iintro ⟨H1, H2, H3, H4, H5⟩
    isplitl [H4]; · iexact H4
    isplitl [H1]; · iexact H1
    isplitl [H2]; · iexact H2
    isplitl [H3]; · iexact H3
    iexact H5
  · iintro ⟨H4, H1, H2, H3, H5⟩
    isplitl [H1]; · iexact H1
    isplitl [H2]; · iexact H2
    isplitl [H3]; · iexact H3
    isplitl [H4]; · iexact H4
    iexact H5

/-- The shape of a sending branch. -/
def IsSend (kv : Bool) (c d : Dev nD) (prog kk : Prog (TpuEff nD τ sig (Elt F) Λ₀ .tc) α) : Prop :=
  ∃ (n : Dev nD) (sS sem : SemLoc sig) (src dst : Memref sig .tc .vmem S2x128x256 .bf16)
      (hsc : (dst : Memref sig (Dev.tc n : Thread nD τ).2.kind .vmem S2x128x256 .bf16).view.ref.isScScratch = false)
      (hsrc : src.view.WordExact) (hdst : dst.view.WordExact)
      (hsem : DmaTarget.Typed .vmem sem (.remote (Dev.tc n : Thread nD τ) dst sS hsc)),
      prog = .op (.enqueueDma src (.remote (Dev.tc n : Thread nD τ) dst sS hsc) sem hsrc hdst hsem) (fun _ => kk)
        ∧ n = d ∧ sS = csem (.snd kv d) ∧ sem = csem (.rcv kv (sl c)) ∧ src = chunkM kv d ∧ dst = slotM kv (sl c)

theorem sendK {Q : α → sProp 𝕄} {R : sProp 𝕄} (d : Dev nD) (hc : Ev c) (hn : nK = d) (hg : (d : ℕ) < 4 * gK)
    {p : Prop} [Decidable p] (hp : p ↔ d ≠ c) {t : p → Prog (TpuEff nD τ sig (Elt F) Λ₀ .tc) α} {e : ¬ p → Prog (TpuEff nD τ sig (Elt F) Λ₀ .tc) α}
    {kk : Prog (TpuEff nD τ sig (Elt F) Λ₀ .tc) α} (he : ∀ h, e h = kk) (ht : ∀ h, IsSend false c d (t h) kk)
    (h : SS m K c (d + 1) nV gK gV R ⊢ WP c kk Q) : SS m K c nK nV gK gV R ⊢ WP c (dite p t e) Q := by
  subst hn
  unfold SS at h ⊢
  exact send_core m K false d hc hg (fun hd => rem_K c d nV hc hd) (fun hd => by subst hd; exact rem_K_self d nV) hp he ht h

theorem sendV {Q : α → sProp 𝕄} {R : sProp 𝕄} (d : Dev nD) (hc : Ev c) (hn : nV = d) (hg : (d : ℕ) < 4 * gV)
    {p : Prop} [Decidable p] (hp : p ↔ d ≠ c) {t : p → Prog (TpuEff nD τ sig (Elt F) Λ₀ .tc) α} {e : ¬ p → Prog (TpuEff nD τ sig (Elt F) Λ₀ .tc) α}
    {kk : Prog (TpuEff nD τ sig (Elt F) Λ₀ .tc) α} (he : ∀ h, e h = kk) (ht : ∀ h, IsSend true c d (t h) kk)
    (h : SS m K c nK (d + 1) gK gV R ⊢ WP c kk Q) : SS m K c nK nV gK gV R ⊢ WP c (dite p t e) Q := by
  subst hn
  unfold SS at h ⊢
  refine ent ?_ (send_core (R := iprop(bigSep Finset.univ (fam m false c nK gK) ∗ ow c (aM false) (xkv m false c) ∗ ow c (aM true) (xkv m true c) ∗ R))
    m K true d hc hg (fun hd => rem_V c d nK hc hd) (fun hd => by subst hd; exact rem_V_self d nK) hp he ht (ent ?_ h))
  · iintro ⟨H1, H2, H3, H4, H5⟩
    isplitl [H1]; · iexact H1
    isplitl [H2]; · iexact H2
    isplitl [H4]; · iexact H4
    isplitl [H3]; · iexact H3
    iexact H5
  · iintro ⟨H1, H2, H4, H3, H5⟩
    isplitl [H1]; · iexact H1
    isplitl [H2]; · iexact H2
    isplitl [H3]; · iexact H3
    isplitl [H4]; · iexact H4
    iexact H5

end

end Cert.KP

end
-- ==== Proof.K.PartsSend.lean ====
/-
The parts of the body that stage the keys and values and send the chunks.
-/
module

public import proofs.«01_k».proof.Proof.K.Stmt

@[expose] public section

set_option maxRecDepth 10000

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- A part of the body, given the launch's buffers and semaphores. -/
abbrev ap {β : Type 1} (f : (arg0 : Memref sig .tc .vmem S2x128x512 .bf16) → arg0.IsWhole → (arg1 : Memref sig .tc .vmem S512x256 .bf16) → arg1.IsWhole → (arg2 : Memref sig .tc .vmem S2x128x8192 .bf16) → arg2.IsWhole → (arg3 : Memref sig .tc .vmem S2x128x8192 .bf16) → arg3.IsWhole → (arg4 : Memref sig .tc .vmem S256x512 .bf16) → arg4.IsWhole → (arg5 : Memref sig .tc .vmem S2x128x512 .f32) → arg5.IsWhole → (arg6 : Memref sig .tc .vmem S2x128x8192 .bf16) → arg6.IsWhole → (arg7 : Memref sig .tc .vmem S2x128x8192 .bf16) → arg7.IsWhole → (arg8 : Memref sig .tc .vmem S16x2x128x256 .bf16) → arg8.IsWhole → (arg9 : Memref sig .tc .vmem S16x2x128x256 .bf16) → arg9.IsWhole → (arg10 : Memref sig .tc .vmem S256x256 .bf16) → arg10.IsWhole → (arg11 : Memref sig .tc .vmem S256x256 .f32) → arg11.IsWhole → (arg12 : Memref sig .tc .vmem S256x512 .f32) → arg12.IsWhole → (arg13 : Memref sig .tc .vmem S5x256x512 .f32) → arg13.IsWhole → (arg14 : DmaSems sig S32) → (arg15 : DmaSems sig S32) → (arg16 : DmaSems sig S16) → (arg17 : DmaSems sig S16) → (arg18 : DmaSems sig S5) → (arg19 : DmaSems sig S5) → (arg20 : DmaSems sig S2) → β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14

/-- The sending branch as it is printed, with the offsets it computes. -/
theorem isSend (kv : Bool) (c d : Dev nD) {α : Type} {o0 : Fin 1 → ℕ} {o1 : Fin 1 → ℕ} {o2 : Fin 4 → ℕ} {o3 : Fin 3 → ℕ} {n : Dev nD} {i0 i1 i2 h2 i3 h3 hsc hsrc hdst hsem}
    {kk : Prog (TpuEff nD τ sig (Elt F) Λ₀ .tc) α} (en : n = d) (e0 : o0 = ![(d : ℕ)]) (e1 : o1 = ![(sl c : ℕ)]) (e2 : o2 = ![(sl c : ℕ), 0, 0, 0])
    (e3 : o3 = ![0, 0, 256 * (d : ℕ)]) :
    IsSend kv c d (.op (.enqueueDma ((bM kv).slice (Rect.unit (s := S2x128x8192) o3 S2x128x256.size i3) h3)
      (.remote (Dev.tc n : Thread nD τ) (((gM kv).slice (Rect.unit (s := S16x2x128x256) o2 S1x2x128x256.size i2) h2).squeeze S2x128x256 squeezes_S1x2x128x256_S2x128x256)
        (.dma (((sndA kv).slice (Rect.unit (s := S32) o0 S1.size i0)).squeeze S_ squeezes_S1_S_).sem) hsc)
      (.dma (((rcvA kv).slice (Rect.unit (s := S16) o1 S1.size i1)).squeeze S_ squeezes_S1_S_).sem) hsrc hdst hsem) fun _ => kk) kk :=
  ⟨_, _, _, _, _, _, _, _, _, rfl, en, sndA_eq kv d e0, rcvA_eq kv (sl c) e1, chunk_eq kv d e3, slot_eq kv (sl c) e2⟩

theorem cast_id (v : FVec F S2x128x1024 .bf16) : k0_pay3 v = v := by
  unfold k0_pay3; simp only [shapeCast_id]
theorem cast_id1 (v : FVec F S2x128x1024 .bf16) : k0_pay9 v = v := by
  unfold k0_pay9; simp only [shapeCast_id]

theorem part1 {c : Dev nD} (hc : Ev c) (h1 : k0_cond1 c = 1#1) {Q : BitVec 32 → sProp 𝕄} {R : sProp 𝕄} (v2 : BitVec 32)
    (h : ∀ x, SS m K c 3 2 1 1 R ⊢ Q x) :
    SS m K c 0 0 0 0 R ⊢ WP c (ap (k0_part1 (F := F)) c v2 h1) Q := by
  unfold ap; rw [k0_part1_eq_skeleton]; unfold k0_part1_skel
  refine read_s m K false 0 ?_
  refine stageK m K 0 rfl (by decide) (cast_id _) ?_
  refine read_s m K true 0 ?_
  refine stageV m K 0 rfl (by decide) (cast_id _) ?_
  refine sendK m K 0 hc rfl (by decide) (condW_iff c 0) (fun _ => rfl) (fun _ => isSend false c 0 rfl rfl (off1_eq c) (off2_eq c) rfl) ?_
  refine sendV m K 0 hc rfl (by decide) (condW_iff c 0) (fun _ => rfl) (fun _ => isSend true c 0 rfl rfl (off1_eq c) (off2_eq c) rfl) ?_
  refine sendK m K 1 hc rfl (by decide) (condW_iff c 1) (fun _ => rfl) (fun _ => isSend false c 1 rfl rfl (off1_eq c) (off2_eq c) rfl) ?_
  refine sendV m K 1 hc rfl (by decide) (condW_iff c 1) (fun _ => rfl) (fun _ => isSend true c 1 rfl rfl (off1_eq c) (off2_eq c) rfl) ?_
  refine sendK m K 2 hc rfl (by decide) (condW_iff c 2) (fun _ => rfl) (fun _ => isSend false c 2 rfl rfl (off1_eq c) (off2_eq c) rfl) ?_
  exact pure_s (h _)

theorem part2 {c : Dev nD} (hc : Ev c) (h1 : k0_cond1 c = 1#1) {Q : BitVec 1 → sProp 𝕄} {R : sProp 𝕄} (v2 : BitVec 32) (x : BitVec 32)
    (h : ∀ x, SS m K c 5 5 2 2 R ⊢ Q x) :
    SS m K c 3 2 1 1 R ⊢ WP c (ap (k0_part2 (F := F)) c v2 h1 x) Q := by
  unfold ap; rw [k0_part2_eq_skeleton]; unfold k0_part2_skel
  refine sendV m K 2 hc rfl (by decide) (condW_iff c 2) (fun _ => rfl) (fun _ => isSend true c 2 rfl rfl (off1_eq c) (off2_eq c) rfl) ?_
  refine sendK m K 3 hc rfl (by decide) (condW_iff c 3) (fun _ => rfl) (fun _ => isSend false c 3 rfl rfl (off1_eq c) (off2_eq c) rfl) ?_
  refine sendV m K 3 hc rfl (by decide) (condW_iff c 3) (fun _ => rfl) (fun _ => isSend true c 3 rfl rfl (off1_eq c) (off2_eq c) rfl) ?_
  refine read_s m K false 1 ?_
  refine stageK m K 1 rfl (by decide) (cast_id _) ?_
  refine read_s m K true 1 ?_
  refine stageV m K 1 rfl (by decide) (cast_id _) ?_
  refine sendK m K 4 hc rfl (by decide) (condW_iff c 4) (fun _ => rfl) (fun _ => isSend false c 4 rfl rfl (off1_eq c) (off2_eq c) rfl) ?_
  refine sendV m K 4 hc rfl (by decide) (condW_iff c 4) (fun _ => rfl) (fun _ => isSend true c 4 rfl rfl (off1_eq c) (off2_eq c) rfl) ?_
  exact pure_s (h _)

theorem part3 {c : Dev nD} (hc : Ev c) (h1 : k0_cond1 c = 1#1) {Q : FVec F S2x128x1024 .bf16 → sProp 𝕄} {R : sProp 𝕄} (v2 : BitVec 32) (x : BitVec 1)
    (h : SS m K c 8 8 3 2 R ⊢ Q fun i => xkv m true c ((groupR 2).emb i)) :
    SS m K c 5 5 2 2 R ⊢ WP c (ap (k0_part3 (F := F)) c v2 h1 x) Q := by
  unfold ap; rw [k0_part3_eq_skeleton]; unfold k0_part3_skel
  refine sendK m K 5 hc rfl (by decide) (condW_iff c 5) (fun _ => rfl) (fun _ => isSend false c 5 rfl rfl (off1_eq c) (off2_eq c) rfl) ?_
  refine sendV m K 5 hc rfl (by decide) (condW_iff c 5) (fun _ => rfl) (fun _ => isSend true c 5 rfl rfl (off1_eq c) (off2_eq c) rfl) ?_
  refine sendK m K 6 hc rfl (by decide) (condW_iff c 6) (fun _ => rfl) (fun _ => isSend false c 6 rfl rfl (off1_eq c) (off2_eq c) rfl) ?_
  refine sendV m K 6 hc rfl (by decide) (condW_iff c 6) (fun _ => rfl) (fun _ => isSend true c 6 rfl rfl (off1_eq c) (off2_eq c) rfl) ?_
  refine sendK m K 7 hc rfl (by decide) (condW_iff c 7) (fun _ => rfl) (fun _ => isSend false c 7 rfl rfl (off1_eq c) (off2_eq c) rfl) ?_
  refine sendV m K 7 hc rfl (by decide) (condW_iff c 7) (fun _ => rfl) (fun _ => isSend true c 7 rfl rfl (off1_eq c) (off2_eq c) rfl) ?_
  refine read_s m K false 2 ?_
  refine stageK m K 2 rfl (by decide) (cast_id _) ?_
  refine read_s m K true 2 ?_
  refine pure_s (ent h (Entails.of_eq ?_))
  exact congrArg Q (shapeCast_id _ _).symm

theorem part4 {c : Dev nD} (hc : Ev c) (h1 : k0_cond1 c = 1#1) {Q : PUnit → sProp 𝕄} {R : sProp 𝕄} (v2 : BitVec 32) (v : FVec F S2x128x1024 .bf16) (hv : v = fun i => xkv m true c ((groupR 2).emb i))
    (h : ∀ x, SS m K c 12 12 3 3 R ⊢ Q x) :
    SS m K c 8 8 3 2 R ⊢ WP c (ap (k0_part4 (F := F)) c v2 h1 v) Q := by
  unfold ap; rw [k0_part4_eq_skeleton]; unfold k0_part4_skel
  refine stageV m K 2 rfl (by decide) ((cast_id1 v).trans hv) ?_
  refine sendK m K 8 hc rfl (by decide) (condW_iff c 8) (fun _ => rfl) (fun _ => isSend false c 8 rfl rfl (off1_eq c) (off2_eq c) rfl) ?_
  refine sendV m K 8 hc rfl (by decide) (condW_iff c 8) (fun _ => rfl) (fun _ => isSend true c 8 rfl rfl (off1_eq c) (off2_eq c) rfl) ?_
  refine sendK m K 9 hc rfl (by decide) (condW_iff c 9) (fun _ => rfl) (fun _ => isSend false c 9 rfl rfl (off1_eq c) (off2_eq c) rfl) ?_
  refine sendV m K 9 hc rfl (by decide) (condW_iff c 9) (fun _ => rfl) (fun _ => isSend true c 9 rfl rfl (off1_eq c) (off2_eq c) rfl) ?_
  refine sendK m K 10 hc rfl (by decide) (condW_iff c 10) (fun _ => rfl) (fun _ => isSend false c 10 rfl rfl (off1_eq c) (off2_eq c) rfl) ?_
  refine sendV m K 10 hc rfl (by decide) (condW_iff c 10) (fun _ => rfl) (fun _ => isSend true c 10 rfl rfl (off1_eq c) (off2_eq c) rfl) ?_
  refine sendK m K 11 hc rfl (by decide) (condW_iff c 11) (fun _ => rfl) (fun _ => isSend false c 11 rfl rfl (off1_eq c) (off2_eq c) rfl) ?_
  refine sendV m K 11 hc rfl (by decide) (condW_iff c 11) (fun _ => rfl) (fun _ => isSend true c 11 rfl rfl (off1_eq c) (off2_eq c) rfl) ?_
  exact pure_s (h _)

theorem part5 {c : Dev nD} (hc : Ev c) (h1 : k0_cond1 c = 1#1) {Q : BitVec 32 → sProp 𝕄} {R : sProp 𝕄} (v2 : BitVec 32)
    (h : ∀ x, SS m K c 15 14 4 4 R ⊢ Q x) :
    SS m K c 12 12 3 3 R ⊢ WP c (ap (k0_part5 (F := F)) c v2 h1) Q := by
  unfold ap; rw [k0_part5_eq_skeleton]; unfold k0_part5_skel
  refine read_s m K false 3 ?_
  refine stageK m K 3 rfl (by decide) (cast_id _) ?_
  refine read_s m K true 3 ?_
  refine stageV m K 3 rfl (by decide) (cast_id _) ?_
  refine sendK m K 12 hc rfl (by decide) (condW_iff c 12) (fun _ => rfl) (fun _ => isSend false c 12 rfl rfl (off1_eq c) (off2_eq c) rfl) ?_
  refine sendV m K 12 hc rfl (by decide) (condW_iff c 12) (fun _ => rfl) (fun _ => isSend true c 12 rfl rfl (off1_eq c) (off2_eq c) rfl) ?_
  refine sendK m K 13 hc rfl (by decide) (condW_iff c 13) (fun _ => rfl) (fun _ => isSend false c 13 rfl rfl (off1_eq c) (off2_eq c) rfl) ?_
  refine sendV m K 13 hc rfl (by decide) (condW_iff c 13) (fun _ => rfl) (fun _ => isSend true c 13 rfl rfl (off1_eq c) (off2_eq c) rfl) ?_
  refine sendK m K 14 hc rfl (by decide) (condW_iff c 14) (fun _ => rfl) (fun _ => isSend false c 14 rfl rfl (off1_eq c) (off2_eq c) rfl) ?_
  exact pure_s (h _)

theorem part6 {c : Dev nD} (hc : Ev c) (h1 : k0_cond1 c = 1#1) {Q : BitVec 1 → sProp 𝕄} {R : sProp 𝕄} (v2 : BitVec 32) (x : BitVec 32)
    (h : ∀ x, SS m K c 17 17 5 5 R ⊢ Q x) :
    SS m K c 15 14 4 4 R ⊢ WP c (ap (k0_part6 (F := F)) c v2 h1 x) Q := by
  unfold ap; rw [k0_part6_eq_skeleton]; unfold k0_part6_skel
  refine sendV m K 14 hc rfl (by decide) (condW_iff c 14) (fun _ => rfl) (fun _ => isSend true c 14 rfl rfl (off1_eq c) (off2_eq c) rfl) ?_
  refine sendK m K 15 hc rfl (by decide) (condW_iff c 15) (fun _ => rfl) (fun _ => isSend false c 15 rfl rfl (off1_eq c) (off2_eq c) rfl) ?_
  refine sendV m K 15 hc rfl (by decide) (condW_iff c 15) (fun _ => rfl) (fun _ => isSend true c 15 rfl rfl (off1_eq c) (off2_eq c) rfl) ?_
  refine read_s m K false 4 ?_
  refine stageK m K 4 rfl (by decide) (cast_id _) ?_
  refine read_s m K true 4 ?_
  refine stageV m K 4 rfl (by decide) (cast_id _) ?_
  refine sendK m K 16 hc rfl (by decide) (condW_iff c 16) (fun _ => rfl) (fun _ => isSend false c 16 rfl rfl (off1_eq c) (off2_eq c) rfl) ?_
  refine sendV m K 16 hc rfl (by decide) (condW_iff c 16) (fun _ => rfl) (fun _ => isSend true c 16 rfl rfl (off1_eq c) (off2_eq c) rfl) ?_
  exact pure_s (h _)

theorem part7 {c : Dev nD} (hc : Ev c) (h1 : k0_cond1 c = 1#1) {Q : FVec F S2x128x1024 .bf16 → sProp 𝕄} {R : sProp 𝕄} (v2 : BitVec 32) (x : BitVec 1)
    (h : SS m K c 20 20 6 5 R ⊢ Q fun i => xkv m true c ((groupR 5).emb i)) :
    SS m K c 17 17 5 5 R ⊢ WP c (ap (k0_part7 (F := F)) c v2 h1 x) Q := by
  unfold ap; rw [k0_part7_eq_skeleton]; unfold k0_part7_skel
  refine sendK m K 17 hc rfl (by decide) (condW_iff c 17) (fun _ => rfl) (fun _ => isSend false c 17 rfl rfl (off1_eq c) (off2_eq c) rfl) ?_
  refine sendV m K 17 hc rfl (by decide) (condW_iff c 17) (fun _ => rfl) (fun _ => isSend true c 17 rfl rfl (off1_eq c) (off2_eq c) rfl) ?_
  refine sendK m K 18 hc rfl (by decide) (condW_iff c 18) (fun _ => rfl) (fun _ => isSend false c 18 rfl rfl (off1_eq c) (off2_eq c) rfl) ?_
  refine sendV m K 18 hc rfl (by decide) (condW_iff c 18) (fun _ => rfl) (fun _ => isSend true c 18 rfl rfl (off1_eq c) (off2_eq c) rfl) ?_
  refine sendK m K 19 hc rfl (by decide) (condW_iff c 19) (fun _ => rfl) (fun _ => isSend false c 19 rfl rfl (off1_eq c) (off2_eq c) rfl) ?_
  refine sendV m K 19 hc rfl (by decide) (condW_iff c 19) (fun _ => rfl) (fun _ => isSend true c 19 rfl rfl (off1_eq c) (off2_eq c) rfl) ?_
  refine read_s m K false 5 ?_
  refine stageK m K 5 rfl (by decide) (cast_id _) ?_
  refine read_s m K true 5 ?_
  refine pure_s (ent h (Entails.of_eq ?_))
  exact congrArg Q (shapeCast_id _ _).symm

theorem part8 {c : Dev nD} (hc : Ev c) (h1 : k0_cond1 c = 1#1) {Q : PUnit → sProp 𝕄} {R : sProp 𝕄} (v2 : BitVec 32) (v : FVec F S2x128x1024 .bf16) (hv : v = fun i => xkv m true c ((groupR 5).emb i))
    (h : ∀ x, SS m K c 24 24 6 6 R ⊢ Q x) :
    SS m K c 20 20 6 5 R ⊢ WP c (ap (k0_part8 (F := F)) c v2 h1 v) Q := by
  unfold ap; rw [k0_part8_eq_skeleton]; unfold k0_part8_skel
  refine stageV m K 5 rfl (by decide) ((cast_id1 v).trans hv) ?_
  refine sendK m K 20 hc rfl (by decide) (condW_iff c 20) (fun _ => rfl) (fun _ => isSend false c 20 rfl rfl (off1_eq c) (off2_eq c) rfl) ?_
  refine sendV m K 20 hc rfl (by decide) (condW_iff c 20) (fun _ => rfl) (fun _ => isSend true c 20 rfl rfl (off1_eq c) (off2_eq c) rfl) ?_
  refine sendK m K 21 hc rfl (by decide) (condW_iff c 21) (fun _ => rfl) (fun _ => isSend false c 21 rfl rfl (off1_eq c) (off2_eq c) rfl) ?_
  refine sendV m K 21 hc rfl (by decide) (condW_iff c 21) (fun _ => rfl) (fun _ => isSend true c 21 rfl rfl (off1_eq c) (off2_eq c) rfl) ?_
  refine sendK m K 22 hc rfl (by decide) (condW_iff c 22) (fun _ => rfl) (fun _ => isSend false c 22 rfl rfl (off1_eq c) (off2_eq c) rfl) ?_
  refine sendV m K 22 hc rfl (by decide) (condW_iff c 22) (fun _ => rfl) (fun _ => isSend true c 22 rfl rfl (off1_eq c) (off2_eq c) rfl) ?_
  refine sendK m K 23 hc rfl (by decide) (condW_iff c 23) (fun _ => rfl) (fun _ => isSend false c 23 rfl rfl (off1_eq c) (off2_eq c) rfl) ?_
  refine sendV m K 23 hc rfl (by decide) (condW_iff c 23) (fun _ => rfl) (fun _ => isSend true c 23 rfl rfl (off1_eq c) (off2_eq c) rfl) ?_
  exact pure_s (h _)

theorem part9 {c : Dev nD} (hc : Ev c) (h1 : k0_cond1 c = 1#1) {Q : BitVec 32 → sProp 𝕄} {R : sProp 𝕄} (v2 : BitVec 32)
    (h : ∀ x, SS m K c 27 26 7 7 R ⊢ Q x) :
    SS m K c 24 24 6 6 R ⊢ WP c (ap (k0_part9 (F := F)) c v2 h1) Q := by
  unfold ap; rw [k0_part9_eq_skeleton]; unfold k0_part9_skel
  refine read_s m K false 6 ?_
  refine stageK m K 6 rfl (by decide) (cast_id _) ?_
  refine read_s m K true 6 ?_
  refine stageV m K 6 rfl (by decide) (cast_id _) ?_
  refine sendK m K 24 hc rfl (by decide) (condW_iff c 24) (fun _ => rfl) (fun _ => isSend false c 24 rfl rfl (off1_eq c) (off2_eq c) rfl) ?_
  refine sendV m K 24 hc rfl (by decide) (condW_iff c 24) (fun _ => rfl) (fun _ => isSend true c 24 rfl rfl (off1_eq c) (off2_eq c) rfl) ?_
  refine sendK m K 25 hc rfl (by decide) (condW_iff c 25) (fun _ => rfl) (fun _ => isSend false c 25 rfl rfl (off1_eq c) (off2_eq c) rfl) ?_
  refine sendV m K 25 hc rfl (by decide) (condW_iff c 25) (fun _ => rfl) (fun _ => isSend true c 25 rfl rfl (off1_eq c) (off2_eq c) rfl) ?_
  refine sendK m K 26 hc rfl (by decide) (condW_iff c 26) (fun _ => rfl) (fun _ => isSend false c 26 rfl rfl (off1_eq c) (off2_eq c) rfl) ?_
  exact pure_s (h _)

theorem part10 {c : Dev nD} (hc : Ev c) (h1 : k0_cond1 c = 1#1) {Q : BitVec 1 → sProp 𝕄} {R : sProp 𝕄} (v2 : BitVec 32) (x : BitVec 32)
    (h : ∀ x, SS m K c 29 29 8 8 R ⊢ Q x) :
    SS m K c 27 26 7 7 R ⊢ WP c (ap (k0_part10 (F := F)) c v2 h1 x) Q := by
  unfold ap; rw [k0_part10_eq_skeleton]; unfold k0_part10_skel
  refine sendV m K 26 hc rfl (by decide) (condW_iff c 26) (fun _ => rfl) (fun _ => isSend true c 26 rfl rfl (off1_eq c) (off2_eq c) rfl) ?_
  refine sendK m K 27 hc rfl (by decide) (condW_iff c 27) (fun _ => rfl) (fun _ => isSend false c 27 rfl rfl (off1_eq c) (off2_eq c) rfl) ?_
  refine sendV m K 27 hc rfl (by decide) (condW_iff c 27) (fun _ => rfl) (fun _ => isSend true c 27 rfl rfl (off1_eq c) (off2_eq c) rfl) ?_
  refine read_s m K false 7 ?_
  refine stageK m K 7 rfl (by decide) (cast_id _) ?_
  refine read_s m K true 7 ?_
  refine stageV m K 7 rfl (by decide) (cast_id _) ?_
  refine sendK m K 28 hc rfl (by decide) (condW_iff c 28) (fun _ => rfl) (fun _ => isSend false c 28 rfl rfl (off1_eq c) (off2_eq c) rfl) ?_
  refine sendV m K 28 hc rfl (by decide) (condW_iff c 28) (fun _ => rfl) (fun _ => isSend true c 28 rfl rfl (off1_eq c) (off2_eq c) rfl) ?_
  exact pure_s (h _)

end Cert.KP

end
-- ==== Proof.K.Waits.lean ====
/-
The local copies, and the waits: for the sends, for the local copies and for the receives.
-/
module

public import proofs.«01_k».proof.Proof.K.PartsSend

@[expose] public section

set_option maxRecDepth 10000

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## Waits -/

/-- A program that waits on a cell and goes on. -/
def IsWait (c : Dev nD) {α : Type} (kS : CK) (a : ℕ) (prog kk : Prog (TpuEff nD τ sig (Elt F) Λ₀ .tc) α) : Prop :=
  ∃ w : TpuEff nD τ sig (Elt F) Λ₀ .tc PUnit, prog = .op w (fun _ => kk)
    ∧ ∀ K : PUnit → sProp 𝕄, wpE (defs₀ (F := F)) 𝒱₀ (c : Thread nD τ) none Set.univ w K = waitSpec (c : Thread nD τ) Set.univ (csem kS) a K

theorem isWait {c : Dev nD} {α : Type} {kS : CK} {a : ℕ} {sem : DmaSem sig} {sp sp' : Space} {s s' : Shape} {e e' : EltTy}
    {src : Memref sig .tc sp' s' e'} {dst : Memref sig .tc sp s e} {hsrc : src.view.WordExact} {hdst : dst.view.WordExact}
    {kk : Prog (TpuEff nD τ sig (Elt F) Λ₀ .tc) α} (hs : SemLoc.dma sem = csem kS) (ha : dst.view.dmaCredit = a) :
    IsWait c kS a (.op (.waitDma2 sem src dst hsrc hdst) fun _ => kk) kk :=
  ⟨_, rfl, fun K => by rw [← hs, ← ha]; rfl⟩

/-- A wait under a condition, in a family of cells of which it is one: on the branch not taken the cell is one nobody pays into. -/
theorem wait_fam {c : Dev nD} {α : Type} {Q : α → sProp 𝕄} {R : sProp 𝕄} {I : Type} [Fintype I] [DecidableEq I] (i : I) {f g : I → sProp 𝕄} (hfg : ∀ d, d ≠ i → f d = g d)
    (kS : CK) (a : ℕ) {O : Dev nD × CK → ℕ} (hO : ∀ y, 0 < O y → levK kS < levK y.2) {b p : Prop} [Decidable p] (hp : p ↔ b) {Z : sProp 𝕄}
    (hf1 : b → (f i ⊢ iprop(atPos ER (cell c kS) 0 ∅ 0 ∗ cred (tallyAt (cell c kS) () a))))
    (hg1 : b → (iprop(semVal (cell c kS) 0 ∗ bigSep (dut c kS) fun d => pay m c kS d) ⊢ g i)) (ha : b → (dut c kS).card * amt kS = a)
    (hf0 : ¬ b → (f i ⊢ iprop(atPos ER (cell c kS) 0 ∅ 0 ∗ Z))) (hg0 : ¬ b → (iprop(semVal (cell c kS) 0 ∗ Z) ⊢ g i)) (hd : ¬ b → dut c kS = ∅)
    {t : p → Prog (TpuEff nD τ sig (Elt F) Λ₀ .tc) α} {e : ¬ p → Prog (TpuEff nD τ sig (Elt F) Λ₀ .tc) α}
    {kk : Prog (TpuEff nD τ sig (Elt F) Λ₀ .tc) α} (he : ∀ h, e h = kk) (ht : ∀ h, IsWait c kS a (t h) kk)
    (h : iprop(Prs m K ∗ owe c O ∗ bigSep Finset.univ g ∗ R) ⊢ WP c kk Q) :
    iprop(Prs m K ∗ owe c O ∗ bigSep Finset.univ f ∗ R) ⊢ WP c (dite p t e) Q := by
  have hT := fam_step1 (F := F) (f := f) (g := g) i hfg
  by_cases hh : p
  · rw [dif_pos hh]
    have hb := hp.mp hh
    obtain ⟨w, et, hw⟩ := ht hh
    rw [et]
    refine ent ?_ (wait_step (R := iprop((g i -∗ bigSep Finset.univ g) ∗ R)) m K kS a hw (ha hb) hO ?_)
    · iintro ⟨HI, HO, HF, HR⟩
      ihave H' := hT $$ HF
      icases H' with ⟨Hi, HF⟩
      ihave Hi' := (hf1 hb) $$ Hi
      icases Hi' with ⟨Ha, Hc⟩
      iframe
    · iintro ⟨HI, Hs, HO, Hp, HF, HR⟩
      iapply h
      isplitl [HI]; · iexact HI
      isplitl [HO]; · iexact HO
      isplitr [HR]
      · iapply HF
        iapply (hg1 hb)
        isplitl [Hs]; · iexact Hs
        iexact Hp
      iexact HR
  · rw [dif_neg hh, he hh]
    have hb : ¬ b := fun h => hh (hp.mpr h)
    have hcl := close_cell (F := F) (c := c) m K kS (hd hb)
    refine fupd_step (P' := iprop(Prs m K ∗ owe c O ∗ bigSep Finset.univ g ∗ R)) ?_ h
    iintro ⟨#HI, HO, HF, HR⟩
    ihave H' := hT $$ HF
    icases H' with ⟨Hi, HF⟩
    ihave Hi' := (hf0 hb) $$ Hi
    icases Hi' with ⟨Ha, HZ⟩
    imod hcl $$ [Ha] with Hs
    · isplitr; · iexact HI
      iexact Ha
    imodintro
    isplitr; · iexact HI
    isplitl [HO]; · iexact HO
    isplitr [HR]
    · iapply HF
      iapply (hg0 hb)
      isplitl [Hs]; · iexact Hs
      iexact HZ
    iexact HR

/-- Two families of cells and what is owed. -/
def TF {I : Type} [Fintype I] (c : Dev nD) (O : Dev nD × CK → ℕ) (f g : I → sProp 𝕄) (R : sProp 𝕄) : sProp 𝕄 :=
  iprop(Prs m K ∗ owe c O ∗ bigSep Finset.univ f ∗ bigSep Finset.univ g ∗ R)

theorem tf_swap {I : Type} [Fintype I] {c : Dev nD} {O : Dev nD × CK → ℕ} {f g : I → sProp 𝕄} {R : sProp 𝕄} : TF m K c O f g R ⊢ TF m K c O g f R := by
  unfold TF
  iintro ⟨H1, H2, H3, H4, H5⟩
  isplitl [H1]; · iexact H1
  isplitl [H2]; · iexact H2
  isplitl [H4]; · iexact H4
  isplitl [H3]; · iexact H3
  iexact H5

/-! ### The sends' waits -/

/-- Chunk `d` of the band while the sends are awaited, the first `n` of them done. -/
def fw (kv : Bool) (c : Dev nD) (n : ℕ) (d : Dev nD) : sProp 𝕄 :=
  if (d : ℕ) < n then iprop(semVal (cell c (.snd kv d)) 0 ∗ if d = c then iprop(emp) else owX c (chunkM kv d))
  else iprop(atPos ER (cell c (.snd kv d)) 0 ∅ 0 ∗ if d = c then iprop(emp) else cred (tallyAt (cell c (.snd kv d)) () N))

/-- What is owed once every chunk is sent. -/
abbrev remS (c : Dev nD) : Dev nD × CK → ℕ := rem c 32 32 32 0

theorem swait {c : Dev nD} {α : Type} {Q : α → sProp 𝕄} {R : sProp 𝕄} (kv : Bool) (d : Dev nD) (hc : Ev c) {n : ℕ} (hn : n = d) {fo : Dev nD → sProp 𝕄}
    {p : Prop} [Decidable p] (hp : p ↔ d ≠ c) {t : p → Prog (TpuEff nD τ sig (Elt F) Λ₀ .tc) α} {e : ¬ p → Prog (TpuEff nD τ sig (Elt F) Λ₀ .tc) α}
    {kk : Prog (TpuEff nD τ sig (Elt F) Λ₀ .tc) α} (he : ∀ h, e h = kk) (ht : ∀ h, IsWait c (.snd kv d) N (t h) kk)
    (h : TF m K c (remS c) (fw kv c (d + 1)) fo R ⊢ WP c kk Q) : TF m K c (remS c) (fw kv c n) fo R ⊢ WP c (dite p t e) Q := by
  subst hn
  unfold TF at h ⊢
  have e0 : fw (F := F) kv c d d = iprop(atPos ER (cell c (.snd kv d)) 0 ∅ 0 ∗ if d = c then iprop(emp) else cred (tallyAt (cell c (.snd kv d)) () N)) := by
    unfold fw; rw [if_neg (Nat.lt_irrefl _)]
  have e1 : fw (F := F) kv c (d + 1) d = iprop(semVal (cell c (.snd kv d)) 0 ∗ if d = c then iprop(emp) else owX c (chunkM kv d)) := by
    unfold fw; rw [if_pos (Nat.lt_succ_self _)]
  refine wait_fam m K d (f := fw kv c d) (g := fw kv c (d + 1)) (fun d' hd => ?_) (.snd kv d) N (fun y hy => lt_of_le_of_lt (Nat.zero_le _) (lev_rcv c 0 y hy)) hp (Z := iprop(emp)) (fun hb => ?_) (fun hb => ?_) (fun hb => ?_) (fun hb => ?_) (fun hb => ?_) (fun hb => ?_) he ht h
  · have hd : (d' : ℕ) ≠ d := fun h => hd (Fin.ext h)
    unfold fw
    by_cases h1 : (d' : ℕ) < d
    · rw [if_pos h1, if_pos (show (d' : ℕ) < d + 1 by omega)]
    · rw [if_neg h1, if_neg (show ¬ (d' : ℕ) < d + 1 by omega)]
  · rw [e0, if_neg hb]
  · rw [e1, if_neg hb, show dut c (.snd kv d) = {c} from if_pos ⟨hc, hb⟩, show bigSep {c} (fun d' => pay m c (.snd kv d) d') = pay m c (.snd kv d) c from bigSep_singleton ..]
    rw [show pay m c (.snd kv d) c = ow c (chunkM kv d) (chunkX m kv c d) from rfl]
    iintro ⟨H1, H2⟩
    isplitl [H1]; · iexact H1
    iapply (ow_owX c (chunkM kv d) (chunkX m kv c d)); iexact H2
  · rw [show dut c (.snd kv d) = {c} from if_pos ⟨hc, hb⟩, Finset.card_singleton, Nat.one_mul]; rfl
  · rw [e0, if_pos (not_not.mp hb)]
  · rw [e1, if_pos (not_not.mp hb)]
  · exact if_neg fun h => hb h.2

section
variable {c : Dev nD} {α : Type} {nK nV : ℕ}

/-- The state while the sends are awaited. -/
abbrev SW (c : Dev nD) (nK nV : ℕ) (R : sProp 𝕄) : sProp 𝕄 := TF m K c (remS c) (fw false c nK) (fw true c nV) R

theorem swaitK {Q : α → sProp 𝕄} {R : sProp 𝕄} (d : Dev nD) (hc : Ev c) (hn : nK = d)
    {p : Prop} [Decidable p] (hp : p ↔ d ≠ c) {t : p → Prog (TpuEff nD τ sig (Elt F) Λ₀ .tc) α} {e : ¬ p → Prog (TpuEff nD τ sig (Elt F) Λ₀ .tc) α}
    {kk : Prog (TpuEff nD τ sig (Elt F) Λ₀ .tc) α} (he : ∀ h, e h = kk) (ht : ∀ h, IsWait c (.snd false d) N (t h) kk)
    (h : SW m K c (d + 1) nV R ⊢ WP c kk Q) : SW m K c nK nV R ⊢ WP c (dite p t e) Q :=
  swait m K false d hc hn hp he ht h

theorem swaitV {Q : α → sProp 𝕄} {R : sProp 𝕄} (d : Dev nD) (hc : Ev c) (hn : nV = d)
    {p : Prop} [Decidable p] (hp : p ↔ d ≠ c) {t : p → Prog (TpuEff nD τ sig (Elt F) Λ₀ .tc) α} {e : ¬ p → Prog (TpuEff nD τ sig (Elt F) Λ₀ .tc) α}
    {kk : Prog (TpuEff nD τ sig (Elt F) Λ₀ .tc) α} (he : ∀ h, e h = kk) (ht : ∀ h, IsWait c (.snd true d) N (t h) kk)
    (h : SW m K c nK (d + 1) R ⊢ WP c kk Q) : SW m K c nK nV R ⊢ WP c (dite p t e) Q :=
  ent (tf_swap m K) (swait m K true d hc hn hp he ht (ent (tf_swap m K) h))

/-! ### The local copies -/

theorem off129_eq : ∀ c : Dev nD, k0_off129 c = ![(sl c : ℕ), 0, 0, 0] := by decide +kernel
theorem inb_s2 (kv : Bool) : ∀ a, (![if kv then 1 else 0] : Fin 1 → ℕ) a + S1.size a ≤ S2.size a := by revert kv; decide +kernel
theorem locA_eq (kv : Bool) : (SemLoc.dma (((cc0_scratch14 : DmaSems sig S2).slice (Rect.unit (s := S2) ![if kv then 1 else 0] S1.size (inb_s2 kv))).squeeze S_ squeezes_S1_S_).sem : SemLoc sig) = csem (.loc kv) := by
  revert kv; decide +kernel

/-- What the local copy of the keys or the values needs besides the chunk. -/
def LT (kv : Bool) (c : Dev nD) : sProp 𝕄 := iprop(dutyTok ER (cell c (.loc kv)) 0 c ∗ owX c (slotM kv (sl c)))

theorem lcopy {Q : α → sProp 𝕄} {R : sProp 𝕄} (kv : Bool) (hc : Ev c) {O : Dev nD × CK → ℕ}
    {src dst : Memref sig .tc .vmem S2x128x256 .bf16} {sem : SemLoc sig} {hsrc : src.view.WordExact} {hdst : dst.view.WordExact}
    {hsem : DmaTarget.Typed (nD := nD) .vmem sem (DmaTarget.here (p := Proc.tc) dst)}
    (e1 : src = chunkM kv c) (e2 : dst = slotM kv (sl c)) (e3 : sem = csem (.loc kv))
    {k : PUnit → Prog (TpuEff nD τ sig (Elt F) Λ₀ .tc) α}
    (h : iprop(Prs m K ∗ owe c O ∗ bigSep Finset.univ (fw kv c 0) ∗ cred (tallyAt (cell c (.loc kv)) () N) ∗ R) ⊢ WP c (k ⟨⟩) Q) :
    iprop(Prs m K ∗ owe c O ∗ bigSep Finset.univ (fam m kv c 32 8) ∗ LT kv c ∗ R) ⊢ WP c (Prog.lift (.enqueueDma src (.here dst) sem hsrc hdst hsem) >>= k) Q := by
  subst e1; subst e2
  refine lift_s ?_
  have ef : ∀ d : Dev nD, fam m kv c 32 8 d = CK1 m kv c d := fun d => if_pos (show (d : ℕ) < 32 from d.isLt)
  have eg : ∀ d : Dev nD, fw (F := F) kv c 0 d = iprop(atPos ER (cell c (.snd kv d)) 0 ∅ 0 ∗ if d = c then iprop(emp) else cred (tallyAt (cell c (.snd kv d)) () N)) := fun d =>
    if_neg (Nat.not_lt_zero _)
  have hT := fam_step1 (F := F) (f := fam m kv c 32 8) (g := fw kv c 0) c (fun d hd => by rw [ef, eg]; unfold CK1; rw [if_neg hd, if_neg hd])
  rw [ef, eg, if_pos rfl] at hT
  unfold CK1 at hT
  rw [if_pos rfl] at hT
  refine ent ?_ (copy_step (R := iprop(owe c O ∗ atPos ER (cell c (.snd kv c)) 0 ∅ 0 ∗ ((atPos ER (cell c (.snd kv c)) 0 ∅ 0 ∗ iprop(emp)) -∗ bigSep Finset.univ (fw kv c 0)) ∗ R)) m K
    (.loc kv) e3 N (by subst e3; exact N_slot kv _) rfl (by unfold dut; dsimp only; rw [if_pos hc]; exact Finset.mem_singleton_self _) (chunkX m kv c c) rfl ?_)
  · unfold LT
    iintro ⟨HI, HO, HF, ⟨Ht, Hs⟩, HR⟩
    ihave H' := hT $$ HF
    icases H' with ⟨⟨Ha, Hc⟩, HF⟩
    isplitl [HI]; · iexact HI
    isplitl [Ht]; · iexact Ht
    isplitl [Hc]; · iexact Hc
    isplitl [Hs]; · iexact Hs
    isplitl [HO]; · iexact HO
    isplitl [Ha]; · iexact Ha
    isplitl [HF]; · iexact HF
    iexact HR
  · iintro ⟨HI, Hcr, HO, Ha, HF, HR⟩
    iapply h
    isplitl [HI]; · iexact HI
    isplitl [HO]; · iexact HO
    isplitl [Ha HF]
    · iapply HF
      isplitl [Ha]; · iexact Ha
      iempintro
    isplitl [Hcr]; · iexact Hcr
    iexact HR

/-- The wait for a local copy. -/
theorem lwait {Q : α → sProp 𝕄} {R : sProp 𝕄} (kv : Bool) (hc : Ev c) {kk : Prog (TpuEff nD τ sig (Elt F) Λ₀ .tc) α} {t : Prog (TpuEff nD τ sig (Elt F) Λ₀ .tc) α}
    (ht : IsWait c (.loc kv) N t kk)
    (h : iprop(Prs m K ∗ owe c (remS c) ∗ (semVal (cell c (.loc kv)) 0 ∗ ow c (slotM kv (sl c)) (chunkX m kv c c) ∗ ow c (chunkM kv c) (chunkX m kv c c)) ∗ R) ⊢ WP c kk Q) :
    iprop(Prs m K ∗ owe c (remS c) ∗ (atPos ER (cell c (.loc kv)) 0 ∅ 0 ∗ cred (tallyAt (cell c (.loc kv)) () N)) ∗ R) ⊢ WP c t Q := by
  obtain ⟨w, et, hw⟩ := ht
  rw [et]
  have hd : dut c (.loc kv) = {c} := if_pos hc
  refine ent ?_ (wait_step (R := R) m K (.loc kv) N hw (by rw [hd, Finset.card_singleton, Nat.one_mul]; rfl) (fun y hy => lt_of_le_of_lt (Nat.zero_le _) (lev_rcv c 0 y hy)) (ent ?_ h))
  · iintro ⟨HI, HO, ⟨Ha, Hc⟩, HR⟩
    iframe
  · rw [hd, show bigSep {c} (fun d' => pay m c (.loc kv) d') = pay m c (.loc kv) c from bigSep_singleton ..]
    unfold pay
    iintro ⟨HI, Hs, HO, ⟨H1, H2⟩, HR⟩
    iframe

/-! ### The local copies in the sequence of the body -/

/-- A local copy under way, and landed. -/
def LC (kv : Bool) (c : Dev nD) : sProp 𝕄 := iprop(atPos ER (cell c (.loc kv)) 0 ∅ 0 ∗ cred (tallyAt (cell c (.loc kv)) () N))
def LD (kv : Bool) (c : Dev nD) : sProp 𝕄 :=
  iprop(semVal (cell c (.loc kv)) 0 ∗ ow c (slotM kv (sl c)) (chunkX m kv c c) ∗ ow c (chunkM kv c) (chunkX m kv c c))
/-- What both local copies need. -/
def LTT (c : Dev nD) (R : sProp 𝕄) : sProp 𝕄 :=
  iprop(LT false c ∗ LT true c ∗ atPos ER (cell c (.loc false)) 0 ∅ 0 ∗ atPos ER (cell c (.loc true)) 0 ∅ 0 ∗ R)
/-- The staged inputs the chunks came from. -/
def AA (c : Dev nD) (R : sProp 𝕄) : sProp 𝕄 := iprop(ow c (aM false) (xkv m false c) ∗ ow c (aM true) (xkv m true c) ∗ R)
/-- Between the two local copies. -/
def SC (c : Dev nD) (R : sProp 𝕄) : sProp 𝕄 :=
  iprop(Prs m K ∗ owe c (remS c) ∗ bigSep Finset.univ (fam m true c 32 8) ∗ LT true c ∗ bigSep Finset.univ (fw false c 0) ∗ LC false c
    ∗ atPos ER (cell c (.loc true)) 0 ∅ 0 ∗ AA m c R)

theorem copyK {Q : α → sProp 𝕄} {R : sProp 𝕄} (hc : Ev c)
    {src dst : Memref sig .tc .vmem S2x128x256 .bf16} {sem : SemLoc sig} {hsrc : src.view.WordExact} {hdst : dst.view.WordExact}
    {hsem : DmaTarget.Typed (nD := nD) .vmem sem (DmaTarget.here (p := Proc.tc) dst)}
    (e1 : src = chunkM false c) (e2 : dst = slotM false (sl c)) (e3 : sem = csem (.loc false))
    {k : PUnit → Prog (TpuEff nD τ sig (Elt F) Λ₀ .tc) α} (h : SC m K c R ⊢ WP c (k ⟨⟩) Q) :
    SS m K c 32 32 8 8 (LTT c R) ⊢ WP c (Prog.lift (.enqueueDma src (.here dst) sem hsrc hdst hsem) >>= k) Q := by
  refine ent ?_ (lcopy (O := remS c) (R := iprop(bigSep Finset.univ (fam m true c 32 8) ∗ LT true c ∗ atPos ER (cell c (.loc false)) 0 ∅ 0 ∗ atPos ER (cell c (.loc true)) 0 ∅ 0 ∗ AA m c R))
    m K false hc e1 e2 e3 (ent ?_ h))
  · unfold SS LTT AA
    iintro ⟨HI, HO, HF, HG, H1, H2, Hk, Hv, Hp, Hq, HR⟩
    isplitl [HI]; · iexact HI
    isplitl [HO]; · iexact HO
    isplitl [HF]; · iexact HF
    isplitl [Hk]; · iexact Hk
    isplitl [HG]; · iexact HG
    isplitl [Hv]; · iexact Hv
    isplitl [Hp]; · iexact Hp
    isplitl [Hq]; · iexact Hq
    isplitl [H1]; · iexact H1
    isplitl [H2]; · iexact H2
    iexact HR
  · unfold SC LC
    iintro ⟨HI, HO, HF, Hc, HG, Hv, Hp, Hq, HR⟩
    isplitl [HI]; · iexact HI
    isplitl [HO]; · iexact HO
    isplitl [HG]; · iexact HG
    isplitl [Hv]; · iexact Hv
    isplitl [HF]; · iexact HF
    isplitl [Hp Hc]
    · isplitl [Hp]; · iexact Hp
      iexact Hc
    isplitl [Hq]; · iexact Hq
    iexact HR

theorem copyV {Q : α → sProp 𝕄} {R : sProp 𝕄} (hc : Ev c)
    {src dst : Memref sig .tc .vmem S2x128x256 .bf16} {sem : SemLoc sig} {hsrc : src.view.WordExact} {hdst : dst.view.WordExact}
    {hsem : DmaTarget.Typed (nD := nD) .vmem sem (DmaTarget.here (p := Proc.tc) dst)}
    (e1 : src = chunkM true c) (e2 : dst = slotM true (sl c)) (e3 : sem = csem (.loc true))
    {k : PUnit → Prog (TpuEff nD τ sig (Elt F) Λ₀ .tc) α} (h : SW m K c 0 0 iprop(LC false c ∗ LC true c ∗ AA m c R) ⊢ WP c (k ⟨⟩) Q) :
    SC m K c R ⊢ WP c (Prog.lift (.enqueueDma src (.here dst) sem hsrc hdst hsem) >>= k) Q := by
  refine ent ?_ (lcopy (O := remS c) (R := iprop(bigSep Finset.univ (fw false c 0) ∗ LC false c ∗ atPos ER (cell c (.loc true)) 0 ∅ 0 ∗ AA m c R))
    m K true hc e1 e2 e3 (ent ?_ h))
  · unfold SC
    iintro ⟨HI, HO, HF, Hv, HG, HC, Hq, HR⟩
    isplitl [HI]; · iexact HI
    isplitl [HO]; · iexact HO
    isplitl [HF]; · iexact HF
    isplitl [Hv]; · iexact Hv
    isplitl [HG]; · iexact HG
    isplitl [HC]; · iexact HC
    isplitl [Hq]; · iexact Hq
    iexact HR
  · unfold SW TF LC
    iintro ⟨HI, HO, HF, Hc, HG, HC, Hq, HR⟩
    isplitl [HI]; · iexact HI
    isplitl [HO]; · iexact HO
    isplitl [HG]; · iexact HG
    isplitl [HF]; · iexact HF
    isplitl [HC]; · iexact HC
    isplitl [Hq Hc]
    · isplitl [Hq]; · iexact Hq
      iexact Hc
    iexact HR

theorem lwaitK {Q : α → sProp 𝕄} {R : sProp 𝕄} (hc : Ev c) {kk : Prog (TpuEff nD τ sig (Elt F) Λ₀ .tc) α} {t : Prog (TpuEff nD τ sig (Elt F) Λ₀ .tc) α}
    (ht : IsWait c (.loc false) N t kk) (h : SW m K c nK nV iprop(LD m false c ∗ LC true c ∗ R) ⊢ WP c kk Q) :
    SW m K c nK nV iprop(LC false c ∗ LC true c ∗ R) ⊢ WP c t Q := by
  refine ent ?_ (lwait (R := iprop(bigSep Finset.univ (fw false c nK) ∗ bigSep Finset.univ (fw true c nV) ∗ LC true c ∗ R)) m K false hc ht (ent ?_ h))
  · unfold SW TF
    rw [show LC (F := F) false c = iprop(atPos ER (cell c (.loc false)) 0 ∅ 0 ∗ cred (tallyAt (cell c (.loc false)) () N)) from rfl]
    iintro ⟨HI, HO, HF, HG, HC, HR⟩
    isplitl [HI]; · iexact HI
    isplitl [HO]; · iexact HO
    isplitl [HC]; · iexact HC
    isplitl [HF]; · iexact HF
    isplitl [HG]; · iexact HG
    iexact HR
  · unfold SW TF
    rw [show LD m false c = iprop(semVal (cell c (.loc false)) 0 ∗ ow c (slotM false (sl c)) (chunkX m false c c) ∗ ow c (chunkM false c) (chunkX m false c c)) from rfl]
    iintro ⟨HI, HO, HC, HF, HG, HR⟩
    isplitl [HI]; · iexact HI
    isplitl [HO]; · iexact HO
    isplitl [HF]; · iexact HF
    isplitl [HG]; · iexact HG
    isplitl [HC]; · iexact HC
    iexact HR

theorem lwaitV {Q : α → sProp 𝕄} {R : sProp 𝕄} (hc : Ev c) {kk : Prog (TpuEff nD τ sig (Elt F) Λ₀ .tc) α} {t : Prog (TpuEff nD τ sig (Elt F) Λ₀ .tc) α}
    (ht : IsWait c (.loc true) N t kk) (h : SW m K c nK nV iprop(LD m false c ∗ LD m true c ∗ R) ⊢ WP c kk Q) :
    SW m K c nK nV iprop(LD m false c ∗ LC true c ∗ R) ⊢ WP c t Q := by
  refine ent ?_ (lwait (R := iprop(bigSep Finset.univ (fw false c nK) ∗ bigSep Finset.univ (fw true c nV) ∗ LD m false c ∗ R)) m K true hc ht (ent ?_ h))
  · unfold SW TF
    rw [show LC (F := F) true c = iprop(atPos ER (cell c (.loc true)) 0 ∅ 0 ∗ cred (tallyAt (cell c (.loc true)) () N)) from rfl]
    iintro ⟨HI, HO, HF, HG, HD, HC, HR⟩
    isplitl [HI]; · iexact HI
    isplitl [HO]; · iexact HO
    isplitl [HC]; · iexact HC
    isplitl [HF]; · iexact HF
    isplitl [HG]; · iexact HG
    isplitl [HD]; · iexact HD
    iexact HR
  · unfold SW TF
    rw [show LD m true c = iprop(semVal (cell c (.loc true)) 0 ∗ ow c (slotM true (sl c)) (chunkX m true c c) ∗ ow c (chunkM true c) (chunkX m true c c)) from rfl]
    iintro ⟨HI, HO, HC, HF, HG, HD, HR⟩
    isplitl [HI]; · iexact HI
    isplitl [HO]; · iexact HO
    isplitl [HF]; · iexact HF
    isplitl [HG]; · iexact HG
    isplitl [HD]; · iexact HD
    isplitl [HC]; · iexact HC
    iexact HR

/-! ### The receives' waits -/

/-- Slot `s` while the receives are awaited, the first `n` of them done. -/
def fr (kv : Bool) (c : Dev nD) (n : ℕ) (s : Fin 16) : sProp 𝕄 :=
  if (s : ℕ) < n then iprop(semVal (cell c (.rcv kv s)) 0 ∗ ow c (slotM kv s) (chunkX m kv (dv s) c))
  else iprop(atPos ER (cell c (.rcv kv s)) 0 ∅ 0
    ∗ if dv s = c then ow c (slotM kv s) (chunkX m kv (dv s) c) else cred (tallyAt (cell c (.rcv kv s)) () N))

theorem rwait {Q : α → sProp 𝕄} {R : sProp 𝕄} (kv : Bool) (s : Fin 16) {n : ℕ} (hn : n = s) {fo : Fin 16 → sProp 𝕄}
    {p : Prop} [Decidable p] (hp : p ↔ dv s ≠ c) {t : p → Prog (TpuEff nD τ sig (Elt F) Λ₀ .tc) α} {e : ¬ p → Prog (TpuEff nD τ sig (Elt F) Λ₀ .tc) α}
    {kk : Prog (TpuEff nD τ sig (Elt F) Λ₀ .tc) α} (he : ∀ h, e h = kk) (ht : ∀ h, IsWait c (.rcv kv s) N (t h) kk)
    (h : TF m K c (remS c) (fr m kv c (s + 1)) fo R ⊢ WP c kk Q) : TF m K c (remS c) (fr m kv c n) fo R ⊢ WP c (dite p t e) Q := by
  subst hn
  unfold TF at h ⊢
  have e0 : fr m kv c s s = iprop(atPos ER (cell c (.rcv kv s)) 0 ∅ 0
      ∗ if dv s = c then ow c (slotM kv s) (chunkX m kv (dv s) c) else cred (tallyAt (cell c (.rcv kv s)) () N)) := by
    unfold fr; rw [if_neg (Nat.lt_irrefl _)]
  have e1 : fr m kv c (s + 1) s = iprop(semVal (cell c (.rcv kv s)) 0 ∗ ow c (slotM kv s) (chunkX m kv (dv s) c)) := by
    unfold fr; rw [if_pos (Nat.lt_succ_self _)]
  refine wait_fam m K s (f := fr m kv c s) (g := fr m kv c (s + 1)) (fun d' hd => ?_) (.rcv kv s) N (fun y hy => lev_rcv c 0 y hy) hp
    (Z := ow c (slotM kv s) (chunkX m kv (dv s) c)) (fun hb => ?_) (fun hb => ?_) (fun hb => ?_) (fun hb => ?_) (fun hb => ?_) (fun hb => ?_) he ht h
  · have hd : (d' : ℕ) ≠ s := fun h => hd (Fin.ext h)
    unfold fr
    by_cases h1 : (d' : ℕ) < s
    · rw [if_pos h1, if_pos (show (d' : ℕ) < s + 1 by omega)]
    · rw [if_neg h1, if_neg (show ¬ (d' : ℕ) < s + 1 by omega)]
  · rw [e0, if_neg hb]
  · rw [e1, show dut c (.rcv kv s) = {dv s} from if_pos (fun h => hb h.symm), show bigSep {dv s} (fun d' => pay m c (.rcv kv s) d') = pay m c (.rcv kv s) (dv s) from bigSep_singleton ..]
    exact .rfl
  · rw [show dut c (.rcv kv s) = {dv s} from if_pos (fun h => hb h.symm), Finset.card_singleton, Nat.one_mul]; rfl
  · rw [e0, if_pos (not_not.mp hb)]
  · rw [e1]
  · exact if_neg fun h => hb (fun h' => h h'.symm)

/-- The state while the receives are awaited. -/
abbrev RW (c : Dev nD) (nK nV : ℕ) (R : sProp 𝕄) : sProp 𝕄 := TF m K c (remS c) (fr m false c nK) (fr m true c nV) R

theorem rwaitK {Q : α → sProp 𝕄} {R : sProp 𝕄} (s : Fin 16) (hn : nK = s)
    {p : Prop} [Decidable p] (hp : p ↔ dv s ≠ c) {t : p → Prog (TpuEff nD τ sig (Elt F) Λ₀ .tc) α} {e : ¬ p → Prog (TpuEff nD τ sig (Elt F) Λ₀ .tc) α}
    {kk : Prog (TpuEff nD τ sig (Elt F) Λ₀ .tc) α} (he : ∀ h, e h = kk) (ht : ∀ h, IsWait c (.rcv false s) N (t h) kk)
    (h : RW m K c (s + 1) nV R ⊢ WP c kk Q) : RW m K c nK nV R ⊢ WP c (dite p t e) Q :=
  rwait m K false s hn hp he ht h

theorem rwaitV {Q : α → sProp 𝕄} {R : sProp 𝕄} (s : Fin 16) (hn : nV = s)
    {p : Prop} [Decidable p] (hp : p ↔ dv s ≠ c) {t : p → Prog (TpuEff nD τ sig (Elt F) Λ₀ .tc) α} {e : ¬ p → Prog (TpuEff nD τ sig (Elt F) Λ₀ .tc) α}
    {kk : Prog (TpuEff nD τ sig (Elt F) Λ₀ .tc) α} (he : ∀ h, e h = kk) (ht : ∀ h, IsWait c (.rcv true s) N (t h) kk)
    (h : RW m K c nK (s + 1) R ⊢ WP c kk Q) : RW m K c nK nV R ⊢ WP c (dite p t e) Q :=
  ent (tf_swap m K) (rwait m K true s hn hp he ht (ent (tf_swap m K) h))

end

end Cert.KP

end
-- ==== Proof.K.PartsWait.lean ====
/-
The parts of the body with the local copies, the waits for the sends and the waits for the receives.
-/
module

public import proofs.«01_k».proof.Proof.K.Waits

@[expose] public section

set_option maxRecDepth 10000

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## The local copies and the waits for the sends -/

theorem part11 {c : Dev nD} (hc : Ev c) (h1 : k0_cond1 c = 1#1) {Q : PUnit → sProp 𝕄} {R : sProp 𝕄} (v2 : BitVec 32) (x : BitVec 1)
    (h : ∀ x, SC m K c R ⊢ Q x) :
    SS m K c 29 29 8 8 (LTT c R) ⊢ WP c (ap (k0_part11 (F := F)) c v2 h1 x) Q := by
  unfold ap; rw [k0_part11_eq_skeleton]; unfold k0_part11_skel
  refine sendK m K 29 hc rfl (by decide) (condW_iff c 29) (fun _ => rfl) (fun _ => isSend false c 29 rfl rfl (off1_eq c) (off2_eq c) rfl) ?_
  refine sendV m K 29 hc rfl (by decide) (condW_iff c 29) (fun _ => rfl) (fun _ => isSend true c 29 rfl rfl (off1_eq c) (off2_eq c) rfl) ?_
  refine sendK m K 30 hc rfl (by decide) (condW_iff c 30) (fun _ => rfl) (fun _ => isSend false c 30 rfl rfl (off1_eq c) (off2_eq c) rfl) ?_
  refine sendV m K 30 hc rfl (by decide) (condW_iff c 30) (fun _ => rfl) (fun _ => isSend true c 30 rfl rfl (off1_eq c) (off2_eq c) rfl) ?_
  refine sendK m K 31 hc rfl (by decide) (condW_iff c 31) (fun _ => rfl) (fun _ => isSend false c 31 rfl rfl (off1_eq c) (off2_eq c) rfl) ?_
  refine sendV m K 31 hc rfl (by decide) (condW_iff c 31) (fun _ => rfl) (fun _ => isSend true c 31 rfl rfl (off1_eq c) (off2_eq c) rfl) ?_
  refine copyK m K hc (chunk_eq false c (k0_off130_eq c)) (slot_eq false (sl c) (off129_eq c)) (locA_eq false) ?_
  exact pure_s (h _)

theorem part12 {c : Dev nD} (hc : Ev c) (h1 : k0_cond1 c = 1#1) {Q : BitVec 32 → sProp 𝕄} {R : sProp 𝕄} (v2 : BitVec 32)
    (h : ∀ x, SW m K c 4 3 iprop(LC false c ∗ LC true c ∗ AA m c R) ⊢ Q x) :
    SC m K c R ⊢ WP c (ap (k0_part12 (F := F)) c v2 h1) Q := by
  unfold ap; rw [k0_part12_eq_skeleton]; unfold k0_part12_skel
  refine copyV m K hc (chunk_eq true c (k0_off130_eq c)) (slot_eq true (sl c) (off129_eq c)) (locA_eq true) ?_
  refine swaitK m K 0 hc rfl (condW_iff c 0) (fun _ => rfl) (fun _ => isWait (sndA_eq false 0 rfl) (N_chunk false 0)) ?_
  refine swaitV m K 0 hc rfl (condW_iff c 0) (fun _ => rfl) (fun _ => isWait (sndA_eq true 0 rfl) (N_chunk true 0)) ?_
  refine swaitK m K 1 hc rfl (condW_iff c 1) (fun _ => rfl) (fun _ => isWait (sndA_eq false 1 rfl) (N_chunk false 1)) ?_
  refine swaitV m K 1 hc rfl (condW_iff c 1) (fun _ => rfl) (fun _ => isWait (sndA_eq true 1 rfl) (N_chunk true 1)) ?_
  refine swaitK m K 2 hc rfl (condW_iff c 2) (fun _ => rfl) (fun _ => isWait (sndA_eq false 2 rfl) (N_chunk false 2)) ?_
  refine swaitV m K 2 hc rfl (condW_iff c 2) (fun _ => rfl) (fun _ => isWait (sndA_eq true 2 rfl) (N_chunk true 2)) ?_
  refine swaitK m K 3 hc rfl (condW_iff c 3) (fun _ => rfl) (fun _ => isWait (sndA_eq false 3 rfl) (N_chunk false 3)) ?_
  exact pure_s (h _)

theorem part13 {c : Dev nD} (hc : Ev c) (h1 : k0_cond1 c = 1#1) {Q : PUnit → sProp 𝕄} {R : sProp 𝕄} (v2 : BitVec 32) (x0 : BitVec 32)
    (h : ∀ x, SW m K c 8 8 R ⊢ Q x) :
    SW m K c 4 3 R ⊢ WP c (ap (k0_part13 (F := F)) c v2 h1 x0) Q := by
  unfold ap; rw [k0_part13_eq_skeleton]; unfold k0_part13_skel
  refine swaitV m K 3 hc rfl (condW_iff c 3) (fun _ => rfl) (fun _ => isWait (sndA_eq true 3 rfl) (N_chunk true 3)) ?_
  refine swaitK m K 4 hc rfl (condW_iff c 4) (fun _ => rfl) (fun _ => isWait (sndA_eq false 4 rfl) (N_chunk false 4)) ?_
  refine swaitV m K 4 hc rfl (condW_iff c 4) (fun _ => rfl) (fun _ => isWait (sndA_eq true 4 rfl) (N_chunk true 4)) ?_
  refine swaitK m K 5 hc rfl (condW_iff c 5) (fun _ => rfl) (fun _ => isWait (sndA_eq false 5 rfl) (N_chunk false 5)) ?_
  refine swaitV m K 5 hc rfl (condW_iff c 5) (fun _ => rfl) (fun _ => isWait (sndA_eq true 5 rfl) (N_chunk true 5)) ?_
  refine swaitK m K 6 hc rfl (condW_iff c 6) (fun _ => rfl) (fun _ => isWait (sndA_eq false 6 rfl) (N_chunk false 6)) ?_
  refine swaitV m K 6 hc rfl (condW_iff c 6) (fun _ => rfl) (fun _ => isWait (sndA_eq true 6 rfl) (N_chunk true 6)) ?_
  refine swaitK m K 7 hc rfl (condW_iff c 7) (fun _ => rfl) (fun _ => isWait (sndA_eq false 7 rfl) (N_chunk false 7)) ?_
  refine swaitV m K 7 hc rfl (condW_iff c 7) (fun _ => rfl) (fun _ => isWait (sndA_eq true 7 rfl) (N_chunk true 7)) ?_
  exact pure_s (h _)

theorem part14 {c : Dev nD} (hc : Ev c) (h1 : k0_cond1 c = 1#1) {Q : BitVec 32 → sProp 𝕄} {R : sProp 𝕄} (v2 : BitVec 32)
    (h : ∀ x, SW m K c 12 12 R ⊢ Q x) :
    SW m K c 8 8 R ⊢ WP c (ap (k0_part14 (F := F)) c v2 h1) Q := by
  unfold ap; rw [k0_part14_eq_skeleton]; unfold k0_part14_skel
  refine swaitK m K 8 hc rfl (condW_iff c 8) (fun _ => rfl) (fun _ => isWait (sndA_eq false 8 rfl) (N_chunk false 8)) ?_
  refine swaitV m K 8 hc rfl (condW_iff c 8) (fun _ => rfl) (fun _ => isWait (sndA_eq true 8 rfl) (N_chunk true 8)) ?_
  refine swaitK m K 9 hc rfl (condW_iff c 9) (fun _ => rfl) (fun _ => isWait (sndA_eq false 9 rfl) (N_chunk false 9)) ?_
  refine swaitV m K 9 hc rfl (condW_iff c 9) (fun _ => rfl) (fun _ => isWait (sndA_eq true 9 rfl) (N_chunk true 9)) ?_
  refine swaitK m K 10 hc rfl (condW_iff c 10) (fun _ => rfl) (fun _ => isWait (sndA_eq false 10 rfl) (N_chunk false 10)) ?_
  refine swaitV m K 10 hc rfl (condW_iff c 10) (fun _ => rfl) (fun _ => isWait (sndA_eq true 10 rfl) (N_chunk true 10)) ?_
  refine swaitK m K 11 hc rfl (condW_iff c 11) (fun _ => rfl) (fun _ => isWait (sndA_eq false 11 rfl) (N_chunk false 11)) ?_
  refine swaitV m K 11 hc rfl (condW_iff c 11) (fun _ => rfl) (fun _ => isWait (sndA_eq true 11 rfl) (N_chunk true 11)) ?_
  exact pure_s (h _)

theorem part15 {c : Dev nD} (hc : Ev c) (h1 : k0_cond1 c = 1#1) {Q : BitVec 32 → sProp 𝕄} {R : sProp 𝕄} (v2 : BitVec 32) (x0 : BitVec 32)
    (h : ∀ x, SW m K c 17 16 R ⊢ Q x) :
    SW m K c 12 12 R ⊢ WP c (ap (k0_part15 (F := F)) c v2 h1 x0) Q := by
  unfold ap; rw [k0_part15_eq_skeleton]; unfold k0_part15_skel
  refine swaitK m K 12 hc rfl (condW_iff c 12) (fun _ => rfl) (fun _ => isWait (sndA_eq false 12 rfl) (N_chunk false 12)) ?_
  refine swaitV m K 12 hc rfl (condW_iff c 12) (fun _ => rfl) (fun _ => isWait (sndA_eq true 12 rfl) (N_chunk true 12)) ?_
  refine swaitK m K 13 hc rfl (condW_iff c 13) (fun _ => rfl) (fun _ => isWait (sndA_eq false 13 rfl) (N_chunk false 13)) ?_
  refine swaitV m K 13 hc rfl (condW_iff c 13) (fun _ => rfl) (fun _ => isWait (sndA_eq true 13 rfl) (N_chunk true 13)) ?_
  refine swaitK m K 14 hc rfl (condW_iff c 14) (fun _ => rfl) (fun _ => isWait (sndA_eq false 14 rfl) (N_chunk false 14)) ?_
  refine swaitV m K 14 hc rfl (condW_iff c 14) (fun _ => rfl) (fun _ => isWait (sndA_eq true 14 rfl) (N_chunk true 14)) ?_
  refine swaitK m K 15 hc rfl (condW_iff c 15) (fun _ => rfl) (fun _ => isWait (sndA_eq false 15 rfl) (N_chunk false 15)) ?_
  refine swaitV m K 15 hc rfl (condW_iff c 15) (fun _ => rfl) (fun _ => isWait (sndA_eq true 15 rfl) (N_chunk true 15)) ?_
  refine swaitK m K 16 hc rfl (condW_iff c 16) (fun _ => rfl) (fun _ => isWait (sndA_eq false 16 rfl) (N_chunk false 16)) ?_
  exact pure_s (h _)

theorem part16 {c : Dev nD} (hc : Ev c) (h1 : k0_cond1 c = 1#1) {Q : (Σ' (v1123 : BitVec 32), BitVec 32) → sProp 𝕄} {R : sProp 𝕄} (v2 : BitVec 32) (x0 : BitVec 32)
    (h : ∀ x, SW m K c 21 20 R ⊢ Q x) :
    SW m K c 17 16 R ⊢ WP c (ap (k0_part16 (F := F)) c v2 h1 x0) Q := by
  unfold ap; rw [k0_part16_eq_skeleton]; unfold k0_part16_skel
  refine swaitV m K 16 hc rfl (condW_iff c 16) (fun _ => rfl) (fun _ => isWait (sndA_eq true 16 rfl) (N_chunk true 16)) ?_
  refine swaitK m K 17 hc rfl (condW_iff c 17) (fun _ => rfl) (fun _ => isWait (sndA_eq false 17 rfl) (N_chunk false 17)) ?_
  refine swaitV m K 17 hc rfl (condW_iff c 17) (fun _ => rfl) (fun _ => isWait (sndA_eq true 17 rfl) (N_chunk true 17)) ?_
  refine swaitK m K 18 hc rfl (condW_iff c 18) (fun _ => rfl) (fun _ => isWait (sndA_eq false 18 rfl) (N_chunk false 18)) ?_
  refine swaitV m K 18 hc rfl (condW_iff c 18) (fun _ => rfl) (fun _ => isWait (sndA_eq true 18 rfl) (N_chunk true 18)) ?_
  refine swaitK m K 19 hc rfl (condW_iff c 19) (fun _ => rfl) (fun _ => isWait (sndA_eq false 19 rfl) (N_chunk false 19)) ?_
  refine swaitV m K 19 hc rfl (condW_iff c 19) (fun _ => rfl) (fun _ => isWait (sndA_eq true 19 rfl) (N_chunk true 19)) ?_
  refine swaitK m K 20 hc rfl (condW_iff c 20) (fun _ => rfl) (fun _ => isWait (sndA_eq false 20 rfl) (N_chunk false 20)) ?_
  exact pure_s (h _)

theorem part17 {c : Dev nD} (hc : Ev c) (h1 : k0_cond1 c = 1#1) {Q : BitVec 1 → sProp 𝕄} {R : sProp 𝕄} (v2 : BitVec 32) (x0 : BitVec 32) (x1 : BitVec 32)
    (h : ∀ x, SW m K c 25 25 R ⊢ Q x) :
    SW m K c 21 20 R ⊢ WP c (ap (k0_part17 (F := F)) c v2 h1 x0 x1) Q := by
  unfold ap; rw [k0_part17_eq_skeleton]; unfold k0_part17_skel
  refine swaitV m K 20 hc rfl (condW_iff c 20) (fun _ => rfl) (fun _ => isWait (sndA_eq true 20 rfl) (N_chunk true 20)) ?_
  refine swaitK m K 21 hc rfl (condW_iff c 21) (fun _ => rfl) (fun _ => isWait (sndA_eq false 21 rfl) (N_chunk false 21)) ?_
  refine swaitV m K 21 hc rfl (condW_iff c 21) (fun _ => rfl) (fun _ => isWait (sndA_eq true 21 rfl) (N_chunk true 21)) ?_
  refine swaitK m K 22 hc rfl (condW_iff c 22) (fun _ => rfl) (fun _ => isWait (sndA_eq false 22 rfl) (N_chunk false 22)) ?_
  refine swaitV m K 22 hc rfl (condW_iff c 22) (fun _ => rfl) (fun _ => isWait (sndA_eq true 22 rfl) (N_chunk true 22)) ?_
  refine swaitK m K 23 hc rfl (condW_iff c 23) (fun _ => rfl) (fun _ => isWait (sndA_eq false 23 rfl) (N_chunk false 23)) ?_
  refine swaitV m K 23 hc rfl (condW_iff c 23) (fun _ => rfl) (fun _ => isWait (sndA_eq true 23 rfl) (N_chunk true 23)) ?_
  refine swaitK m K 24 hc rfl (condW_iff c 24) (fun _ => rfl) (fun _ => isWait (sndA_eq false 24 rfl) (N_chunk false 24)) ?_
  refine swaitV m K 24 hc rfl (condW_iff c 24) (fun _ => rfl) (fun _ => isWait (sndA_eq true 24 rfl) (N_chunk true 24)) ?_
  exact pure_s (h _)

theorem part18 {c : Dev nD} (hc : Ev c) (h1 : k0_cond1 c = 1#1) {Q : PUnit → sProp 𝕄} {R : sProp 𝕄} (v2 : BitVec 32) (x0 : BitVec 1)
    (h : ∀ x, SW m K c 29 29 R ⊢ Q x) :
    SW m K c 25 25 R ⊢ WP c (ap (k0_part18 (F := F)) c v2 h1 x0) Q := by
  unfold ap; rw [k0_part18_eq_skeleton]; unfold k0_part18_skel
  refine swaitK m K 25 hc rfl (condW_iff c 25) (fun _ => rfl) (fun _ => isWait (sndA_eq false 25 rfl) (N_chunk false 25)) ?_
  refine swaitV m K 25 hc rfl (condW_iff c 25) (fun _ => rfl) (fun _ => isWait (sndA_eq true 25 rfl) (N_chunk true 25)) ?_
  refine swaitK m K 26 hc rfl (condW_iff c 26) (fun _ => rfl) (fun _ => isWait (sndA_eq false 26 rfl) (N_chunk false 26)) ?_
  refine swaitV m K 26 hc rfl (condW_iff c 26) (fun _ => rfl) (fun _ => isWait (sndA_eq true 26 rfl) (N_chunk true 26)) ?_
  refine swaitK m K 27 hc rfl (condW_iff c 27) (fun _ => rfl) (fun _ => isWait (sndA_eq false 27 rfl) (N_chunk false 27)) ?_
  refine swaitV m K 27 hc rfl (condW_iff c 27) (fun _ => rfl) (fun _ => isWait (sndA_eq true 27 rfl) (N_chunk true 27)) ?_
  refine swaitK m K 28 hc rfl (condW_iff c 28) (fun _ => rfl) (fun _ => isWait (sndA_eq false 28 rfl) (N_chunk false 28)) ?_
  refine swaitV m K 28 hc rfl (condW_iff c 28) (fun _ => rfl) (fun _ => isWait (sndA_eq true 28 rfl) (N_chunk true 28)) ?_
  exact pure_s (h _)

theorem part19 {c : Dev nD} (hc : Ev c) (h1 : k0_cond1 c = 1#1) {Q : PUnit → sProp 𝕄} {R : sProp 𝕄} (v2 : BitVec 32)
    (h : ∀ x, SW m K c 32 32 iprop(LD m false c ∗ LC true c ∗ R) ⊢ Q x) :
    SW m K c 29 29 iprop(LC false c ∗ LC true c ∗ R) ⊢ WP c (ap (k0_part19 (F := F)) c v2 h1) Q := by
  unfold ap; rw [k0_part19_eq_skeleton]; unfold k0_part19_skel
  refine swaitK m K 29 hc rfl (condW_iff c 29) (fun _ => rfl) (fun _ => isWait (sndA_eq false 29 rfl) (N_chunk false 29)) ?_
  refine swaitV m K 29 hc rfl (condW_iff c 29) (fun _ => rfl) (fun _ => isWait (sndA_eq true 29 rfl) (N_chunk true 29)) ?_
  refine swaitK m K 30 hc rfl (condW_iff c 30) (fun _ => rfl) (fun _ => isWait (sndA_eq false 30 rfl) (N_chunk false 30)) ?_
  refine swaitV m K 30 hc rfl (condW_iff c 30) (fun _ => rfl) (fun _ => isWait (sndA_eq true 30 rfl) (N_chunk true 30)) ?_
  refine swaitK m K 31 hc rfl (condW_iff c 31) (fun _ => rfl) (fun _ => isWait (sndA_eq false 31 rfl) (N_chunk false 31)) ?_
  refine swaitV m K 31 hc rfl (condW_iff c 31) (fun _ => rfl) (fun _ => isWait (sndA_eq true 31 rfl) (N_chunk true 31)) ?_
  refine lwaitK m K hc (isWait (locA_eq false) ((congrArg (fun M : Memref sig .tc .vmem S2x128x256 .bf16 => M.view.dmaCredit) (slot_eq false (sl c) (off129_eq c))).trans (N_slot false (sl c)))) ?_
  exact pure_s (h _)

/-! ## The waits for the receives -/

/-- A device's number, half of it, and whether it is even, as the body computes them. -/
def w2 (c : Dev nD) : BitVec 32 := Scalar.remsi (Scalar.divsi (Dev.word c) 1#32) 32#32
def w19 (c : Dev nD) : BitVec 32 :=
  Scalar.select
    (Scalar.andi
      (Scalar.cmpi .ne (Scalar.subi (Scalar.extui (Scalar.cmpi .sgt (w2 c) 0#32) : BitVec 32) (Scalar.extui (Scalar.cmpi .slt (w2 c) 0#32)))
        (Scalar.subi (Scalar.extui (Scalar.cmpi .sgt (2#32 : BitVec 32) 0#32) : BitVec 32) (Scalar.extui (Scalar.cmpi .slt (2#32 : BitVec 32) 0#32))))
      (Scalar.cmpi .ne (Scalar.remsi (w2 c) 2#32) 0#32))
    (Scalar.subi (Scalar.divsi (w2 c) 2#32) 1#32) (Scalar.divsi (w2 c) 2#32)
/-- Two, or one had it been zero. -/
def w21 : BitVec 32 := Scalar.select (Scalar.cmpi .eq (2#32 : BitVec 32) 0#32) 1#32 2#32
def w22 (c : Dev nD) : BitVec 32 := Scalar.remsi (w2 c) w21
def w30 (c : Dev nD) : BitVec 1 :=
  Scalar.cmpi .eq
    (Scalar.select (Scalar.andi (Scalar.xori (Scalar.cmpi .slt (w22 c) 0#32) (Scalar.cmpi .slt w21 0#32)) (Scalar.cmpi .ne (w22 c) 0#32)) (Scalar.addi (w22 c) w21) (w22 c)) 0#32
/-- Whether slot `s` is filled by another device. -/
def orW (c : Dev nD) (s : BitVec 32) : BitVec 1 := Scalar.ori (Scalar.xori (w30 c) 1#1) (Scalar.cmpi .ne (w19 c) s)
theorem condR_iff : ∀ (c : Dev nD) (s : Fin 16), Scalar.cmpi .ne (Scalar.extui (orW c (BitVec.ofNat 32 s)) : BitVec 32) 0#32 = 1#1 ↔ dv s ≠ c := by decide +kernel

/-- A store over the whole array leaves what was stored. -/
theorem overlay_all {s : Shape} {α : Type} (off : Fin s.rank → ℕ) (hl) (X w : s.Idx → α) (h0 : ∀ a, off a = 0) :
    (Rect.unit (s := s) off s.size hl).overlay X w = w := by
  funext i
  have e : (Rect.unit (s := s) off s.size hl).emb i = i := by
    funext a; refine Fin.ext ?_
    show off a + 1 * (i a : ℕ) = i a
    rw [h0, Nat.zero_add, Nat.one_mul]
  have h := Rect.overlay_emb (Rect.unit (s := s) off s.size hl) X w i
  rw [e] at h; exact h

/-- Storing the projected queries. -/
theorem storeQ {c : Dev nD} {α : Type} {Q : α → sProp 𝕄} {R : sProp 𝕄} {nK nV : ℕ} {hl} {hx} {hm} {w : S256x256.Idx → Elt F .bf16} (hw : w = qX m c)
    {k : PUnit → Prog (TpuEff nD τ sig (Elt F) Λ₀ .tc) α}
    (h : RW m K c nK nV iprop(ow c qM (qX m c) ∗ R) ⊢ WP c (k ⟨⟩) Q) :
    RW m K c nK nV iprop(owX c qM ∗ R)
      ⊢ WP c (Prog.lift (.store qM (Rect.unit (s := S256x256) ![0, 0] S256x256.size hl) w Finset.univ hx hm) >>= k) Q := by
  refine lift_s ?_
  have hst : ∀ X, iprop(ow c qM X ∗ Prs m K ∗ owe c (remS c) ∗ bigSep Finset.univ (fr m false c nK) ∗ bigSep Finset.univ (fr m true c nV) ∗ R)
      ⊢ WP c (.op (.store qM (Rect.unit (s := S256x256) ![0, 0] S256x256.size hl) w Finset.univ hx hm) k) Q := fun X => by
    refine store_step (ent ?_ h)
    have e : (Rect.unit (s := S256x256) ![0, 0] S256x256.size hl).overlay X w = qX m c := by
      rw [hw]; exact overlay_all (s := S256x256) ![0, 0] hl X (qX m c) (by decide)
    rw [e]
    unfold RW TF
    iintro ⟨H, HI, HO, HF, HG, HR⟩
    isplitl [HI]; · iexact HI
    isplitl [HO]; · iexact HO
    isplitl [HF]; · iexact HF
    isplitl [HG]; · iexact HG
    isplitl [H]; · iexact H
    iexact HR
  unfold RW TF owX
  iintro ⟨HI, HO, HF, HG, ⟨%X, H⟩, HR⟩
  iapply (hst X)
  isplitl [H]; · iexact H
  isplitl [HI]; · iexact HI
  isplitl [HO]; · iexact HO
  isplitl [HF]; · iexact HF
  isplitl [HG]; · iexact HG
  iexact HR

theorem part25 {c : Dev nD} {Q : BitVec 32 → sProp 𝕄} {R : sProp 𝕄} {v : FVec F S256x256 .bf16} (hv : k0_pay22 v = qX m c)
    (h : RW m K c 3 2 iprop(ow c qM (qX m c) ∗ R) ⊢ Q (Scalar.extui (orW c 2#32))) :
    RW m K c 0 0 iprop(owX c qM ∗ R) ⊢ WP c (ap (k0_part25 (F := F)) (w19 c) (w30 c) v) Q := by
  unfold ap; rw [k0_part25_eq_skeleton]; unfold k0_part25_skel
  refine storeQ m K hv ?_
  refine rwaitK m K 0 rfl (condR_iff c 0) (fun _ => rfl) (fun _ => isWait (rcvA_eq false 0 rfl) (N_slot false 0)) ?_
  refine rwaitV m K 0 rfl (condR_iff c 0) (fun _ => rfl) (fun _ => isWait (rcvA_eq true 0 rfl) (N_slot true 0)) ?_
  refine rwaitK m K 1 rfl (condR_iff c 1) (fun _ => rfl) (fun _ => isWait (rcvA_eq false 1 rfl) (N_slot false 1)) ?_
  refine rwaitV m K 1 rfl (condR_iff c 1) (fun _ => rfl) (fun _ => isWait (rcvA_eq true 1 rfl) (N_slot true 1)) ?_
  refine rwaitK m K 2 rfl (condR_iff c 2) (fun _ => rfl) (fun _ => isWait (rcvA_eq false 2 rfl) (N_slot false 2)) ?_
  exact pure_s h

theorem part26 {c : Dev nD} {Q : BitVec 1 → sProp 𝕄} {R : sProp 𝕄}
    (h : RW m K c 6 5 R ⊢ Q (orW c 5#32)) :
    RW m K c 3 2 R ⊢ WP c (ap (k0_part26 (F := F)) (w19 c) (w30 c) (Scalar.extui (orW c 2#32))) Q := by
  unfold ap; rw [k0_part26_eq_skeleton]; unfold k0_part26_skel
  refine rwaitV m K 2 rfl (condR_iff c 2) (fun _ => rfl) (fun _ => isWait (rcvA_eq true 2 rfl) (N_slot true 2)) ?_
  refine rwaitK m K 3 rfl (condR_iff c 3) (fun _ => rfl) (fun _ => isWait (rcvA_eq false 3 rfl) (N_slot false 3)) ?_
  refine rwaitV m K 3 rfl (condR_iff c 3) (fun _ => rfl) (fun _ => isWait (rcvA_eq true 3 rfl) (N_slot true 3)) ?_
  refine rwaitK m K 4 rfl (condR_iff c 4) (fun _ => rfl) (fun _ => isWait (rcvA_eq false 4 rfl) (N_slot false 4)) ?_
  refine rwaitV m K 4 rfl (condR_iff c 4) (fun _ => rfl) (fun _ => isWait (rcvA_eq true 4 rfl) (N_slot true 4)) ?_
  refine rwaitK m K 5 rfl (condR_iff c 5) (fun _ => rfl) (fun _ => isWait (rcvA_eq false 5 rfl) (N_slot false 5)) ?_
  exact pure_s h

theorem part27 {c : Dev nD} {Q : (Σ' (v168 : BitVec 1), BitVec 32) → sProp 𝕄} {R : sProp 𝕄}
    (h : RW m K c 8 8 R ⊢ Q (⟨orW c 8#32, Scalar.extui (orW c 8#32)⟩)) :
    RW m K c 6 5 R ⊢ WP c (ap (k0_part27 (F := F)) (w19 c) (w30 c) (orW c 5#32)) Q := by
  unfold ap; rw [k0_part27_eq_skeleton]; unfold k0_part27_skel
  refine rwaitV m K 5 rfl (condR_iff c 5) (fun _ => rfl) (fun _ => isWait (rcvA_eq true 5 rfl) (N_slot true 5)) ?_
  refine rwaitK m K 6 rfl (condR_iff c 6) (fun _ => rfl) (fun _ => isWait (rcvA_eq false 6 rfl) (N_slot false 6)) ?_
  refine rwaitV m K 6 rfl (condR_iff c 6) (fun _ => rfl) (fun _ => isWait (rcvA_eq true 6 rfl) (N_slot true 6)) ?_
  refine rwaitK m K 7 rfl (condR_iff c 7) (fun _ => rfl) (fun _ => isWait (rcvA_eq false 7 rfl) (N_slot false 7)) ?_
  refine rwaitV m K 7 rfl (condR_iff c 7) (fun _ => rfl) (fun _ => isWait (rcvA_eq true 7 rfl) (N_slot true 7)) ?_
  exact pure_s h

theorem part28 {c : Dev nD} {Q : (Σ' (v189 : BitVec 1), BitVec 32) → sProp 𝕄} {R : sProp 𝕄}
    (h : RW m K c 11 11 R ⊢ Q (⟨orW c 11#32, Scalar.extui (orW c 11#32)⟩)) :
    RW m K c 8 8 R ⊢ WP c (ap (k0_part28 (F := F)) (w19 c) (w30 c) (orW c 8#32) (Scalar.extui (orW c 8#32))) Q := by
  unfold ap; rw [k0_part28_eq_skeleton]; unfold k0_part28_skel
  refine rwaitK m K 8 rfl (condR_iff c 8) (fun _ => rfl) (fun _ => isWait (rcvA_eq false 8 rfl) (N_slot false 8)) ?_
  refine rwaitV m K 8 rfl (condR_iff c 8) (fun _ => rfl) (fun _ => isWait (rcvA_eq true 8 rfl) (N_slot true 8)) ?_
  refine rwaitK m K 9 rfl (condR_iff c 9) (fun _ => rfl) (fun _ => isWait (rcvA_eq false 9 rfl) (N_slot false 9)) ?_
  refine rwaitV m K 9 rfl (condR_iff c 9) (fun _ => rfl) (fun _ => isWait (rcvA_eq true 9 rfl) (N_slot true 9)) ?_
  refine rwaitK m K 10 rfl (condR_iff c 10) (fun _ => rfl) (fun _ => isWait (rcvA_eq false 10 rfl) (N_slot false 10)) ?_
  refine rwaitV m K 10 rfl (condR_iff c 10) (fun _ => rfl) (fun _ => isWait (rcvA_eq true 10 rfl) (N_slot true 10)) ?_
  exact pure_s h

theorem part29 {c : Dev nD} {Q : (Σ' (v208 : BitVec 1), BitVec 1) → sProp 𝕄} {R : sProp 𝕄}
    (h : RW m K c 14 14 R ⊢ Q (⟨Scalar.xori (w30 c) 1#1, Scalar.cmpi .ne (w19 c) 14#32⟩)) :
    RW m K c 11 11 R ⊢ WP c (ap (k0_part29 (F := F)) (w19 c) (w30 c) (orW c 11#32) (Scalar.extui (orW c 11#32))) Q := by
  unfold ap; rw [k0_part29_eq_skeleton]; unfold k0_part29_skel
  refine rwaitK m K 11 rfl (condR_iff c 11) (fun _ => rfl) (fun _ => isWait (rcvA_eq false 11 rfl) (N_slot false 11)) ?_
  refine rwaitV m K 11 rfl (condR_iff c 11) (fun _ => rfl) (fun _ => isWait (rcvA_eq true 11 rfl) (N_slot true 11)) ?_
  refine rwaitK m K 12 rfl (condR_iff c 12) (fun _ => rfl) (fun _ => isWait (rcvA_eq false 12 rfl) (N_slot false 12)) ?_
  refine rwaitV m K 12 rfl (condR_iff c 12) (fun _ => rfl) (fun _ => isWait (rcvA_eq true 12 rfl) (N_slot true 12)) ?_
  refine rwaitK m K 13 rfl (condR_iff c 13) (fun _ => rfl) (fun _ => isWait (rcvA_eq false 13 rfl) (N_slot false 13)) ?_
  refine rwaitV m K 13 rfl (condR_iff c 13) (fun _ => rfl) (fun _ => isWait (rcvA_eq true 13 rfl) (N_slot true 13)) ?_
  exact pure_s h

end Cert.KP

end
-- ==== Proof.K.Attn.lean ====
/-
The attention of one device: sixteen blocks, each read from the queries and the gathered slots and stored into the context.
-/
module

public import proofs.«01_k».proof.Proof.K.PartsWait

@[expose] public section

set_option maxRecDepth 10000

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## The state during attention -/

abbrev qB (c : Dev nD) (t : Fin 16) : S64x64.Idx → Elt F .bf16 := fun j => qX m c ((blkR t).emb j)
abbrev kB (kv : Bool) (c : Dev nD) (t : Fin 16) : S16x1x64x64.Idx → Elt F .bf16 := fun j => gX m kv c ((kvR t).emb j)

/-- The context holds blocks `0 … n - 1`. -/
def Done (c : Dev nD) (n : ℕ) (X : S256x256.Idx → Elt F .f32) : Prop := ∀ t : Fin 16, (t : ℕ) < n → ∀ j, X ((blkR t).emb j) = blkV m c t j

def AS (c : Dev nD) (n : ℕ) (R : sProp 𝕄) : sProp 𝕄 :=
  iprop(∃ X, ⌜Done m c n X⌝ ∗ ow c ctxM X ∗ ow c qM (qX m c) ∗ ow c (gM false) (gX m false c) ∗ ow c (gM true) (gX m true c) ∗ R)

theorem as_intro (c : Dev nD) (n : ℕ) (R : sProp 𝕄) (X) (h : Done m c n X) :
    iprop(ow c ctxM X ∗ ow c qM (qX m c) ∗ ow c (gM false) (gX m false c) ∗ ow c (gM true) (gX m true c) ∗ R) ⊢ AS m c n R := by
  unfold AS
  iintro H
  iexists X
  isplitr
  · ipureintro; exact h
  iexact H

theorem mem_blk (t : Fin 16) (i : S256x256.Idx) : i ∈ (blkR t).set ↔ ((i 0 : ℕ) / 64 = (t : ℕ) / 4 ∧ (i 1 : ℕ) / 64 = (t : ℕ) % 4) := by
  rw [Rect.mem_set_unit]
  constructor
  · intro h
    have h0 : 64 * ((t : ℕ) / 4) ≤ (i 0 : ℕ) ∧ (i 0 : ℕ) < 64 * ((t : ℕ) / 4) + 64 := h 0
    have h1 : 64 * ((t : ℕ) % 4) ≤ (i 1 : ℕ) ∧ (i 1 : ℕ) < 64 * ((t : ℕ) % 4) + 64 := h 1
    omega
  · intro h a
    match a with
    | ⟨0, _⟩ => exact (show 64 * ((t : ℕ) / 4) ≤ (i 0 : ℕ) ∧ (i 0 : ℕ) < 64 * ((t : ℕ) / 4) + 64 by omega)
    | ⟨1, _⟩ => exact (show 64 * ((t : ℕ) % 4) ≤ (i 1 : ℕ) ∧ (i 1 : ℕ) < 64 * ((t : ℕ) % 4) + 64 by omega)

theorem done_store (c : Dev nD) (t : Fin 16) {n : ℕ} (hn : n = t) {X} (h : Done m c n X) : Done m c (t + 1) ((blkR t).overlay X (blkV m c t)) := by
  subst hn
  intro t' ht j
  by_cases e : t' = t
  · subst e; exact Rect.overlay_emb ..
  · have hne : (t' : ℕ) ≠ t := fun h => e (Fin.ext h)
    have hm : (blkR t').emb j ∈ (blkR t').set := by
      rw [← Rect.map_emb_univ]; exact Finset.mem_map_of_mem _ (Finset.mem_univ _)
    rw [Rect.overlay_of_not_mem]
    · exact h t' (by omega) j
    · intro hh
      have h1 := (mem_blk t _).mp hh
      have h2 := (mem_blk t' _).mp hm
      omega

theorem done_all (c : Dev nD) {X} (h : Done m c 16 X) : X = ctxX m c := by
  funext i
  have e : (blkR (blkOf i)).emb (blkIx i) = i := by
    have h0 : (i 0 : ℕ) < 256 := (i 0).isLt
    have h1 : (i 1 : ℕ) < 256 := (i 1).isLt
    funext a
    match a with
    | ⟨0, _⟩ => exact Fin.ext (show 64 * ((4 * ((i 0 : ℕ) / 64) + (i 1 : ℕ) / 64) / 4) + 1 * ((i 0 : ℕ) % 64) = (i 0 : ℕ) by omega)
    | ⟨1, _⟩ => exact Fin.ext (show 64 * ((4 * ((i 0 : ℕ) / 64) + (i 1 : ℕ) / 64) % 4) + 1 * ((i 1 : ℕ) % 64) = (i 1 : ℕ) by omega)
  rw [← e, h _ (blkOf i).isLt, e]
  rfl

section
variable {c : Dev nD} {α : Type} {n : ℕ}

theorem readQ {Q : α → sProp 𝕄} {R : sProp 𝕄} (t : Fin 16) {hl} {k : (S64x64.Idx → Elt F .bf16) → Prog (TpuEff nD τ sig (Elt F) Λ₀ .tc) α}
    (h : AS m c n R ⊢ WP c (k (qB m c t)) Q) : AS m c n R ⊢ WP c (Prog.lift (.load qM (blkR t).toLoadRect hl) >>= k) Q := by
  refine lift_s ?_
  conv => lhs; unfold AS
  iintro ⟨%X, %hX, Hc, Hq, Hk, Hv, HR⟩
  iapply (load_step (X := qX m c) (R := iprop(ow c ctxM X ∗ ow c (gM false) (gX m false c) ∗ ow c (gM true) (gX m true c) ∗ R)) (ent (ent ?_ (as_intro m c n R X hX)) h))
  rotate_left
  · isplitl [Hq]; · iexact Hq
    isplitl [Hc]; · iexact Hc
    isplitl [Hk]; · iexact Hk
    isplitl [Hv]; · iexact Hv
    iexact HR
  · iintro ⟨Hq, Hc, Hk, Hv, HR⟩
    isplitl [Hc]; · iexact Hc
    isplitl [Hq]; · iexact Hq
    isplitl [Hk]; · iexact Hk
    isplitl [Hv]; · iexact Hv
    iexact HR

theorem readG {Q : α → sProp 𝕄} {R : sProp 𝕄} (kv : Bool) (t : Fin 16) {hl} {k : (S16x1x64x64.Idx → Elt F .bf16) → Prog (TpuEff nD τ sig (Elt F) Λ₀ .tc) α}
    (h : AS m c n R ⊢ WP c (k (kB m kv c t)) Q) : AS m c n R ⊢ WP c (Prog.lift (.load (gM kv) (kvR t).toLoadRect hl) >>= k) Q := by
  refine lift_s ?_
  conv => lhs; unfold AS
  iintro ⟨%X, %hX, Hc, Hq, Hk, Hv, HR⟩
  cases kv
  · iapply (load_step (X := gX m false c) (R := iprop(ow c ctxM X ∗ ow c qM (qX m c) ∗ ow c (gM true) (gX m true c) ∗ R)) (ent (ent ?_ (as_intro m c n R X hX)) h))
    rotate_left
    · isplitl [Hk]; · iexact Hk
      isplitl [Hc]; · iexact Hc
      isplitl [Hq]; · iexact Hq
      isplitl [Hv]; · iexact Hv
      iexact HR
    · iintro ⟨Hk, Hc, Hq, Hv, HR⟩
      isplitl [Hc]; · iexact Hc
      isplitl [Hq]; · iexact Hq
      isplitl [Hk]; · iexact Hk
      isplitl [Hv]; · iexact Hv
      iexact HR
  · iapply (load_step (X := gX m true c) (R := iprop(ow c ctxM X ∗ ow c qM (qX m c) ∗ ow c (gM false) (gX m false c) ∗ R)) (ent (ent ?_ (as_intro m c n R X hX)) h))
    rotate_left
    · isplitl [Hv]; · iexact Hv
      isplitl [Hc]; · iexact Hc
      isplitl [Hq]; · iexact Hq
      isplitl [Hk]; · iexact Hk
      iexact HR
    · iintro ⟨Hv, Hc, Hq, Hk, HR⟩
      isplitl [Hc]; · iexact Hc
      isplitl [Hq]; · iexact Hq
      isplitl [Hk]; · iexact Hk
      isplitl [Hv]; · iexact Hv
      iexact HR

/-- A read of the context whose value is not used. -/
theorem peekC {Q : α → sProp 𝕄} {R : sProp 𝕄} {r : LoadRect S256x256} {hl} {k : (r.shape.Idx → Elt F .f32) → Prog (TpuEff nD τ sig (Elt F) Λ₀ .tc) α}
    (h : ∀ x, AS m c n R ⊢ WP c (k x) Q) : AS m c n R ⊢ WP c (Prog.lift (.load ctxM r hl) >>= k) Q := by
  refine lift_s ?_
  conv => lhs; unfold AS
  iintro ⟨%X, %hX, Hc, HR⟩
  iapply (load_step (X := X) (R := iprop(ow c qM (qX m c) ∗ ow c (gM false) (gX m false c) ∗ ow c (gM true) (gX m true c) ∗ R)) (ent (as_intro m c n R X hX) (h _)))
  isplitl [Hc]; · iexact Hc
  iexact HR

theorem putC {Q : α → sProp 𝕄} {R : sProp 𝕄} (t : Fin 16) (hn : n = t) {w : S64x64.Idx → Elt F .f32} (hw : w = blkV m c t) {hx} {hm}
    {k : PUnit → Prog (TpuEff nD τ sig (Elt F) Λ₀ .tc) α}
    (h : AS m c (t + 1) R ⊢ WP c (k ⟨⟩) Q) : AS m c n R ⊢ WP c (Prog.lift (.store ctxM (blkR t) w Finset.univ hx hm) >>= k) Q := by
  refine lift_s ?_
  subst hw
  conv => lhs; unfold AS
  iintro ⟨%X, %hX, Hc, HR⟩
  iapply (store_step (X := X) (R := iprop(ow c qM (qX m c) ∗ ow c (gM false) (gX m false c) ∗ ow c (gM true) (gX m true c) ∗ R))
    (ent (as_intro m c (t + 1) R _ (done_store m c t hn hX)) h))
  isplitl [Hc]; · iexact Hc
  iexact HR

end

/-! ## From the receives to attention -/

/-- What the receives leave besides the gathered slots. -/
def RZ (c : Dev nD) (R : sProp 𝕄) : sProp 𝕄 :=
  iprop(Prs m K ∗ owe c (remS c) ∗ (bigSep Finset.univ fun s : Fin 16 => semVal (cell c (.rcv false s)) 0) ∗ (bigSep Finset.univ fun s : Fin 16 => semVal (cell c (.rcv true s)) 0) ∗ R)

theorem fr_all (kv : Bool) (c : Dev nD) :
    bigSep Finset.univ (fr m kv c 16) ⊢ iprop((bigSep Finset.univ fun s : Fin 16 => semVal (cell c (.rcv kv s)) 0) ∗ ow c (gM kv) (gX m kv c)) := by
  have e : bigSep Finset.univ (fr m kv c 16) = iprop((bigSep Finset.univ fun s : Fin 16 => semVal (cell c (.rcv kv s)) 0)
      ∗ bigSep Finset.univ fun s => ow c (slotM kv s) (chunkX m kv (dv s) c)) := by
    rw [← bigSep_sep']
    exact bigSep_congr fun s _ => by unfold fr; rw [if_pos s.isLt]
  rw [e]
  iintro ⟨H1, H2⟩
  isplitl [H1]; · iexact H1
  iapply (slots_join m c kv); iexact H2

theorem rw_as (c : Dev nD) (R : sProp 𝕄) : RW m K c 16 16 iprop(ow c qM (qX m c) ∗ owX c ctxM ∗ R) ⊢ AS m c 0 (RZ m K c R) := by
  have h : ∀ X, iprop(ow c ctxM X ∗ ow c qM (qX m c) ∗ ow c (gM false) (gX m false c) ∗ ow c (gM true) (gX m true c) ∗ RZ m K c R) ⊢ AS m c 0 (RZ m K c R) :=
    fun X => as_intro m c 0 _ X (fun t ht => absurd ht (Nat.not_lt_zero _))
  unfold RW TF owX
  iintro ⟨HI, HO, HF, HG, Hq, ⟨%X, Hc⟩, HR⟩
  ihave HF' := (fr_all m false c) $$ HF
  icases HF' with ⟨Hs, Hk⟩
  ihave HG' := (fr_all m true c) $$ HG
  icases HG' with ⟨Ht, Hv⟩
  iapply (h X)
  isplitl [Hc]; · iexact Hc
  isplitl [Hq]; · iexact Hq
  isplitl [Hk]; · iexact Hk
  isplitl [Hv]; · iexact Hv
  unfold RZ
  isplitl [HI]; · iexact HI
  isplitl [HO]; · iexact HO
  isplitl [Hs]; · iexact Hs
  isplitl [Ht]; · iexact Ht
  iexact HR

theorem part30 {c : Dev nD} {Q : (Σ' (v228 : FVec F S1024x64 .bf16) (v229 : FVec F S64x1024 .f32), FVec F S64x1 .f32) → sProp 𝕄} {R : sProp 𝕄}
    (h : AS m c 0 (RZ m K c R) ⊢ Q ⟨k0_pay23 (kB m true c 0), k0_pay24 (qB m c 0) (kB m false c 0), k0_pay25 (qB m c 0) (kB m false c 0)⟩) :
    RW m K c 14 14 iprop(ow c qM (qX m c) ∗ owX c ctxM ∗ R) ⊢ WP c (ap (k0_part30 (F := F)) (w19 c) (w30 c) (Scalar.xori (w30 c) 1#1) (Scalar.cmpi .ne (w19 c) 14#32)) Q := by
  unfold ap; rw [k0_part30_eq_skeleton]; unfold k0_part30_skel
  refine rwaitK m K 14 rfl (condR_iff c 14) (fun _ => rfl) (fun _ => isWait (rcvA_eq false 14 rfl) (N_slot false 14)) ?_
  refine rwaitV m K 14 rfl (condR_iff c 14) (fun _ => rfl) (fun _ => isWait (rcvA_eq true 14 rfl) (N_slot true 14)) ?_
  refine rwaitK m K 15 rfl (condR_iff c 15) (fun _ => rfl) (fun _ => isWait (rcvA_eq false 15 rfl) (N_slot false 15)) ?_
  refine rwaitV m K 15 rfl (condR_iff c 15) (fun _ => rfl) (fun _ => isWait (rcvA_eq true 15 rfl) (N_slot true 15)) ?_
  refine ent (rw_as m K c R) ?_
  refine readQ m 0 ?_
  refine readG m false 0 ?_
  refine readG m true 0 ?_
  exact pure_s h

theorem part31 {c : Dev nD} {Q : Vec F S64x64 .bf16 → sProp 𝕄} {R : sProp 𝕄} (h : AS m c 2 R ⊢ Q (qB m c 2)) :
    AS m c 0 R ⊢ WP c (ap (k0_part31 (F := F)) (k0_pay23 (kB m true c 0)) (k0_pay24 (qB m c 0) (kB m false c 0)) (k0_pay25 (qB m c 0) (kB m false c 0))) Q := by
  unfold ap; rw [k0_part31_eq_skeleton]; unfold k0_part31_skel
  refine peekC m fun _ => ?_
  refine putC m 0 rfl rfl ?_
  refine readQ m 1 ?_
  refine readG m false 1 ?_
  refine readG m true 1 ?_
  refine peekC m fun _ => ?_
  refine putC m 1 rfl rfl ?_
  refine readQ m 2 ?_
  exact pure_s h

theorem part32 {c : Dev nD} {Q : (Σ' (v294 : FVec F S1024x64 .bf16), FVec F S64x1024 .f32) → sProp 𝕄} {R : sProp 𝕄} (h : AS m c 3 R ⊢ Q ⟨k0_pay29 (kB m true c 3), k0_pay30 (qB m c 3) (kB m false c 3)⟩) :
    AS m c 2 R ⊢ WP c (ap (k0_part32 (F := F)) (qB m c 2)) Q := by
  unfold ap; rw [k0_part32_eq_skeleton]; unfold k0_part32_skel
  refine readG m false 2 ?_
  refine readG m true 2 ?_
  refine peekC m fun _ => ?_
  refine putC m 2 rfl rfl ?_
  refine readQ m 3 ?_
  refine readG m false 3 ?_
  refine readG m true 3 ?_
  exact pure_s h

theorem part33 {c : Dev nD} {Q : Vec F S64x64 .bf16 → sProp 𝕄} {R : sProp 𝕄} (h : AS m c 5 R ⊢ Q (qB m c 5)) :
    AS m c 3 R ⊢ WP c (ap (k0_part33 (F := F)) (k0_pay29 (kB m true c 3)) (k0_pay30 (qB m c 3) (kB m false c 3))) Q := by
  unfold ap; rw [k0_part33_eq_skeleton]; unfold k0_part33_skel
  refine peekC m fun _ => ?_
  refine putC m 3 rfl rfl ?_
  refine readQ m 4 ?_
  refine readG m false 4 ?_
  refine readG m true 4 ?_
  refine peekC m fun _ => ?_
  refine putC m 4 rfl rfl ?_
  refine readQ m 5 ?_
  exact pure_s h

theorem part34 {c : Dev nD} {Q : (Σ' (v360 : FVec F S1024x64 .bf16) (v366 : FVec F S64x1024 .f32), FVec F S64x1 .f32) → sProp 𝕄} {R : sProp 𝕄} (h : AS m c 6 R ⊢ Q ⟨k0_pay34 (kB m true c 6), k0_pay35 (qB m c 6) (kB m false c 6), k0_pay36 (qB m c 6) (kB m false c 6)⟩) :
    AS m c 5 R ⊢ WP c (ap (k0_part34 (F := F)) (qB m c 5)) Q := by
  unfold ap; rw [k0_part34_eq_skeleton]; unfold k0_part34_skel
  refine readG m false 5 ?_
  refine readG m true 5 ?_
  refine peekC m fun _ => ?_
  refine putC m 5 rfl rfl ?_
  refine readQ m 6 ?_
  refine readG m false 6 ?_
  refine readG m true 6 ?_
  exact pure_s h

theorem part35 {c : Dev nD} {Q : (Σ' (v398 : Vec F S64x64 .bf16), FVec F S16x64x64 .bf16) → sProp 𝕄} {R : sProp 𝕄} (h : AS m c 8 R ⊢ Q ⟨(qB m c 8), k0_pay39 (kB m false c 8)⟩) :
    AS m c 6 R ⊢ WP c (ap (k0_part35 (F := F)) (k0_pay34 (kB m true c 6)) (k0_pay35 (qB m c 6) (kB m false c 6)) (k0_pay36 (qB m c 6) (kB m false c 6))) Q := by
  unfold ap; rw [k0_part35_eq_skeleton]; unfold k0_part35_skel
  refine peekC m fun _ => ?_
  refine putC m 6 rfl rfl ?_
  refine readQ m 7 ?_
  refine readG m false 7 ?_
  refine readG m true 7 ?_
  refine peekC m fun _ => ?_
  refine putC m 7 rfl rfl ?_
  refine readQ m 8 ?_
  refine readG m false 8 ?_
  exact pure_s h

theorem part36 {c : Dev nD} {Q : (Σ' (v426 : FVec F S1024x64 .bf16), FVec F S64x1024 .bf16) → sProp 𝕄} {R : sProp 𝕄} (h : AS m c 9 R ⊢ Q ⟨k0_pay41 (kB m true c 9), k0_pay42 (qB m c 9) (kB m false c 9)⟩) :
    AS m c 8 R ⊢ WP c (ap (k0_part36 (F := F)) (qB m c 8) (k0_pay39 (kB m false c 8))) Q := by
  unfold ap; rw [k0_part36_eq_skeleton]; unfold k0_part36_skel
  refine readG m true 8 ?_
  refine peekC m fun _ => ?_
  refine putC m 8 rfl rfl ?_
  refine readQ m 9 ?_
  refine readG m false 9 ?_
  refine readG m true 9 ?_
  exact pure_s h

theorem part37 {c : Dev nD} {Q : (Σ' (v464 : Vec F S64x64 .bf16), FVec F S16x64x64 .bf16) → sProp 𝕄} {R : sProp 𝕄} (h : AS m c 11 R ⊢ Q ⟨(qB m c 11), k0_pay45 (kB m false c 11)⟩) :
    AS m c 9 R ⊢ WP c (ap (k0_part37 (F := F)) (k0_pay41 (kB m true c 9)) (k0_pay42 (qB m c 9) (kB m false c 9))) Q := by
  unfold ap; rw [k0_part37_eq_skeleton]; unfold k0_part37_skel
  refine peekC m fun _ => ?_
  refine putC m 9 rfl rfl ?_
  refine readQ m 10 ?_
  refine readG m false 10 ?_
  refine readG m true 10 ?_
  refine peekC m fun _ => ?_
  refine putC m 10 rfl rfl ?_
  refine readQ m 11 ?_
  refine readG m false 11 ?_
  exact pure_s h

theorem part38 {c : Dev nD} {Q : FVec F S64x64 .f32 → sProp 𝕄} {R : sProp 𝕄} (h : AS m c 12 R ⊢ Q (k0_pay47 (qB m c 12) (kB m false c 12) (kB m true c 12))) :
    AS m c 11 R ⊢ WP c (ap (k0_part38 (F := F)) (qB m c 11) (k0_pay45 (kB m false c 11))) Q := by
  unfold ap; rw [k0_part38_eq_skeleton]; unfold k0_part38_skel
  refine readG m true 11 ?_
  refine peekC m fun _ => ?_
  refine putC m 11 rfl rfl ?_
  refine readQ m 12 ?_
  refine readG m false 12 ?_
  refine readG m true 12 ?_
  exact pure_s h

theorem part39 {c : Dev nD} {Q : (Σ' (v530 : Vec F S64x64 .bf16) (v534 : FVec F S16x64x64 .bf16), FVec F S1024x64 .bf16) → sProp 𝕄} {R : sProp 𝕄} (h : AS m c 14 R ⊢ Q ⟨(qB m c 14), k0_pay50 (kB m true c 14), k0_pay51 (kB m false c 14)⟩) :
    AS m c 12 R ⊢ WP c (ap (k0_part39 (F := F)) (k0_pay47 (qB m c 12) (kB m false c 12) (kB m true c 12))) Q := by
  unfold ap; rw [k0_part39_eq_skeleton]; unfold k0_part39_skel
  refine peekC m fun _ => ?_
  refine putC m 12 rfl rfl ?_
  refine readQ m 13 ?_
  refine readG m false 13 ?_
  refine readG m true 13 ?_
  refine peekC m fun _ => ?_
  refine putC m 13 rfl rfl ?_
  refine readQ m 14 ?_
  refine readG m false 14 ?_
  refine readG m true 14 ?_
  exact pure_s h

theorem part40 {c : Dev nD} {Q : FVec F S64x64 .f32 → sProp 𝕄} {R : sProp 𝕄} (h : AS m c 15 R ⊢ Q (k0_pay53 (qB m c 15) (kB m false c 15) (kB m true c 15))) :
    AS m c 14 R ⊢ WP c (ap (k0_part40 (F := F)) (qB m c 14) (k0_pay50 (kB m true c 14)) (k0_pay51 (kB m false c 14))) Q := by
  unfold ap; rw [k0_part40_eq_skeleton]; unfold k0_part40_skel
  refine peekC m fun _ => ?_
  refine putC m 14 rfl rfl ?_
  refine readQ m 15 ?_
  refine readG m false 15 ?_
  refine readG m true 15 ?_
  refine peekC m fun _ => ?_
  exact pure_s h

end Cert.KP

end
-- ==== Proof.K.Ar.lean ====
/-
The output projection and the five rounds of pairwise exchange.
-/
module

public import proofs.«01_k».proof.Proof.K.Attn

@[expose] public section

set_option maxRecDepth 10000

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## Devices, semaphores and slots of the exchange -/

theorem dev97_eq : ∀ c : Dev nD, (⟨k0_dev97 c, k0_dev97_lt c⟩ : Dev nD) = pr 0 c := by decide +kernel
theorem dev98_eq : ∀ c : Dev nD, (⟨k0_dev98 c, k0_dev98_lt c⟩ : Dev nD) = pr 1 c := by decide +kernel
theorem dev99_eq : ∀ c : Dev nD, (⟨k0_dev99 c, k0_dev99_lt c⟩ : Dev nD) = pr 2 c := by decide +kernel
theorem dev100_eq : ∀ c : Dev nD, (⟨k0_dev100 c, k0_dev100_lt c⟩ : Dev nD) = pr 3 c := by decide +kernel
theorem dev101_eq : ∀ c : Dev nD, (⟨k0_dev101 c, k0_dev101_lt c⟩ : Dev nD) = pr 4 c := by decide +kernel

theorem inb_s5 (r : Fin 5) : ∀ a, (![(r : ℕ)] : Fin 1 → ℕ) a + S1.size a ≤ S5.size a := by revert r; decide +kernel
theorem arsA_eq (r : Fin 5) : (SemLoc.dma (((cc0_scratch12 : DmaSems sig S5).slice (Rect.unit (s := S5) ![(r : ℕ)] S1.size (inb_s5 r))).squeeze S_ squeezes_S1_S_).sem : SemLoc sig) = csem (.ars r) := by
  revert r; decide +kernel
theorem arrA_eq (r : Fin 5) : (SemLoc.dma (((cc0_scratch13 : DmaSems sig S5).slice (Rect.unit (s := S5) ![(r : ℕ)] S1.size (inb_s5 r))).squeeze S_ squeezes_S1_S_).sem : SemLoc sig) = csem (.arr r) := by
  revert r; decide +kernel

/-- Reading a whole array gives the array. -/
theorem emb_all {s : Shape} (off : Fin s.rank → ℕ) (hl) (h0 : ∀ a, off a = 0) (i : s.Idx) : (Rect.unit (s := s) off s.size hl).emb i = i := by
  funext a; refine Fin.ext ?_
  show off a + 1 * (i a : ℕ) = i a
  rw [h0, Nat.zero_add, Nat.one_mul]

/-- A read of part of an array of which only that part is held. -/
theorem load_part {c : Dev nD} {α : Type} {Q : α → sProp 𝕄} {R : sProp 𝕄} {cs : CoreSpace} {s : Shape} {e : EltTy} {M : Memref sig .tc cs s e} {r : Rect s} {hh}
    {hl : M.view.LoadsAt r.toLoadRect} {k : (r.shape.Idx → Elt F e) → Prog (TpuEff nD τ sig (Elt F) Λ₀ .tc) α} {Y : r.shape.Idx → Elt F e}
    (h : iprop(ow c (M.slice r hh) Y ∗ R) ⊢ WP c (k Y) Q) :
    iprop(ow c (M.slice r hh) Y ∗ R) ⊢ WP c (.op (.load M r.toLoadRect hl) k) Q := by
  rw [ow_unfold]
  iintro ⟨⟨%f, %hf, H⟩, HR⟩
  rw [WP_eq]
  iapply (wp_load 𝒱₀ (c : Thread nD τ) none Set.univ (m := M) (S := (M.slice r hh).view.set) (q := fullShare) (f := f)
    (by
      refine (Finset.Subset.trans ?_ (le_of_eq (View.set_slice M.view r).symm))
      exact Finset.map_subset_map.mpr (fun x hx => hx))) $$ H
  iintro H
  have hv : M.view.readAt (Elt F) r.toLoadRect f = Y := by rw [← hf]; rfl
  rw [hv]
  rw [← WP_eq]
  iapply h
  isplitl [H]
  · rw [ow_unfold]; iexists f; isplitr
    · ipureintro; exact hf
    iexact H
  iexact HR

theorem load_all {c : Dev nD} {α : Type} {Q : α → sProp 𝕄} {R : sProp 𝕄} {cs : CoreSpace} {s : Shape} {e : EltTy} {M : Memref sig .tc cs s e} (off : Fin s.rank → ℕ) {hi}
    (h0 : ∀ a, off a = 0) {hl} {k : (s.Idx → Elt F e) → Prog (TpuEff nD τ sig (Elt F) Λ₀ .tc) α} {X : s.Idx → Elt F e}
    (h : iprop(ow c M X ∗ R) ⊢ WP c (k X) Q) :
    iprop(ow c M X ∗ R) ⊢ WP c (Prog.lift (.load M (Rect.unit (s := s) off s.size hi).toLoadRect hl) >>= k) Q := by
  refine lift_s (load_step (X := X) (h.trans (Entails.of_eq ?_)))
  exact congrArg (fun v => WP c (k v) Q) (funext fun j => congrArg X (emb_all off hi h0 j).symm)

/-! ## The state of the exchange -/

/-- Round `r` of the exchange when the first `n` rounds are over. -/
def fa (c : Dev nD) (n : ℕ) (r : Fin 5) : sProp 𝕄 :=
  if (r : ℕ) < n then iprop(semVal (cell c (.ars r)) 0 ∗ semVal (cell c (.arr r)) 0 ∗ ow c (arSlotM r) (accX m r (pr r c)))
  else iprop(atPos ER (cell c (.ars r)) 0 ∅ 0 ∗ atPos ER (cell c (.arr r)) 0 ∅ 0 ∗ cred (tallyAt (cell c (.arr r)) () Nar)
    ∗ dutyTok ER (cell c (.ars r)) 0 c ∗ dutyTok ER (cell (pr r c) (.arr r)) 0 c ∗ owX (pr r c) (arSlotM r))

def AR (c : Dev nD) (no na n : ℕ) (R : sProp 𝕄) : sProp 𝕄 :=
  iprop(Prs m K ∗ owe c (rem c 32 32 32 no) ∗ ow c accM (accX m na c) ∗ bigSep Finset.univ (fa m c n) ∗ R)

/-- Round `r` sent, its receive still awaited. -/
def AM (c : Dev nD) (r : Fin 5) (R : sProp 𝕄) : sProp 𝕄 :=
  iprop(Prs m K ∗ owe c (rem c 32 32 32 (r + 1)) ∗ ow c accM (accX m r c) ∗ (semVal (cell c (.ars r)) 0 ∗ atPos ER (cell c (.arr r)) 0 ∅ 0 ∗ cred (tallyAt (cell c (.arr r)) () Nar))
    ∗ (fa m c (r + 1) r -∗ bigSep Finset.univ (fa m c (r + 1))) ∗ R)

theorem fa_step (c : Dev nD) (r : Fin 5) :
    bigSep Finset.univ (fa m c r) ⊢ iprop(fa m c r r ∗ (fa m c (r + 1) r -∗ bigSep Finset.univ (fa m c (r + 1)))) :=
  fam_step1 (F := F) (f := fa m c r) (g := fa m c (r + 1)) r (fun d hd => by
    have hd : (d : ℕ) ≠ r := fun h => hd (Fin.ext h)
    unfold fa
    by_cases h1 : (d : ℕ) < r
    · rw [if_pos h1, if_pos (show (d : ℕ) < r + 1 by omega)]
    · rw [if_neg h1, if_neg (show ¬ (d : ℕ) < r + 1 by omega)])
theorem fa_before (c : Dev nD) (r : Fin 5) : fa m c r r = iprop(atPos ER (cell c (.ars r)) 0 ∅ 0 ∗ atPos ER (cell c (.arr r)) 0 ∅ 0 ∗ cred (tallyAt (cell c (.arr r)) () Nar)
    ∗ dutyTok ER (cell c (.ars r)) 0 c ∗ dutyTok ER (cell (pr r c) (.arr r)) 0 c ∗ owX (pr r c) (arSlotM r)) := by
  unfold fa; rw [if_neg (Nat.lt_irrefl _)]
theorem fa_after (c : Dev nD) (r : Fin 5) : fa m c (r + 1) r = iprop(semVal (cell c (.ars r)) 0 ∗ semVal (cell c (.arr r)) 0 ∗ ow c (arSlotM r) (accX m r (pr r c))) := by
  unfold fa; rw [if_pos (Nat.lt_succ_self _)]

section
variable {c : Dev nD} {α : Type}

/-- The send of round `r` and the wait for it. -/
theorem arsend {Q : α → sProp 𝕄} {R : sProp 𝕄} (r : Fin 5) {n : Dev nD} (hn : n = pr r c) {sS sem : SemLoc sig} {sw : DmaSem sig} {dst : Memref sig .tc .vmem S256x512 .f32}
    {src' : Memref sig .tc .vmem S256x512 .f32}
    (hS : sS = csem (.ars r)) (hR : sem = csem (.arr r)) (hw : SemLoc.dma sw = csem (.ars r)) (hd : dst = arSlotM r)
    {hsc : (dst : Memref sig (Dev.tc n : Thread nD τ).2.kind .vmem S256x512 .f32).view.ref.isScScratch = false}
    {hsrc : (accM : Memref sig .tc .vmem S256x512 .f32).view.WordExact} {hdst : dst.view.WordExact}
    {hsem : DmaTarget.Typed .vmem sem (.remote (Dev.tc n : Thread nD τ) dst sS hsc)} {h1} {h2}
    {kk : Prog (TpuEff nD τ sig (Elt F) Λ₀ .tc) α}
    (h : AM m K c r R ⊢ WP c kk Q) :
    AR m K c r r r R ⊢ WP c (.op (.enqueueDma accM (.remote (Dev.tc n : Thread nD τ) dst sS hsc) sem hsrc hdst hsem) fun _ => .op (.waitDma2 sw src' accM h1 h2) fun _ => kk) Q := by
  subst hn; subst hd
  have hT := fa_step m c r
  rw [fa_before] at hT
  refine ent ?_ (send_step (R := iprop(atPos ER (cell c (.ars r)) 0 ∅ 0 ∗ atPos ER (cell c (.arr r)) 0 ∅ 0 ∗ cred (tallyAt (cell c (.arr r)) () Nar)
      ∗ (fa m c (r + 1) r -∗ bigSep Finset.univ (fa m c (r + 1))) ∗ R)) m K
      (pr r c) (pr r c) rfl (.ars r) (.arr r) (dst := arSlotM r) hS hR Nar (N_ar r) rfl rfl (Finset.mem_singleton_self _)
      (by show c ∈ ({pr r (pr r c)} : Finset (Dev nD)); rw [pr_pr]; exact Finset.mem_singleton_self _)
      (accX m r c) rfl (by show ow (pr r c) (arSlotM r) (accX m r (pr r (pr r c))) = _; rw [pr_pr]) (rem_ar c r) ?_)
  · unfold AR
    iintro ⟨HI, HO, Hacc, HF, HR⟩
    ihave H' := hT $$ HF
    icases H' with ⟨⟨Ha, Hb, Hc, Ht1, Ht2, Hs⟩, HF⟩
    isplitl [HI]; · iexact HI
    isplitl [HO]; · iexact HO
    isplitl [Ht1]; · iexact Ht1
    isplitl [Ht2]; · iexact Ht2
    isplitl [Hacc]; · iexact Hacc
    isplitl [Hs]; · iexact Hs
    isplitl [Ha]; · iexact Ha
    isplitl [Hb]; · iexact Hb
    isplitl [Hc]; · iexact Hc
    isplitl [HF]; · iexact HF
    iexact HR
  obtain ⟨w, et, hw'⟩ := isWait (F := F) (c := c) (kk := kk) (src := src') (hsrc := h1) (hdst := h2) hw N_acc
  rw [et]
  refine ent ?_ (wait_step (R := iprop(atPos ER (cell c (.arr r)) 0 ∅ 0 ∗ cred (tallyAt (cell c (.arr r)) () Nar)
      ∗ (fa m c (r + 1) r -∗ bigSep Finset.univ (fa m c (r + 1))) ∗ R)) m K (.ars r) Nar hw' (by rw [show dut c (.ars r) = {c} from rfl, Finset.card_singleton, Nat.one_mul]; rfl)
      (f := rem c 32 32 32 (r + 1)) (fun y hy => lt_of_le_of_lt (Nat.zero_le _) (lev_rcv c _ y hy)) (ent ?_ h))
  · iintro ⟨HI, Hcr, HO, Ha, Hb, Hc, HF, HR⟩
    isplitl [HI]; · iexact HI
    isplitl [HO]; · iexact HO
    isplitl [Ha]; · iexact Ha
    isplitl [Hcr]; · iexact Hcr
    isplitl [Hb]; · iexact Hb
    isplitl [Hc]; · iexact Hc
    isplitl [HF]; · iexact HF
    iexact HR
  · rw [show dut c (.ars r) = {c} from rfl, show bigSep {c} (fun d' => pay m c (.ars r) d') = ow c accM (accX m r c) from bigSep_singleton ..]
    unfold AM
    iintro ⟨HI, Hs, HO, Hacc, Hb, Hc, HF, HR⟩
    isplitl [HI]; · iexact HI
    isplitl [HO]; · iexact HO
    isplitl [Hacc]; · iexact Hacc
    isplitl [Hs Hb Hc]
    · isplitl [Hs]; · iexact Hs
      isplitl [Hb]; · iexact Hb
      iexact Hc
    isplitl [HF]; · iexact HF
    iexact HR

/-- The wait for the partner's accumulator. -/
theorem arwait {Q : α → sProp 𝕄} {R : sProp 𝕄} (r : Fin 5) {sw : DmaSem sig} {src' dst : Memref sig .tc .vmem S256x512 .f32}
    (hw : SemLoc.dma sw = csem (.arr r)) (hd : dst = arSlotM r) {h1} {h2}
    {k : PUnit → Prog (TpuEff nD τ sig (Elt F) Λ₀ .tc) α}
    (h : AR m K c (r + 1) r (r + 1) R ⊢ WP c (k ⟨⟩) Q) :
    AM m K c r R ⊢ WP c (Prog.lift (.waitDma2 sw src' dst h1 h2) >>= k) Q := by
  refine lift_s ?_
  subst hd
  obtain ⟨w, et, hw'⟩ := isWait (F := F) (c := c) (kk := k ⟨⟩) (src := src') (hsrc := h1) (hdst := h2) hw (N_ar r)
  rw [show (.op (.waitDma2 sw src' (arSlotM r) h1 h2) k : Prog (TpuEff nD τ sig (Elt F) Λ₀ .tc) α) = .op w (fun _ => k ⟨⟩) from et]
  refine ent ?_ (wait_step (R := iprop(ow c accM (accX m r c) ∗ semVal (cell c (.ars r)) 0
      ∗ (fa m c (r + 1) r -∗ bigSep Finset.univ (fa m c (r + 1))) ∗ R)) m K (.arr r) Nar hw' (by rw [show dut c (.arr r) = {pr r c} from rfl, Finset.card_singleton, Nat.one_mul]; rfl)
      (f := rem c 32 32 32 (r + 1)) (fun y hy => by have := lev_rcv c _ y hy; rw [show levK (.arr r) = 3 + r from rfl]; omega) (ent ?_ h))
  · unfold AM
    iintro ⟨HI, HO, Hacc, ⟨Hs, Hb, Hc⟩, HF, HR⟩
    isplitl [HI]; · iexact HI
    isplitl [HO]; · iexact HO
    isplitl [Hb]; · iexact Hb
    isplitl [Hc]; · iexact Hc
    isplitl [Hacc]; · iexact Hacc
    isplitl [Hs]; · iexact Hs
    isplitl [HF]; · iexact HF
    iexact HR
  · rw [show dut c (.arr r) = {pr r c} from rfl, show bigSep {pr r c} (fun d' => pay m c (.arr r) d') = ow c (arSlotM r) (accX m r (pr r c)) from bigSep_singleton .., fa_after]
    unfold AR
    iintro ⟨HI, Hs', HO, Hsl, Hacc, Hs, HF, HR⟩
    isplitl [HI]; · iexact HI
    isplitl [HO]; · iexact HO
    isplitl [Hacc]; · iexact Hacc
    isplitr [HR]
    · iapply HF
      isplitl [Hs]; · iexact Hs
      isplitl [Hs']; · iexact Hs'
      iexact Hsl
    iexact HR

/-- A read of the accumulator. -/
theorem readAcc {Q : α → sProp 𝕄} {R : sProp 𝕄} {no na n : ℕ} {hi} {hl} {k : (S256x512.Idx → Elt F .f32) → Prog (TpuEff nD τ sig (Elt F) Λ₀ .tc) α}
    (h : AR m K c no na n R ⊢ WP c (k (accX m na c)) Q) :
    AR m K c no na n R ⊢ WP c (Prog.lift (.load accM (Rect.unit (s := S256x512) ![0, 0] S256x512.size hi).toLoadRect hl) >>= k) Q := by
  refine lift_s ?_
  refine ent ?_ (load_step (X := accX m na c) (R := iprop(Prs m K ∗ owe c (rem c 32 32 32 no) ∗ bigSep Finset.univ (fa m c n) ∗ R)) (ent ?_ (h.trans (Entails.of_eq ?_))))
  · unfold AR
    iintro ⟨HI, HO, Hacc, HF, HR⟩
    iframe
  · unfold AR
    iintro ⟨Hacc, HI, HO, HF, HR⟩
    iframe
  · refine congrArg (fun v => WP c (k v) Q) (funext fun j => congrArg (accX m na c) ?_)
    exact (emb_all (s := S256x512) ![0, 0] hi (by decide) j).symm

/-- A store over the accumulator. -/
theorem putAcc {Q : α → sProp 𝕄} {R : sProp 𝕄} {no na n na' : ℕ} {hi} {hx} {hm} {w : S256x512.Idx → Elt F .f32} (hw : w = accX m na' c)
    {k : PUnit → Prog (TpuEff nD τ sig (Elt F) Λ₀ .tc) α} (h : AR m K c no na' n R ⊢ WP c (k ⟨⟩) Q) :
    AR m K c no na n R ⊢ WP c (Prog.lift (.store accM (Rect.unit (s := S256x512) ![0, 0] S256x512.size hi) w Finset.univ hx hm) >>= k) Q := by
  refine lift_s ?_
  refine ent ?_ (store_step (X := accX m na c) (R := iprop(Prs m K ∗ owe c (rem c 32 32 32 no) ∗ bigSep Finset.univ (fa m c n) ∗ R)) (ent ?_ h))
  · unfold AR
    iintro ⟨HI, HO, Hacc, HF, HR⟩
    iframe
  · rw [overlay_all (s := S256x512) ![0, 0] hi _ w (by decide), hw]
    unfold AR
    iintro ⟨Hacc, HI, HO, HF, HR⟩
    iframe

theorem unsqAr_eq (r : Fin 5) (X : S256x512.Idx → Elt F .f32) :
    (ow c (arSlotM r) X : sProp 𝕄) ⊢ ow c (arM.slice (arR r) (fun _ => rfl)) (unsqAr X) := ow_squeeze c _ _ X
theorem sqAr_eq (r : Fin 5) (X : S256x512.Idx → Elt F .f32) :
    (ow c (arM.slice (arR r) (fun _ => rfl)) (unsqAr X) : sProp 𝕄) ⊢ ow c (arSlotM r) X := by
  refine (ow_unsqueeze c _ squeezes_S1x256x512_S256x512 _).trans (Entails.of_eq (congrArg _ (funext fun j => ?_)))
  exact congrArg X (Equiv.symm_apply_apply _ _)

/-- A read of exchange slot `r`, filled. -/
theorem readAr {Q : α → sProp 𝕄} {R : sProp 𝕄} {no na : ℕ} (r : Fin 5) {hl} {k : (S1x256x512.Idx → Elt F .f32) → Prog (TpuEff nD τ sig (Elt F) Λ₀ .tc) α}
    (h : AR m K c no na (r + 1) R ⊢ WP c (k (unsqAr (accX m r (pr r c)))) Q) :
    AR m K c no na (r + 1) R ⊢ WP c (Prog.lift (.load arM (arR r).toLoadRect hl) >>= k) Q := by
  refine lift_s ?_
  have hT := fam_step1 (F := F) (f := fa m c (r + 1)) (g := fa m c (r + 1)) r (fun d hd => rfl)
  rw [fa_after] at hT
  refine ent ?_ (load_part (M := arM) (r := arR r) (hh := fun _ => rfl) (R := iprop(Prs m K ∗ owe c (rem c 32 32 32 no) ∗ ow c accM (accX m na c)
    ∗ semVal (cell c (.ars r)) 0 ∗ semVal (cell c (.arr r)) 0
    ∗ (iprop(semVal (cell c (.ars r)) 0 ∗ semVal (cell c (.arr r)) 0 ∗ ow c (arSlotM r) (accX m r (pr r c))) -∗ bigSep Finset.univ (fa m c (r + 1))) ∗ R)) (ent ?_ h))
  · unfold AR
    iintro ⟨HI, HO, Hacc, HF, HR⟩
    ihave H' := hT $$ HF
    icases H' with ⟨⟨H1, H2, H3⟩, HF⟩
    isplitl [H3]; · iapply (unsqAr_eq r _); iexact H3
    isplitl [HI]; · iexact HI
    isplitl [HO]; · iexact HO
    isplitl [Hacc]; · iexact Hacc
    isplitl [H1]; · iexact H1
    isplitl [H2]; · iexact H2
    isplitl [HF]; · iexact HF
    iexact HR
  · unfold AR
    iintro ⟨H3, HI, HO, Hacc, H1, H2, HF, HR⟩
    isplitl [HI]; · iexact HI
    isplitl [HO]; · iexact HO
    isplitl [Hacc]; · iexact Hacc
    isplitr [HR]
    · iapply HF
      isplitl [H1]; · iexact H1
      isplitl [H2]; · iexact H2
      iapply (sqAr_eq r _); iexact H3
    iexact HR

end

/-! ## From attention to the exchange -/

/-- What attention needs no more. -/
def AE (c : Dev nD) (R : sProp 𝕄) : sProp 𝕄 :=
  iprop(ow c ctxM (ctxX m c) ∗ ow c qM (qX m c) ∗ ow c (gM false) (gX m false c) ∗ ow c (gM true) (gX m true c)
    ∗ (bigSep Finset.univ fun s : Fin 16 => semVal (cell c (.rcv false s)) 0) ∗ (bigSep Finset.univ fun s : Fin 16 => semVal (cell c (.rcv true s)) 0)
    ∗ ow c (Memref.whole cc0_stg4_0) (x4 m c) ∗ R)

/-- What the exchange starts from, besides the accumulator's memory. -/
def AP (c : Dev nD) (R : sProp 𝕄) : sProp 𝕄 := iprop(bigSep Finset.univ (fa m c 0) ∗ ow c (Memref.whole cc0_stg4_0) (x4 m c) ∗ R)

theorem project {c : Dev nD} {α : Type} {Q : α → sProp 𝕄} {R : sProp 𝕄} {r1} {h1} {h2} {h3} {h4} {h5} {h6} {hx} {hm} {k : PUnit → Prog (TpuEff nD τ sig (Elt F) Λ₀ .tc) α}
    (h : AR m K c 0 0 0 (AE m c R) ⊢ WP c (k ⟨⟩) Q) :
    AS m c 16 (RZ m K c iprop(owX c accM ∗ AP m c R)) ⊢ WP c
      (Prog.lift (.load ctxM (Rect.unit (s := S256x256) ![0, 0] S256x256.size h1).toLoadRect h2) >>= fun v574 =>
        Prog.lift (.load (Memref.whole cc0_stg4_0 : Memref sig .tc .vmem S256x512 .bf16) (Rect.unit (s := S256x512) ![0, 0] S256x512.size h3).toLoadRect h4) >>= fun v576 =>
        Prog.lift (.load accM r1 h5) >>= fun _ =>
        Prog.lift (.store accM (Rect.unit (s := S256x512) ![0, 0] S256x512.size h6) (k0_pay55 v574 v576) Finset.univ hx hm) >>= k) Q := by
  have hA : ∀ Y, iprop(ow c accM Y ∗ (AE m c R ∗ Prs m K ∗ owe c (remS c) ∗ bigSep Finset.univ (fa m c 0))) ⊢ WP c
      (Prog.lift (.load accM r1 h5) >>= fun _ =>
        Prog.lift (.store accM (Rect.unit (s := S256x512) ![0, 0] S256x512.size h6) (k0_pay55 (ctxX m c) (x4 m c)) Finset.univ hx hm) >>= k) Q := fun Y => by
    refine lift_s (load_step ?_)
    refine lift_s (store_step (ent ?_ h))
    rw [overlay_all (s := S256x512) ![0, 0] h6 _ _ (by decide)]
    unfold AR
    rw [show accX m 0 c = k0_pay55 (ctxX m c) (x4 m c) from rfl]
    iintro ⟨H1, H2, H3, H4, H5⟩
    isplitl [H3]; · iexact H3
    isplitl [H4]; · iexact H4
    isplitl [H1]; · iexact H1
    isplitl [H5]; · iexact H5
    iexact H2
  have hB : ∀ Y, iprop(ow c (Memref.whole cc0_stg4_0) (x4 m c) ∗ (ow c accM Y ∗ ow c ctxM (ctxX m c) ∗ ow c qM (qX m c) ∗ ow c (gM false) (gX m false c) ∗ ow c (gM true) (gX m true c)
      ∗ (bigSep Finset.univ fun s : Fin 16 => semVal (cell c (.rcv false s)) 0) ∗ (bigSep Finset.univ fun s : Fin 16 => semVal (cell c (.rcv true s)) 0)
      ∗ Prs m K ∗ owe c (remS c) ∗ bigSep Finset.univ (fa m c 0) ∗ R)) ⊢ WP c
      (Prog.lift (.load (Memref.whole cc0_stg4_0 : Memref sig .tc .vmem S256x512 .bf16) (Rect.unit (s := S256x512) ![0, 0] S256x512.size h3).toLoadRect h4) >>= fun v576 =>
        Prog.lift (.load accM r1 h5) >>= fun _ =>
        Prog.lift (.store accM (Rect.unit (s := S256x512) ![0, 0] S256x512.size h6) (k0_pay55 (ctxX m c) v576) Finset.univ hx hm) >>= k) Q := fun Y => by
    refine load_all (s := S256x512) ![0, 0] (by decide) ?_
    refine ent ?_ (hA Y)
    unfold AE
    iintro ⟨H0, H1, H2, H3, H4, H5, H6, H7, H8, H9, H10, H11⟩
    isplitl [H1]; · iexact H1
    isplitl [H0 H2 H3 H4 H5 H6 H7 H11]
    · isplitl [H2]; · iexact H2
      isplitl [H3]; · iexact H3
      isplitl [H4]; · iexact H4
      isplitl [H5]; · iexact H5
      isplitl [H6]; · iexact H6
      isplitl [H7]; · iexact H7
      isplitl [H0]; · iexact H0
      iexact H11
    isplitl [H8]; · iexact H8
    isplitl [H9]; · iexact H9
    iexact H10
  have hC : ∀ Y, iprop(ow c ctxM (ctxX m c) ∗ (ow c qM (qX m c) ∗ ow c (gM false) (gX m false c) ∗ ow c (gM true) (gX m true c) ∗ Prs m K ∗ owe c (remS c)
      ∗ (bigSep Finset.univ fun s : Fin 16 => semVal (cell c (.rcv false s)) 0) ∗ (bigSep Finset.univ fun s : Fin 16 => semVal (cell c (.rcv true s)) 0)
      ∗ ow c accM Y ∗ bigSep Finset.univ (fa m c 0) ∗ ow c (Memref.whole cc0_stg4_0) (x4 m c) ∗ R)) ⊢ WP c
      (Prog.lift (.load ctxM (Rect.unit (s := S256x256) ![0, 0] S256x256.size h1).toLoadRect h2) >>= fun v574 =>
        Prog.lift (.load (Memref.whole cc0_stg4_0 : Memref sig .tc .vmem S256x512 .bf16) (Rect.unit (s := S256x512) ![0, 0] S256x512.size h3).toLoadRect h4) >>= fun v576 =>
        Prog.lift (.load accM r1 h5) >>= fun _ =>
        Prog.lift (.store accM (Rect.unit (s := S256x512) ![0, 0] S256x512.size h6) (k0_pay55 v574 v576) Finset.univ hx hm) >>= k) Q := fun Y => by
    refine load_all (s := S256x256) ![0, 0] (by decide) ?_
    refine ent ?_ (hB Y)
    iintro ⟨H1, H2, H3, H4, H5, H6, H7, H8, H9, H10, H11, H12⟩
    isplitl [H11]; · iexact H11
    isplitl [H9]; · iexact H9
    isplitl [H1]; · iexact H1
    isplitl [H2]; · iexact H2
    isplitl [H3]; · iexact H3
    isplitl [H4]; · iexact H4
    isplitl [H7]; · iexact H7
    isplitl [H8]; · iexact H8
    isplitl [H5]; · iexact H5
    isplitl [H6]; · iexact H6
    isplitl [H10]; · iexact H10
    iexact H12
  unfold AS RZ owX AP
  iintro ⟨%X, %hX, Hc, Hq, Hk, Hv, HI, HO, Hs, Ht, ⟨%Y, Hacc⟩, HF, H4, HR⟩
  rw [done_all m c hX]
  iapply (hC Y)
  isplitl [Hc]; · iexact Hc
  isplitl [Hq]; · iexact Hq
  isplitl [Hk]; · iexact Hk
  isplitl [Hv]; · iexact Hv
  isplitl [HI]; · iexact HI
  isplitl [HO]; · iexact HO
  isplitl [Hs]; · iexact Hs
  isplitl [Ht]; · iexact Ht
  isplitl [Hacc]; · iexact Hacc
  isplitl [HF]; · iexact HF
  isplitl [H4]; · iexact H4
  iexact HR

theorem part41 {c : Dev nD} {Q : PUnit → sProp 𝕄} {R : sProp 𝕄} (v2 : BitVec 32) (h : AM m K c 0 (AE m c R) ⊢ Q ⟨⟩) :
    AS m c 15 (RZ m K c iprop(owX c accM ∗ AP m c R)) ⊢ WP c (ap (k0_part41 (F := F)) c v2 (k0_pay53 (qB m c 15) (kB m false c 15) (kB m true c 15))) Q := by
  unfold ap; rw [k0_part41_eq_skeleton]; unfold k0_part41_skel
  refine putC m 15 rfl rfl ?_
  refine project m K ?_
  refine arsend m K 0 (dev97_eq c) (arsA_eq 0) (arrA_eq 0) (arsA_eq 0) rfl ?_
  exact pure_s h

theorem part42 {c : Dev nD} {Q : PUnit → sProp 𝕄} {R : sProp 𝕄} (v2 : BitVec 32) (h : AR m K c 2 1 2 R ⊢ Q ⟨⟩) :
    AM m K c 0 R ⊢ WP c (ap (k0_part42 (F := F)) c v2 ) Q := by
  unfold ap; rw [k0_part42_eq_skeleton]; unfold k0_part42_skel
  refine arwait m K 0 (arrA_eq 0) rfl ?_
  refine readAcc m K ?_
  refine readAr m K 0 ?_
  refine readAcc m K ?_
  refine putAcc m K (na' := 0+1) rfl ?_
  refine arsend m K 1 (dev98_eq c) (arsA_eq 1) (arrA_eq 1) (arsA_eq 1) rfl ?_
  refine arwait m K 1 (arrA_eq 1) rfl ?_
  exact pure_s h

theorem part43 {c : Dev nD} {Q : Vec F S256x512 .f32 → sProp 𝕄} {R : sProp 𝕄} (v2 : BitVec 32) (h : AR m K c 3 2 3 R ⊢ Q (accX m 2 c)) :
    AR m K c 2 1 2 R ⊢ WP c (ap (k0_part43 (F := F)) c v2 ) Q := by
  unfold ap; rw [k0_part43_eq_skeleton]; unfold k0_part43_skel
  refine readAcc m K ?_
  refine readAr m K 1 ?_
  refine readAcc m K ?_
  refine putAcc m K (na' := 1+1) rfl ?_
  refine arsend m K 2 (dev99_eq c) (arsA_eq 2) (arrA_eq 2) (arsA_eq 2) rfl ?_
  refine arwait m K 2 (arrA_eq 2) rfl ?_
  refine readAcc m K ?_
  exact pure_s h

theorem part44 {c : Dev nD} {Q : Vec F S256x512 .f32 → sProp 𝕄} {R : sProp 𝕄} (v2 : BitVec 32) (h : AR m K c 4 3 4 R ⊢ Q (accX m 3 c)) :
    AR m K c 3 2 3 R ⊢ WP c (ap (k0_part44 (F := F)) c v2 (accX m 2 c)) Q := by
  unfold ap; rw [k0_part44_eq_skeleton]; unfold k0_part44_skel
  refine readAr m K 2 ?_
  refine readAcc m K ?_
  refine putAcc m K (na' := 2+1) rfl ?_
  refine arsend m K 3 (dev100_eq c) (arsA_eq 3) (arrA_eq 3) (arsA_eq 3) rfl ?_
  refine arwait m K 3 (arrA_eq 3) rfl ?_
  refine readAcc m K ?_
  exact pure_s h

theorem part45 {c : Dev nD} {Q : (Σ' (v705 : Vec F S256x512 .f32), Vec F S1x256x512 .f32) → sProp 𝕄} {R : sProp 𝕄} (v2 : BitVec 32) (h : AR m K c 5 4 5 R ⊢ Q ⟨(accX m 4 c), (unsqAr (accX m 4 (pr 4 c)))⟩) :
    AR m K c 4 3 4 R ⊢ WP c (ap (k0_part45 (F := F)) c v2 (accX m 3 c)) Q := by
  unfold ap; rw [k0_part45_eq_skeleton]; unfold k0_part45_skel
  refine readAr m K 3 ?_
  refine readAcc m K ?_
  refine putAcc m K (na' := 3+1) rfl ?_
  refine arsend m K 4 (dev101_eq c) (arsA_eq 4) (arrA_eq 4) (arsA_eq 4) rfl ?_
  refine arwait m K 4 (arrA_eq 4) rfl ?_
  refine readAcc m K ?_
  refine readAr m K 4 ?_
  exact pure_s h

end Cert.KP

end
-- ==== Proof.K.Bar.lean ====
/-
The start of the body: the barrier, and the sends of the even devices.
-/
module

public import proofs.«01_k».proof.Proof.K.Ar

@[expose] public section

set_option maxRecDepth 10000

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

theorem bsm {I : Type} {s : Finset I} {Φ Ψ : I → sProp 𝕄} (h : ∀ i ∈ s, (Φ i : sProp 𝕄) ⊢ Ψ i) : bigSep s Φ ⊢ bigSep s Ψ := BI.bigSep_mono h

/-! ## The barrier's signals -/

/-- What device `c` hands device `d` at the barrier, while the first `n` signals are done. -/
def fb (c : Dev nD) (n : ℕ) (d : Dev nD) : sProp 𝕄 :=
  if (d : ℕ) < n then iprop(emp) else iprop(dutyTok ER (cell d .bar) 0 c ∗ barPay d c)

/-- The state while the barrier's signals are sent. -/
def BS (c : Dev nD) (n : ℕ) (R : sProp 𝕄) : sProp 𝕄 :=
  iprop(Prs m K ∗ owe c (rem c n 0 0 0) ∗ bigSep Finset.univ (fb (F := F) c n) ∗ R)

theorem bsig {c : Dev nD} {α : Type} {Q : α → sProp 𝕄} {R : sProp 𝕄} (d : Dev nD) {n : Dev nD} (hn : n = d) {sem : Sem sig} (hs : sem = barS) {nn : ℕ} (hnn : nn = d)
    {k : PUnit → Prog (TpuEff nD τ sig (Elt F) Λ₀ .tc) α} (h : BS m K c (d + 1) R ⊢ WP c (k ⟨⟩) Q) :
    BS m K c nn R ⊢ WP c (semSignalWord n sem 1#32 >>= k) Q := by
  subst hnn
  have hT := fam_step1 (F := F) (f := fb c d) (g := fb c (d + 1)) d (fun d' hd => by
    have hd : (d' : ℕ) ≠ d := fun h => hd (Fin.ext h)
    unfold fb
    by_cases h1 : (d' : ℕ) < d
    · rw [if_pos h1, if_pos (show (d' : ℕ) < d + 1 by omega)]
    · rw [if_neg h1, if_neg (show ¬ (d' : ℕ) < d + 1 by omega)])
  rw [show fb (F := F) c d d = iprop(dutyTok ER (cell d .bar) 0 c ∗ barPay d c) from if_neg (Nat.lt_irrefl _),
    show fb (F := F) c (d + 1) d = iprop(emp) from if_pos (Nat.lt_succ_self _)] at hT
  show BS m K c d R ⊢ WP c (.op (.semSignal (n : Thread nD τ) sem ((1 : ℕ) : ℤ)) k) Q
  refine ent ?_ (signal_step (R := iprop((iprop(emp) -∗ bigSep Finset.univ (fb c (d + 1))) ∗ R)) m K d n hn hs rfl (rem_bar c d) (ent ?_ h))
  · unfold BS
    iintro ⟨HI, HO, HF, HR⟩
    ihave H' := hT $$ HF
    icases H' with ⟨⟨Ht, Hp⟩, HF⟩
    isplitl [HI]; · iexact HI
    isplitl [HO]; · iexact HO
    isplitl [Ht]; · iexact Ht
    isplitl [Hp]; · iexact Hp
    isplitl [HF]; · iexact HF
    iexact HR
  · unfold BS
    iintro ⟨HI, HO, HF, HR⟩
    isplitl [HI]; · iexact HI
    isplitl [HO]; · iexact HO
    isplitr [HR]
    · iapply HF; iempintro
    iexact HR

/-! ## The barrier's wait -/

/-- What device `c` holds for the keys' (or values') exchange before the barrier. -/
def SB0 (kv : Bool) (c : Dev nD) : sProp 𝕄 :=
  iprop((bigSep Finset.univ fun d : Dev nD => atPos ER (cell c (.snd kv d)) 0 ∅ 0)
    ∗ (bigSep Finset.univ fun d : Dev nD => if Ev c ∧ d ≠ c then iprop(dutyTok ER (cell c (.snd kv d)) 0 c ∗ dutyTok ER (cell d (.rcv kv (sl c))) 0 c) else iprop(emp))
    ∗ owX c (bM kv) ∗ atPos ER (cell c (.loc kv)) 0 ∅ 0 ∗ if Ev c then LT kv c else iprop(emp))
/-- And after it: the slots the chunks go to as well. -/
def SB (kv : Bool) (c : Dev nD) : sProp 𝕄 :=
  iprop(SB0 kv c ∗ bigSep Finset.univ fun d : Dev nD => if Ev c ∧ c ≠ d then owX (F := F) d (slotM kv (sl c)) else iprop(emp))
/-- An exchange round before the barrier: the partner's slot is still missing. -/
def FA0 (c : Dev nD) (r : Fin 5) : sProp 𝕄 :=
  iprop(atPos ER (cell c (.ars r)) 0 ∅ 0 ∗ atPos ER (cell c (.arr r)) 0 ∅ 0 ∗ cred (tallyAt (cell c (.arr r)) () Nar)
    ∗ dutyTok ER (cell c (.ars r)) 0 c ∗ dutyTok ER (cell (pr r c) (.arr r)) 0 c)

theorem barPays (c : Dev nD) : (bigSep Finset.univ fun d => barPay (F := F) c d)
    ⊢ iprop((bigSep Finset.univ fun d : Dev nD => if Ev c ∧ c ≠ d then owX (F := F) d (slotM false (sl c)) else iprop(emp))
      ∗ (bigSep Finset.univ fun d : Dev nD => if Ev c ∧ c ≠ d then owX (F := F) d (slotM true (sl c)) else iprop(emp))
      ∗ bigSep Finset.univ fun r : Fin 5 => owX (F := F) (pr r c) (arSlotM r)) := by
  have e1 : (bigSep Finset.univ fun d => barPay (F := F) c d)
      = iprop((bigSep Finset.univ fun d : Dev nD => if Ev c ∧ c ≠ d then iprop(owX (F := F) d (slotM false (sl c)) ∗ owX d (slotM true (sl c))) else iprop(emp))
        ∗ bigSep Finset.univ fun d : Dev nD => bigSep Finset.univ fun r : Fin 5 => if pr r c = d then owX (F := F) d (arSlotM r) else iprop(emp)) := by
    rw [← bigSep_sep']; rfl
  have e2 : (bigSep Finset.univ fun d : Dev nD => bigSep Finset.univ fun r : Fin 5 => if pr r c = d then owX (F := F) d (arSlotM r) else iprop(emp))
      = bigSep Finset.univ fun r : Fin 5 => owX (F := F) (pr r c) (arSlotM r) := by
    rw [bigSep_univ_comm]
    refine bigSep_congr fun r _ => ?_
    have e := bigSep_filter (Finset.univ : Finset (Dev nD)) (fun d => pr r c = d) fun d => owX (F := F) d (arSlotM r)
    rw [Finset.filter_eq, if_pos (Finset.mem_univ _), bigSep_singleton] at e
    exact e.symm
  have e3 : (bigSep Finset.univ fun d : Dev nD => if Ev c ∧ c ≠ d then iprop(owX (F := F) d (slotM false (sl c)) ∗ owX d (slotM true (sl c))) else iprop(emp))
      ⊢ iprop((bigSep Finset.univ fun d : Dev nD => if Ev c ∧ c ≠ d then owX (F := F) d (slotM false (sl c)) else iprop(emp))
        ∗ bigSep Finset.univ fun d : Dev nD => if Ev c ∧ c ≠ d then owX (F := F) d (slotM true (sl c)) else iprop(emp)) := by
    rw [← bigSep_sep']
    refine bsm fun d _ => ?_
    by_cases h : Ev c ∧ c ≠ d
    · rw [if_pos h, if_pos h, if_pos h]
    · rw [if_neg h, if_neg h, if_neg h]
      iintro -
      isplitl <;> iempintro
  rw [e1, e2]
  iintro ⟨H1, H2⟩
  ihave H1' := e3 $$ H1
  icases H1' with ⟨H1, H3⟩
  isplitl [H1]; · iexact H1
  isplitl [H3]; · iexact H3
  iexact H2

/-- What is held besides, for the barrier's wait. -/
def RB (c : Dev nD) (R : sProp 𝕄) : sProp 𝕄 :=
  iprop(atPos ER (cell c .bar) 0 ∅ 0 ∗ cred (tallyAt (cell c .bar) () 32) ∗ SB0 false c ∗ SB0 true c ∗ bigSep Finset.univ (FA0 (F := F) c) ∗ AA m c R)

/-- The state after the barrier. -/
def PB (c : Dev nD) (R : sProp 𝕄) : sProp 𝕄 :=
  iprop(Prs m K ∗ owe c (rem c 32 0 0 0) ∗ SB false c ∗ SB true c ∗ AA m c iprop(semVal (cell c .bar) 0 ∗ bigSep Finset.univ (fa m c 0) ∗ R))

theorem bwait {c : Dev nD} {α : Type} {Q : α → sProp 𝕄} {R : sProp 𝕄} {sem : Sem sig} (hs : sem = barS)
    {k : PUnit → Prog (TpuEff nD τ sig (Elt F) Λ₀ .tc) α} (h : PB m K c R ⊢ WP c (k ⟨⟩) Q) :
    BS m K c 32 (RB m c R) ⊢ WP c (semWaitWord sem 32#32 >>= k) Q := by
  subst hs
  show BS m K c 32 (RB m c R) ⊢ WP c (.op (.semWait barS ((32 : ℕ) : ℤ)) k) Q
  have hfa : iprop(bigSep Finset.univ (FA0 (F := F) c) ∗ bigSep Finset.univ fun r : Fin 5 => owX (F := F) (pr r c) (arSlotM r)) ⊢ bigSep Finset.univ (fa m c 0) := by
    rw [← bigSep_sep']
    refine bsm fun r _ => ?_
    rw [show fa m c 0 r = _ from if_neg (Nat.not_lt_zero _)]
    unfold FA0
    iintro ⟨⟨H1, H2, H3, H4, H5⟩, H6⟩
    iframe
  refine ent ?_ (wait_step (R := iprop(SB0 false c ∗ SB0 true c ∗ bigSep Finset.univ (FA0 (F := F) c) ∗ AA m c R)) m K .bar 32 (fun K => rfl)
    (by rw [show dut c .bar = Finset.univ from rfl, Finset.card_univ]; rfl) (lev_bar c) (ent ?_ h))
  · unfold BS RB
    iintro ⟨HI, HO, -, Ha, Hc, HR⟩
    iframe
  · rw [show (bigSep (dut c .bar) fun d => pay m c .bar d) = bigSep Finset.univ fun d => barPay (F := F) c d from rfl]
    unfold PB SB AA
    iintro ⟨HI, Hs, HO, Hp, H1, H2, H3, H4, H5, HR⟩
    ihave Hp' := (barPays c) $$ Hp
    icases Hp' with ⟨P1, P2, P3⟩
    isplitl [HI]; · iexact HI
    isplitl [HO]; · iexact HO
    isplitl [H1 P1]
    · isplitl [H1]; · iexact H1
      iexact P1
    isplitl [H2 P2]
    · isplitl [H2]; · iexact H2
      iexact P2
    isplitl [H4]; · iexact H4
    isplitl [H5]; · iexact H5
    isplitl [Hs]; · iexact Hs
    isplitl [H3 P3]
    · iapply hfa
      isplitl [H3]; · iexact H3
      iexact P3
    iexact HR

/-! ## The sends, or none -/

/-- The own slot, filled on an even device. -/
def OS (kv : Bool) (c : Dev nD) : sProp 𝕄 := if Ev c then ow c (slotM kv (sl c)) (chunkX m kv c c) else iprop(emp)
/-- What is left of the keys' (or values') sends when they are over. -/
def SA (kv : Bool) (c : Dev nD) : sProp 𝕄 :=
  iprop((bigSep Finset.univ fun d : Dev nD => semVal (cell c (.snd kv d)) 0) ∗ semVal (cell c (.loc kv)) 0 ∗ owX c (bM kv) ∗ OS m kv c)
def PA (c : Dev nD) (R : sProp 𝕄) : sProp 𝕄 := iprop(Prs m K ∗ owe c (remS c) ∗ SA m false c ∗ SA m true c ∗ AA m c R)

theorem sb_even {c : Dev nD} (hc : Ev c) (kv : Bool) :
    SB kv c ⊢ iprop(bigSep Finset.univ (fam m kv c 0 0) ∗ LT kv c ∗ atPos ER (cell c (.loc kv)) 0 ∅ 0) := by
  have hF : iprop((bigSep Finset.univ fun d : Dev nD => atPos ER (cell c (.snd kv d)) 0 ∅ 0)
      ∗ (bigSep Finset.univ fun d : Dev nD => if Ev c ∧ d ≠ c then iprop(dutyTok ER (cell c (.snd kv d)) 0 c ∗ dutyTok ER (cell d (.rcv kv (sl c))) 0 c) else iprop(emp))
      ∗ (bigSep Finset.univ fun d : Dev nD => if Ev c ∧ c ≠ d then owX (F := F) d (slotM kv (sl c)) else iprop(emp))
      ∗ bigSep Finset.univ fun d : Dev nD => owX (F := F) c (chunkM kv d)) ⊢ bigSep Finset.univ (fam m kv c 0 0) := by
    rw [← bigSep_sep', ← bigSep_sep', ← bigSep_sep']
    refine bsm fun d _ => ?_
    rw [show fam m kv c 0 0 d = iprop(TK kv c d ∗ owX c (chunkM kv d)) from (if_neg (Nat.not_lt_zero _)).trans (if_neg (Nat.not_lt_zero _))]
    unfold TK
    by_cases hd : d = c
    · rw [if_neg fun h => h.2 hd, if_neg fun h => h.2 hd.symm, if_neg (not_not.mpr hd)]
      iintro ⟨H1, -, -, H4⟩
      isplitl [H1]
      · isplitl [H1]; · iexact H1
        iempintro
      iexact H4
    · rw [if_pos ⟨hc, hd⟩, if_pos ⟨hc, Ne.symm hd⟩, if_pos hd]
      iintro ⟨H1, ⟨H2, H3⟩, H5, H4⟩
      isplitr [H4]
      · iframe
      iexact H4
  unfold SB SB0
  rw [if_pos hc]
  iintro ⟨⟨H1, H2, H3, H4, H5⟩, H6⟩
  ihave H3' := (band_chunks c kv) $$ H3
  isplitr [H4 H5]
  · iapply hF
    isplitl [H1]; · iexact H1
    isplitl [H2]; · iexact H2
    isplitl [H6]; · iexact H6
    iexact H3'
  isplitl [H5]; · iexact H5
  iexact H4

theorem sa_even {c : Dev nD} (hc : Ev c) (kv : Bool) : iprop(bigSep Finset.univ (fw (F := F) kv c 32) ∗ LD m kv c) ⊢ SA m kv c := by
  have hF : bigSep Finset.univ (fw (F := F) kv c 32) ⊢ iprop((bigSep Finset.univ fun d : Dev nD => semVal (cell c (.snd kv d)) 0)
      ∗ bigSep Finset.univ fun d : Dev nD => if d = c then iprop(emp) else owX (F := F) c (chunkM kv d)) := by
    rw [← bigSep_sep']
    refine bsm fun d _ => ?_
    unfold fw; rw [if_pos (show (d : ℕ) < 32 from d.isLt)]
  have hT := fam_step1 (F := F) (f := fun d : Dev nD => if d = c then iprop(emp) else owX (F := F) c (chunkM kv d)) (g := fun d => owX c (chunkM kv d)) c
    (fun d hd => if_neg hd)
  rw [show (if c = c then iprop(emp) else owX (F := F) c (chunkM kv c)) = iprop(emp) from if_pos rfl] at hT
  unfold SA LD OS
  rw [if_pos hc]
  iintro ⟨HF, H1, H2, H3⟩
  ihave HF' := hF $$ HF
  icases HF' with ⟨Hs, HF⟩
  ihave HF'' := hT $$ HF
  icases HF'' with ⟨-, HF⟩
  isplitl [Hs]; · iexact Hs
  isplitl [H1]; · iexact H1
  isplitr [H2]
  · iapply (chunks_band c kv)
    iapply HF
    iapply (ow_owX c (chunkM kv c) (chunkX m kv c c)); iexact H3
  iexact H2

theorem sb_odd {c : Dev nD} (hc : ¬ Ev c) (kv : Bool) : iprop(Prs m K ∗ SB kv c) ⊢ (iprop(|={Set.univ}=> SA m kv c) : sProp 𝕄) := by
  have hS : iprop(Prs m K ∗ bigSep Finset.univ fun d : Dev nD => atPos ER (cell c (.snd kv d)) 0 ∅ 0)
      ⊢ (iprop(|={Set.univ}=> bigSep Finset.univ fun d : Dev nD => semVal (cell c (.snd kv d)) 0) : sProp 𝕄) :=
    ent (bigSep_with_persistent fun d _ => close_cell m K (.snd kv d) (if_neg fun h => hc h.1)) (bigSep_fupd _ _)
  have hL := close_cell (F := F) (c := c) m K (.loc kv) (if_neg hc)
  unfold SB SB0 SA OS
  rw [if_neg hc]
  iintro ⟨#HI, ⟨H1, -, H3, H4, -⟩, -⟩
  imod hS $$ [H1] with Hs
  · isplitr; · iexact HI
    iexact H1
  imod hL $$ [H4] with Hl
  · isplitr; · iexact HI
    iexact H4
  imodintro
  isplitl [Hs]; · iexact Hs
  isplitl [Hl]; · iexact Hl
  isplitl [H3]; · iexact H3
  rw [if_neg hc]
  iempintro

theorem pb_ss {c : Dev nD} (hc : Ev c) (R : sProp 𝕄) :
    PB m K c R ⊢ SS m K c 0 0 0 0 (LTT c iprop(semVal (cell c .bar) 0 ∗ bigSep Finset.univ (fa m c 0) ∗ R)) := by
  unfold PB SS LTT AA
  iintro ⟨HI, HO, H1, H2, H3, H4, HR⟩
  ihave H1' := (sb_even m hc false) $$ H1
  icases H1' with ⟨F1, L1, P1⟩
  ihave H2' := (sb_even m hc true) $$ H2
  icases H2' with ⟨F2, L2, P2⟩
  isplitl [HI]; · iexact HI
  isplitl [HO]; · iexact HO
  isplitl [F1]; · iexact F1
  isplitl [F2]; · iexact F2
  isplitl [H3]; · iexact H3
  isplitl [H4]; · iexact H4
  isplitl [L1]; · iexact L1
  isplitl [L2]; · iexact L2
  isplitl [P1]; · iexact P1
  isplitl [P2]; · iexact P2
  iexact HR

theorem sw_pa {c : Dev nD} (hc : Ev c) (R : sProp 𝕄) : SW m K c 32 32 iprop(LD m false c ∗ LD m true c ∗ AA m c R) ⊢ PA m K c R := by
  unfold SW TF PA
  iintro ⟨HI, HO, F1, F2, L1, L2, HR⟩
  isplitl [HI]; · iexact HI
  isplitl [HO]; · iexact HO
  isplitl [F1 L1]
  · iapply (sa_even m hc false)
    isplitl [F1]; · iexact F1
    iexact L1
  isplitl [F2 L2]
  · iapply (sa_even m hc true)
    isplitl [F2]; · iexact F2
    iexact L2
  iexact HR

theorem pb_pa {c : Dev nD} (hc : ¬ Ev c) (R : sProp 𝕄) :
    PB m K c R ⊢ (iprop(|={Set.univ}=> PA m K c iprop(semVal (cell c .bar) 0 ∗ bigSep Finset.univ (fa m c 0) ∗ R)) : sProp 𝕄) := by
  unfold PB PA
  rw [rem_odd c hc 0]
  iintro ⟨#HI, HO, H1, H2, HR⟩
  imod (sb_odd m K hc false) $$ [H1] with H1
  · isplitr; · iexact HI
    iexact H1
  imod (sb_odd m K hc true) $$ [H2] with H2
  · isplitr; · iexact HI
    iexact H2
  imodintro
  isplitr; · iexact HI
  isplitl [HO]; · iexact HO
  isplitl [H1]; · iexact H1
  isplitl [H2]; · iexact H2
  iexact HR

theorem dite_s {c : Dev nD} {α : Type} {Q : α → sProp 𝕄} {P : sProp 𝕄} {p : Prop} [Decidable p] {t : p → Prog (TpuEff nD τ sig (Elt F) Λ₀ .tc) α}
    {e : ¬ p → Prog (TpuEff nD τ sig (Elt F) Λ₀ .tc) α} (h1 : ∀ h, P ⊢ WP c (t h) Q) (h2 : ∀ h, P ⊢ WP c (e h) Q) : P ⊢ WP c (dite p t e) Q := by
  by_cases h : p
  · rw [dif_pos h]; exact h1 h
  · rw [dif_neg h]; exact h2 h

/-! ## The query projection's operands -/

/-- What the rest of the body holds besides, the staged queries and weights first. -/
def RQ (c : Dev nD) (R : sProp 𝕄) : sProp 𝕄 :=
  iprop(ow c (Memref.whole cc0_stg0_0) (x0 m c) ∗ ow c (Memref.whole cc0_stg1_0) (x1 m c) ∗ owX c qM ∗ R)

theorem tailQ {c : Dev nD} {α : Type} {Q : α → sProp 𝕄} {R Z : sProp 𝕄} {h1 h2 h3 h4 h5 h6}
    {k : (S2x128x512.Idx → Elt F .bf16) → (S512x256.Idx → Elt F .bf16) → (S256x256.Idx → Elt F .bf16) → Prog (TpuEff nD τ sig (Elt F) Λ₀ .tc) α}
    (h : ∀ v, PA m K c iprop(Z ∗ RQ m c R) ⊢ WP c (k (x0 m c) (x1 m c) v) Q) :
    PA m K c iprop(Z ∗ RQ m c R) ⊢ WP c
      (Prog.lift (.load (Memref.whole cc0_stg0_0 : Memref sig .tc .vmem S2x128x512 .bf16) (Rect.unit (s := S2x128x512) ![0, 0, 0] S2x128x512.size h1).toLoadRect h2) >>= fun v98 =>
        Prog.lift (.load (Memref.whole cc0_stg1_0 : Memref sig .tc .vmem S512x256 .bf16) (Rect.unit (s := S512x256) ![0, 0] S512x256.size h3).toLoadRect h4) >>= fun v101 =>
        Prog.lift (.load qM (Rect.unit (s := S256x256) ![0, 0] S256x256.size h5).toLoadRect h6) >>= k v98 v101) Q := by
  have hA : ∀ Y, iprop(ow c qM Y ∗ (ow c (Memref.whole cc0_stg0_0) (x0 m c) ∗ ow c (Memref.whole cc0_stg1_0) (x1 m c) ∗ PA m K c iprop(Z ∗ R)))
      ⊢ WP c (Prog.lift (.load qM (Rect.unit (s := S256x256) ![0, 0] S256x256.size h5).toLoadRect h6) >>= k (x0 m c) (x1 m c)) Q := fun Y => by
    refine load_all (s := S256x256) ![0, 0] (by decide) (ent ?_ (h Y))
    have := ow_owX c (qM : Memref sig .tc .vmem S256x256 .bf16) Y
    unfold RQ PA AA
    iintro ⟨Hq, H0, H1, HI, HO, HA, HB, HC, HD, HZ, HR⟩
    ihave Hq' := this $$ Hq
    iframe
  have hB : iprop(owX c qM ∗ (ow c (Memref.whole cc0_stg0_0) (x0 m c) ∗ ow c (Memref.whole cc0_stg1_0) (x1 m c) ∗ PA m K c iprop(Z ∗ R)))
      ⊢ WP c (Prog.lift (.load qM (Rect.unit (s := S256x256) ![0, 0] S256x256.size h5).toLoadRect h6) >>= k (x0 m c) (x1 m c)) Q := by
    unfold owX
    iintro ⟨⟨%Y, Hq⟩, H⟩
    iapply (hA Y)
    isplitl [Hq]; · iexact Hq
    iexact H
  refine ent ?_ (load_all (R := iprop(ow c (Memref.whole cc0_stg1_0) (x1 m c) ∗ owX c qM ∗ PA m K c iprop(Z ∗ R))) (s := S2x128x512) ![0, 0, 0] (by decide) (ent ?_
    (load_all (R := iprop(ow c (Memref.whole cc0_stg0_0) (x0 m c) ∗ owX c qM ∗ PA m K c iprop(Z ∗ R))) (s := S512x256) ![0, 0] (by decide) (ent ?_ hB))))
  · unfold RQ PA AA
    iintro ⟨HI, HO, HA, HB, HC, HD, HZ, H0, H1, Hq, HR⟩
    iframe
  · iintro ⟨H0, H1, H2⟩
    iframe
  · iintro ⟨H1, H0, H2⟩
    iframe

/-! ## The parts -/

theorem part20 {c : Dev nD} {Q : (Σ' (d0 : Dev nD) (v2 : BitVec 32) (v19 : BitVec 32) (v30 : BitVec 1) (v31 : Sems sig S_), BitVec 32) → sProp 𝕄} {R : sProp 𝕄}  (h : ∀ x, BS m K c 1 R ⊢ Q ⟨c, w2 c, w19 c, w30 c, SemArray.scalar (sig.barrier 0 rfl), x⟩) :
    BS m K c 0 R ⊢ WP c (ap (k0_part20 (F := F)) ) Q := by
  unfold ap; rw [k0_part20_eq_skeleton]; unfold k0_part20_skel
  refine lift_s ?_
  rw [WP_eq, wp_deviceId, ← WP_eq]
  refine bsig m K 0 (Fin.ext k0_dev1_eq) rfl rfl ?_
  exact pure_s (h _)

theorem part21 {c : Dev nD} {Q : PUnit → sProp 𝕄} {R : sProp 𝕄} (x : BitVec 32) (h : ∀ x, BS m K c 10 R ⊢ Q x) :
    BS m K c 1 R ⊢ WP c (ap (k0_part21 (F := F)) (SemArray.scalar (sig.barrier 0 rfl)) x) Q := by
  unfold ap; rw [k0_part21_eq_skeleton]; unfold k0_part21_skel
  refine bsig m K 1 (Fin.ext k0_dev2_eq) rfl rfl ?_
  refine bsig m K 2 (Fin.ext k0_dev3_eq) rfl rfl ?_
  refine bsig m K 3 (Fin.ext k0_dev4_eq) rfl rfl ?_
  refine bsig m K 4 (Fin.ext k0_dev5_eq) rfl rfl ?_
  refine bsig m K 5 (Fin.ext k0_dev6_eq) rfl rfl ?_
  refine bsig m K 6 (Fin.ext k0_dev7_eq) rfl rfl ?_
  refine bsig m K 7 (Fin.ext k0_dev8_eq) rfl rfl ?_
  refine bsig m K 8 (Fin.ext k0_dev9_eq) rfl rfl ?_
  refine bsig m K 9 (Fin.ext k0_dev10_eq) rfl rfl ?_
  exact pure_s (h _)

theorem part22 {c : Dev nD} {Q : (Σ' (v68 : BitVec 32), BitVec 32) → sProp 𝕄} {R : sProp 𝕄}  (h : ∀ x, BS m K c 18 R ⊢ Q x) :
    BS m K c 10 R ⊢ WP c (ap (k0_part22 (F := F)) (SemArray.scalar (sig.barrier 0 rfl))) Q := by
  unfold ap; rw [k0_part22_eq_skeleton]; unfold k0_part22_skel
  refine bsig m K 10 (Fin.ext k0_dev11_eq) rfl rfl ?_
  refine bsig m K 11 (Fin.ext k0_dev12_eq) rfl rfl ?_
  refine bsig m K 12 (Fin.ext k0_dev13_eq) rfl rfl ?_
  refine bsig m K 13 (Fin.ext k0_dev14_eq) rfl rfl ?_
  refine bsig m K 14 (Fin.ext k0_dev15_eq) rfl rfl ?_
  refine bsig m K 15 (Fin.ext k0_dev16_eq) rfl rfl ?_
  refine bsig m K 16 (Fin.ext k0_dev17_eq) rfl rfl ?_
  refine bsig m K 17 (Fin.ext k0_dev18_eq) rfl rfl ?_
  exact pure_s (h _)

theorem part23 {c : Dev nD} {Q : (BitVec 32) → sProp 𝕄} {R : sProp 𝕄} (x y : BitVec 32) (h : ∀ x, BS m K c 27 R ⊢ Q x) :
    BS m K c 18 R ⊢ WP c (ap (k0_part23 (F := F)) (SemArray.scalar (sig.barrier 0 rfl)) x y) Q := by
  unfold ap; rw [k0_part23_eq_skeleton]; unfold k0_part23_skel
  refine bsig m K 18 (Fin.ext k0_dev19_eq) rfl rfl ?_
  refine bsig m K 19 (Fin.ext k0_dev20_eq) rfl rfl ?_
  refine bsig m K 20 (Fin.ext k0_dev21_eq) rfl rfl ?_
  refine bsig m K 21 (Fin.ext k0_dev22_eq) rfl rfl ?_
  refine bsig m K 22 (Fin.ext k0_dev23_eq) rfl rfl ?_
  refine bsig m K 23 (Fin.ext k0_dev24_eq) rfl rfl ?_
  refine bsig m K 24 (Fin.ext k0_dev25_eq) rfl rfl ?_
  refine bsig m K 25 (Fin.ext k0_dev26_eq) rfl rfl ?_
  refine bsig m K 26 (Fin.ext k0_dev27_eq) rfl rfl ?_
  exact pure_s (h _)

theorem part24 {c : Dev nD} {Q : FVec F S256x256 .bf16 → sProp 𝕄} {R : sProp 𝕄} (v2 : BitVec 32) (v30 : BitVec 1) (x : BitVec 32)
    (h : PA m K c iprop((semVal (cell c .bar) 0 ∗ bigSep Finset.univ (fa m c 0)) ∗ RQ m c R) ⊢ Q (k0_pay21 (x0 m c) (x1 m c))) :
    BS m K c 27 (RB m c (RQ m c R)) ⊢ WP c (ap (k0_part24 (F := F)) c v2 v30 (SemArray.scalar (sig.barrier 0 rfl)) x) Q := by
  have assoc : PA m K c iprop(semVal (cell c .bar) 0 ∗ bigSep Finset.univ (fa m c 0) ∗ RQ m c R)
      ⊢ PA m K c iprop((semVal (cell c .bar) 0 ∗ bigSep Finset.univ (fa m c 0)) ∗ RQ m c R) := by
    unfold PA AA
    iintro ⟨HI, HO, HA, HB, HC, HD, HZ, H0, H1⟩
    iframe
  unfold ap; rw [k0_part24_eq_skeleton]; unfold k0_part24_skel
  refine bsig m K 27 (Fin.ext k0_dev28_eq) rfl rfl ?_
  refine bsig m K 28 (Fin.ext k0_dev29_eq) rfl rfl ?_
  refine bsig m K 29 (Fin.ext k0_dev30_eq) rfl rfl ?_
  refine bsig m K 30 (Fin.ext k0_dev31_eq) rfl rfl ?_
  refine bsig m K 31 (Fin.ext k0_dev32_eq) rfl rfl ?_
  refine bwait m K rfl ?_
  refine dite_s (fun h1 => ?_) (fun h1 => ?_)
  · have hc := (cond1_iff c).mp h1
    refine ent (pb_ss m K hc _) ?_
    refine bind_s (part1 m K hc h1 _ fun _ => ?_)
    refine bind_s (part2 m K hc h1 _ _ fun _ => ?_)
    refine bind_s (part3 m K hc h1 _ _ ?_)
    refine bind_s (part4 m K hc h1 _ _ rfl fun _ => ?_)
    refine bind_s (part5 m K hc h1 _ fun _ => ?_)
    refine bind_s (part6 m K hc h1 _ _ fun _ => ?_)
    refine bind_s (part7 m K hc h1 _ _ ?_)
    refine bind_s (part8 m K hc h1 _ _ rfl fun _ => ?_)
    refine bind_s (part9 m K hc h1 _ fun _ => ?_)
    refine bind_s (part10 m K hc h1 _ _ fun _ => ?_)
    refine bind_s (part11 m K hc h1 _ _ fun _ => ?_)
    refine bind_s (part12 m K hc h1 _ fun _ => ?_)
    refine bind_s (part13 m K hc h1 _ _ fun _ => ?_)
    refine bind_s (part14 m K hc h1 _ fun _ => ?_)
    refine bind_s (part15 m K hc h1 _ _ fun _ => ?_)
    refine bind_s (part16 m K hc h1 _ _ fun ⟨_, _⟩ => ?_)
    refine bind_s (part17 m K hc h1 _ _ _ fun _ => ?_)
    refine bind_s (part18 m K hc h1 _ _ fun _ => ?_)
    refine bind_s (part19 m K hc h1 _ fun _ => ?_)
    refine lwaitV m K hc (isWait (locA_eq true) ((congrArg (fun M : Memref sig .tc .vmem S2x128x256 .bf16 => M.view.dmaCredit) (slot_eq true (sl c) (off129_eq c))).trans (N_slot true (sl c)))) ?_
    refine ent (sw_pa m K hc _) (ent assoc ?_)
    refine tailQ m K fun _ => ?_
    exact pure_s h
  · have hc : ¬ Ev c := fun hc => h1 ((cond1_iff c).mpr hc)
    refine fupd_step (pb_pa m K hc _) (ent assoc ?_)
    refine tailQ m K fun _ => ?_
    exact pure_s h

end Cert.KP

end
-- ==== Proof.K.Body.lean ====
/-
The body, whole: from what a device is given at the start to what it holds at the end.
-/
module

public import proofs.«01_k».proof.Proof.K.Bar

@[expose] public section

set_option maxRecDepth 10000

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## Handing out the own memory -/

theorem slots_deal (c : Dev nD) (Φ : Fin 16 → sProp 𝕄) :
    bigSep Finset.univ Φ ⊢ iprop((if Ev c then Φ (sl c) else iprop(emp)) ∗ bigSep Finset.univ fun d : Dev nD => if Ev d ∧ d ≠ c then Φ (sl d) else iprop(emp)) := by
  have e : bigSep Finset.univ Φ = bigSep Finset.univ fun d : Dev nD => if Ev d then Φ (sl d) else iprop(emp) := by
    have e := bigSep_filter (Finset.univ : Finset (Dev nD)) Ev fun d => Φ (sl d)
    refine Eq.trans ?_ e
    rw [show (Finset.univ : Finset (Dev nD)).filter Ev = Finset.univ.map ⟨dv, fun s s' h => by rw [← sl_dv s, h, sl_dv]⟩ from by
      ext d
      simp only [Finset.mem_filter, Finset.mem_univ, true_and, Finset.mem_map, Function.Embedding.coeFn_mk]
      exact ⟨fun h => ⟨sl d, dv_sl d h⟩, fun ⟨s, h⟩ => h ▸ ev_dv s⟩, bigSep_map]
    exact bigSep_congr fun s _ => congrArg Φ (sl_dv s).symm
  have hT := fam_step1 (F := F) (f := fun d : Dev nD => if Ev d then Φ (sl d) else iprop(emp)) (g := fun d : Dev nD => if Ev d ∧ d ≠ c then Φ (sl d) else iprop(emp)) c
    (fun d hd => by
      by_cases h : Ev d
      · rw [if_pos h, if_pos ⟨h, hd⟩]
      · rw [if_neg h, if_neg fun h' => h h'.1])
  rw [show (if Ev c ∧ c ≠ c then Φ (sl c) else iprop(emp)) = iprop(emp) from if_neg fun h => h.2 rfl] at hT
  rw [e]
  refine ent hT ?_
  iintro ⟨H1, H2⟩
  isplitl [H1]; · iexact H1
  iapply H2; iempintro

theorem ar_deal (c : Dev nD) (Φ : Fin 5 → sProp 𝕄) :
    bigSep Finset.univ Φ = bigSep Finset.univ fun d : Dev nD => bigSep Finset.univ fun r : Fin 5 => if pr r d = c then Φ r else iprop(emp) := by
  rw [bigSep_univ_comm]
  refine bigSep_congr fun r _ => ?_
  have e := bigSep_filter (Finset.univ : Finset (Dev nD)) (fun d => pr r c = d) fun d => Φ r
  rw [Finset.filter_eq, if_pos (Finset.mem_univ _), bigSep_singleton] at e
  refine e.trans (bigSep_congr fun d _ => ?_)
  by_cases h : pr r c = d
  · exact (if_pos h).trans (if_pos (by rw [← h, pr_pr])).symm
  · exact (if_neg h).trans (if_neg fun h' => h (by rw [← h', pr_pr])).symm

/-- What the barrier's signals carry, made of the own memory. -/
theorem fb_intro (c : Dev nD) :
    iprop((bigSep Finset.univ fun d : Dev nD => dutyTok ER (cell d .bar) 0 c) ∗ owX (F := F) c (gM false) ∗ owX c (gM true) ∗ owX c arM)
      ⊢ iprop((bigSep Finset.univ (fb (F := F) c 0)) ∗ (if Ev c then owX c (slotM false (sl c)) else iprop(emp)) ∗ if Ev c then owX c (slotM true (sl c)) else iprop(emp)) := by
  have hF : iprop((bigSep Finset.univ fun d : Dev nD => dutyTok ER (cell d .bar) 0 c)
      ∗ (bigSep Finset.univ fun d : Dev nD => if Ev d ∧ d ≠ c then owX (F := F) c (slotM false (sl d)) else iprop(emp))
      ∗ (bigSep Finset.univ fun d : Dev nD => if Ev d ∧ d ≠ c then owX (F := F) c (slotM true (sl d)) else iprop(emp))
      ∗ bigSep Finset.univ fun d : Dev nD => bigSep Finset.univ fun r : Fin 5 => if pr r d = c then owX (F := F) c (arSlotM r) else iprop(emp))
      ⊢ bigSep Finset.univ (fb (F := F) c 0) := by
    rw [← bigSep_sep', ← bigSep_sep', ← bigSep_sep']
    refine bsm fun d _ => ?_
    rw [show fb (F := F) c 0 d = iprop(dutyTok ER (cell d .bar) 0 c ∗ barPay d c) from if_neg (Nat.not_lt_zero _)]
    unfold barPay
    by_cases h : Ev d ∧ d ≠ c
    · rw [if_pos h, if_pos h, if_pos h]
      iintro ⟨H1, H2, H3, H4⟩
      isplitl [H1]; · iexact H1
      isplitr [H4]
      · isplitl [H2]; · iexact H2
        iexact H3
      iexact H4
    · rw [if_neg h, if_neg h, if_neg h]
      iintro ⟨H1, -, -, H4⟩
      isplitl [H1]; · iexact H1
      isplitr [H4]
      · iempintro
      iexact H4
  have hA := ent (ar_split (F := F) c) (Entails.of_eq (ar_deal (F := F) c fun r => owX c (arSlotM r)))
  iintro ⟨H1, H2, H3, H4⟩
  ihave H2' := (slots_split c false) $$ H2
  ihave H2 := (slots_deal (F := F) c fun s => owX c (slotM false s)) $$ H2'
  icases H2 with ⟨O1, H2⟩
  ihave H3' := (slots_split c true) $$ H3
  ihave H3 := (slots_deal (F := F) c fun s => owX c (slotM true s)) $$ H3'
  icases H3 with ⟨O2, H3⟩
  ihave H4' := hA $$ H4
  isplitr [O1 O2]
  · iapply hF
    isplitl [H1]; · iexact H1
    isplitl [H2]; · iexact H2
    isplitl [H3]; · iexact H3
    iexact H4'
  isplitl [O1]; · iexact O1
  iexact O2

/-! ## The start and the end -/

/-- A device's part of the keys' (or values') send side at the start. -/
def SI (kv : Bool) (c : Dev nD) : sProp 𝕄 :=
  iprop((bigSep Finset.univ fun d : Dev nD => atPos ER (cell c (.snd kv d)) 0 ∅ 0)
    ∗ (bigSep Finset.univ fun d : Dev nD => if Ev c ∧ d ≠ c then iprop(dutyTok ER (cell c (.snd kv d)) 0 c ∗ dutyTok ER (cell d (.rcv kv (sl c))) 0 c) else iprop(emp))
    ∗ owX c (bM kv) ∗ atPos ER (cell c (.loc kv)) 0 ∅ 0 ∗ if Ev c then dutyTok ER (cell c (.loc kv)) 0 c else iprop(emp))
/-- A device's part of a slot's receive at the start. -/
def RC (kv : Bool) (c : Dev nD) (s : Fin 16) : sProp 𝕄 :=
  iprop(atPos ER (cell c (.rcv kv s)) 0 ∅ 0 ∗ if dv s = c then iprop(emp) else cred (tallyAt (cell c (.rcv kv s)) () N))
/-- What the receives and the exchange start from. -/
def RI (c : Dev nD) (R : sProp 𝕄) : sProp 𝕄 :=
  iprop(bigSep Finset.univ (RC (F := F) false c) ∗ bigSep Finset.univ (RC (F := F) true c) ∗ owX c ctxM ∗ owX c accM ∗ ow c (Memref.whole cc0_stg4_0) (x4 m c) ∗ R)
/-- What a device is given. -/
def BP (c : Dev nD) (R : sProp 𝕄) : sProp 𝕄 :=
  iprop(Prs m K ∗ owe c (rem c 0 0 0 0) ∗ ((bigSep Finset.univ fun d : Dev nD => dutyTok ER (cell d .bar) 0 c) ∗ owX c (gM false) ∗ owX c (gM true) ∗ owX c arM)
    ∗ atPos ER (cell c .bar) 0 ∅ 0 ∗ cred (tallyAt (cell c .bar) () 32) ∗ SI false c ∗ SI true c ∗ bigSep Finset.univ (FA0 (F := F) c) ∗ AA m c (RQ m c (RI m c R)))
/-- What is left of the send side, the barrier, and the staged inputs. -/
def R2 (c : Dev nD) (R : sProp 𝕄) : sProp 𝕄 :=
  iprop(semVal (cell c .bar) 0
    ∗ ((bigSep Finset.univ fun d : Dev nD => semVal (cell c (.snd false d)) 0) ∗ semVal (cell c (.loc false)) 0 ∗ owX c (bM false))
    ∗ ((bigSep Finset.univ fun d : Dev nD => semVal (cell c (.snd true d)) 0) ∗ semVal (cell c (.loc true)) 0 ∗ owX c (bM true))
    ∗ AA m c iprop(ow c (Memref.whole cc0_stg0_0) (x0 m c) ∗ ow c (Memref.whole cc0_stg1_0) (x1 m c) ∗ R))

theorem si_sb (kv : Bool) (c : Dev nD) : iprop(SI (F := F) kv c ∗ if Ev c then owX c (slotM kv (sl c)) else iprop(emp)) ⊢ SB0 kv c := by
  unfold SI SB0 LT
  by_cases h : Ev c
  · rw [if_pos h, if_pos h, if_pos h]
    iintro ⟨⟨H1, H2, H3, H4, H5⟩, H6⟩
    iframe
  · rw [if_neg h, if_neg h, if_neg h]
    iintro ⟨⟨H1, H2, H3, H4, H5⟩, H6⟩
    iframe

theorem bp_bs (c : Dev nD) (R : sProp 𝕄) : BP m K c R ⊢ BS m K c 0 (RB m c (RQ m c (RI m c R))) := by
  unfold BP BS RB
  iintro ⟨HI, HO, HF, H1, H2, H3, H4, H5, HR⟩
  ihave HF' := (fb_intro c) $$ HF
  icases HF' with ⟨HF, O1, O2⟩
  isplitl [HI]; · iexact HI
  isplitl [HO]; · iexact HO
  isplitl [HF]; · iexact HF
  isplitl [H1]; · iexact H1
  isplitl [H2]; · iexact H2
  isplitl [H3 O1]
  · iapply (si_sb false c)
    isplitl [H3]; · iexact H3
    iexact O1
  isplitl [H4 O2]
  · iapply (si_sb true c)
    isplitl [H4]; · iexact H4
    iexact O2
  isplitl [H5]; · iexact H5
  iexact HR

theorem rc_fr (kv : Bool) (c : Dev nD) : iprop(OS m kv c ∗ bigSep Finset.univ (RC (F := F) kv c)) ⊢ bigSep Finset.univ (fr m kv c 0) := by
  have e : ∀ s, fr m kv c 0 s = iprop(atPos ER (cell c (.rcv kv s)) 0 ∅ 0
    ∗ if dv s = c then ow c (slotM kv s) (chunkX m kv (dv s) c) else cred (tallyAt (cell c (.rcv kv s)) () N)) := fun s => if_neg (Nat.not_lt_zero _)
  by_cases h : Ev c
  · have hT := fam_step1 (F := F) (f := RC kv c) (g := fr m kv c 0) (sl c) (fun s hs => by
      have : dv s ≠ c := fun h => hs (by rw [← h, sl_dv])
      rw [e, RC, if_neg this, if_neg this])
    rw [e, if_pos (dv_sl c h)] at hT
    unfold OS
    rw [if_pos h]
    rw [show RC (F := F) kv c (sl c) = iprop(atPos ER (cell c (.rcv kv (sl c))) 0 ∅ 0 ∗ emp) from by rw [RC, if_pos (dv_sl c h)]] at hT
    iintro ⟨HO, HF⟩
    ihave HF' := hT $$ HF
    icases HF' with ⟨⟨Ha, -⟩, HF⟩
    iapply HF
    isplitl [Ha]; · iexact Ha
    rw [dv_sl c h]
    iexact HO
  · have : bigSep Finset.univ (RC (F := F) kv c) = bigSep Finset.univ (fr m kv c 0) := bigSep_congr fun s _ => by
      have : dv s ≠ c := fun h' => h (h' ▸ ev_dv s)
      rw [e, RC, if_neg this, if_neg this]
    rw [this]
    iintro ⟨-, HF⟩
    iexact HF

theorem pa_rw (c : Dev nD) (R : sProp 𝕄) :
    PA m K c iprop((semVal (cell c .bar) 0 ∗ bigSep Finset.univ (fa m c 0)) ∗ RQ m c (RI m c R))
      ⊢ RW m K c 0 0 iprop(owX c qM ∗ owX c ctxM ∗ owX c accM ∗ AP m c (R2 m c R)) := by
  unfold PA SA AA RQ RI RW TF AP R2 AA
  iintro ⟨HI, HO, ⟨S1, S2, S3, S4⟩, ⟨T1, T2, T3, T4⟩, A1, A2, ⟨Z1, Z2⟩, X0, X1, Hq, F1, F2, Hc, Ha, X4, HR⟩
  isplitl [HI]; · iexact HI
  isplitl [HO]; · iexact HO
  isplitl [S4 F1]
  · iapply (rc_fr m false c)
    isplitl [S4]; · iexact S4
    iexact F1
  isplitl [T4 F2]
  · iapply (rc_fr m true c)
    isplitl [T4]; · iexact T4
    iexact F2
  iframe

/-- The body: a device's whole run. -/
theorem body {c : Dev nD} {Q : PUnit → sProp 𝕄} {R : sProp 𝕄} (h : AR m K c 5 5 5 (AE m c (R2 m c iprop(ow c (Memref.whole cc0_stg5_0) (outX m c) ∗ R))) ⊢ Q ⟨⟩) :
    BP m K c iprop(owX c (Memref.whole cc0_stg5_0) ∗ R) ⊢ WP c (ap (cc0_body (F := F))) Q := by
  have hout : ∀ {k : PUnit → Prog (TpuEff nD τ sig (Elt F) Λ₀ .tc) PUnit} {hi hl hi' hx hm},
      (AR m K c 5 5 5 (AE m c (R2 m c iprop(ow c (Memref.whole cc0_stg5_0) (outX m c) ∗ R))) ⊢ WP c (k ⟨⟩) Q) →
      (AR m K c 5 5 5 (AE m c (R2 m c iprop(owX c (Memref.whole cc0_stg5_0) ∗ R))) ⊢ WP c
        (Prog.lift (.load (Memref.whole cc0_stg5_0 : Memref sig .tc .vmem S2x128x512 .f32) (Rect.unit (s := S2x128x512) ![0, 0, 0] S2x128x512.size hi).toLoadRect hl) >>= fun _ =>
          Prog.lift (.store (Memref.whole cc0_stg5_0 : Memref sig .tc .vmem S2x128x512 .f32) (Rect.unit (s := S2x128x512) ![0, 0, 0] S2x128x512.size hi') (k0_pay2 (accX m 5 c)) Finset.univ hx hm) >>= k) Q) := fun {k hi hl hi' hx hm} h => by
    have h1 : ∀ X, iprop(ow c (Memref.whole cc0_stg5_0 : Memref sig .tc .vmem S2x128x512 .f32) X ∗ AR m K c 5 5 5 (AE m c (R2 m c R))) ⊢ WP c
        (Prog.lift (.load (Memref.whole cc0_stg5_0 : Memref sig .tc .vmem S2x128x512 .f32) (Rect.unit (s := S2x128x512) ![0, 0, 0] S2x128x512.size hi).toLoadRect hl) >>= fun _ =>
          Prog.lift (.store (Memref.whole cc0_stg5_0 : Memref sig .tc .vmem S2x128x512 .f32) (Rect.unit (s := S2x128x512) ![0, 0, 0] S2x128x512.size hi') (k0_pay2 (accX m 5 c)) Finset.univ hx hm) >>= k) Q := fun X => by
      refine load_all (s := S2x128x512) ![0, 0, 0] (by decide) (lift_s (store_step (X := X) (ent ?_ h)))
      rw [overlay_all (s := S2x128x512) ![0, 0, 0] hi' _ _ (by decide)]
      unfold AR AE R2 AA
      iintro ⟨H1, H2, H3, H4, H5, E1, E2, E3, E4, E5, E6, E7, Z1, Z2, Z3, Z4, Z5, Z6, Z7, HR⟩
      isplitl [H2]; · iexact H2
      isplitl [H3]; · iexact H3
      isplitl [H4]; · iexact H4
      isplitl [H5]; · iexact H5
      isplitl [E1]; · iexact E1
      isplitl [E2]; · iexact E2
      isplitl [E3]; · iexact E3
      isplitl [E4]; · iexact E4
      isplitl [E5]; · iexact E5
      isplitl [E6]; · iexact E6
      isplitl [E7]; · iexact E7
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [H1]; · iexact H1
      iexact HR
    refine ent ?_ (exists_elim h1)
    unfold AR AE R2 AA owX
    iintro ⟨H2, H3, H4, H5, E1, E2, E3, E4, E5, E6, E7, Z1, Z2, Z3, Z4, Z5, Z6, Z7, ⟨%X, H1⟩, HR⟩
    iexists X
    iframe
  unfold ap; rw [cc0_body_eq_skeleton]; unfold cc0_body_skel
  refine ent (bp_bs m K c _) ?_
  refine bind_s (part20 m K fun _ => ?_)
  refine bind_s (part21 m K _ fun _ => ?_)
  refine bind_s (part22 m K fun ⟨_, _⟩ => ?_)
  refine bind_s (part23 m K _ _ fun _ => ?_)
  refine bind_s (part24 m K _ _ _ ?_)
  refine ent (pa_rw m K c _) ?_
  refine bind_s (part25 m K rfl ?_)
  refine bind_s (part26 m K ?_)
  refine bind_s (part27 m K ?_)
  refine bind_s (part28 m K ?_)
  refine bind_s (part29 m K ?_)
  refine bind_s (part30 m K ?_)
  refine bind_s (part31 m ?_)
  refine bind_s (part32 m ?_)
  refine bind_s (part33 m ?_)
  refine bind_s (part34 m ?_)
  refine bind_s (part35 m ?_)
  refine bind_s (part36 m ?_)
  refine bind_s (part37 m ?_)
  refine bind_s (part38 m ?_)
  refine bind_s (part39 m ?_)
  refine bind_s (part40 m ?_)
  refine bind_s (part41 m K _ ?_)
  refine bind_s (part42 m K _ ?_)
  refine bind_s (part43 m K _ ?_)
  refine bind_s (part44 m K _ ?_)
  refine bind_s (part45 m K _ ?_)
  refine readAcc m K ?_
  refine putAcc m K (na' := 5) rfl ?_
  refine readAcc m K ?_
  refine hout ?_
  exact pure_s h

end Cert.KP

end
-- ==== Proof.K.Ghost.lean ====
/-
The launch: the cells' invariants, and what each device is dealt, put in the form its body starts from.
-/
module

public import proofs.«01_k».proof.Proof.K.Body

@[expose] public section

set_option maxRecDepth 10000

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## Over all kinds of cell -/

theorem bigSep_bool (Φ : Bool → sProp 𝕄) : bigSep Finset.univ Φ = iprop(Φ false ∗ Φ true) :=
  bigSep_univ_eq_bigSepL [false, true] (by decide) (by decide) Φ

abbrev OK : Type := (Bool × Dev nD) ⊕ (Bool × Fin 16) ⊕ Fin 5 ⊕ Fin 5 ⊕ Bool
/-- The kernel's own semaphores: every cell but the barrier's. -/
def okc (k : OK) : CK := CK.equiv.symm (.inr k)
def osem (k : OK) : SemLoc sig := csem (okc k)

theorem ck_bar (Φ : CK → sProp 𝕄) : bigSep Finset.univ Φ = iprop(Φ .bar ∗ bigSep Finset.univ fun k => Φ (okc k)) := by
  have e1 := bigSep_univ_equiv CK.equiv.symm Φ
  have e2 := bigSep_univ_sum (α := Unit) (β := OK) fun x => Φ (CK.equiv.symm x)
  have e3 : bigSep (Finset.univ : Finset Unit) (fun a => Φ (CK.equiv.symm (.inl a))) = Φ .bar := bigSep_singleton ..
  refine e1.trans (e2.trans ?_)
  rw [e3]; rfl

theorem ck_all (Φ : CK → sProp 𝕄) : bigSep Finset.univ Φ = iprop(Φ .bar
    ∗ ((bigSep Finset.univ fun d => Φ (.snd false d)) ∗ bigSep Finset.univ fun d => Φ (.snd true d))
    ∗ ((bigSep Finset.univ fun s => Φ (.rcv false s)) ∗ bigSep Finset.univ fun s => Φ (.rcv true s))
    ∗ (bigSep Finset.univ fun r => Φ (.ars r)) ∗ (bigSep Finset.univ fun r => Φ (.arr r)) ∗ Φ (.loc false) ∗ Φ (.loc true)) := by
  rw [ck_bar]
  refine congrArg (fun X => iprop(Φ .bar ∗ X)) ?_
  have s1 := bigSep_univ_sum (fun k : OK => Φ (okc k))
  have s2 := bigSep_univ_sum (fun k : (Bool × Fin 16) ⊕ Fin 5 ⊕ Fin 5 ⊕ Bool => Φ (okc (.inr k)))
  have s3 := bigSep_univ_sum (fun k : Fin 5 ⊕ Fin 5 ⊕ Bool => Φ (okc (.inr (.inr k))))
  have s4 := bigSep_univ_sum (fun k : Fin 5 ⊕ Bool => Φ (okc (.inr (.inr (.inr k)))))
  have p1 := bigSep_univ_prod (fun k : Bool × Dev nD => Φ (okc (.inl k)))
  have p2 := bigSep_univ_prod (fun k : Bool × Fin 16 => Φ (okc (.inr (.inl k))))
  rw [bigSep_bool] at p1 p2
  rw [bigSep_bool] at s4
  refine s1.trans ?_
  rw [p1, s2, p2, s3, s4]; rfl

/-! ## Tokens -/

/-- The tokens of the duties device `e` pays, at whatever cell. -/
def T (e : Dev nD) : sProp 𝕄 := bigSep Finset.univ fun c : Dev nD => bigSep Finset.univ fun k : CK => dutyTok ER (cell c k) 0 e

def TS (kv : Bool) (e : Dev nD) : sProp 𝕄 :=
  bigSep Finset.univ fun d : Dev nD => if Ev e ∧ d ≠ e then iprop(dutyTok ER (cell e (.snd kv d)) 0 e ∗ dutyTok ER (cell d (.rcv kv (sl e))) 0 e) else iprop(emp)

theorem ts_intro (kv : Bool) (e : Dev nD) :
    iprop((bigSep Finset.univ fun c : Dev nD => bigSep Finset.univ fun d : Dev nD => (dutyTok ER (cell c (.snd kv d)) 0 e : sProp 𝕄))
      ∗ bigSep Finset.univ fun c : Dev nD => bigSep Finset.univ fun s : Fin 16 => (dutyTok ER (cell c (.rcv kv s)) 0 e : sProp 𝕄)) ⊢ TS (F := F) kv e := by
  have h1 : (bigSep Finset.univ fun c : Dev nD => bigSep Finset.univ fun d : Dev nD => (dutyTok ER (cell c (.snd kv d)) 0 e : sProp 𝕄))
      ⊢ bigSep Finset.univ fun d : Dev nD => (dutyTok ER (cell e (.snd kv d)) 0 e : sProp 𝕄) := bigSep_elim (Finset.mem_univ e)
  have h2 : (bigSep Finset.univ fun c : Dev nD => bigSep Finset.univ fun s : Fin 16 => (dutyTok ER (cell c (.rcv kv s)) 0 e : sProp 𝕄))
      ⊢ bigSep Finset.univ fun c : Dev nD => (dutyTok ER (cell c (.rcv kv (sl e))) 0 e : sProp 𝕄) := bsm fun c _ => bigSep_elim (Finset.mem_univ (sl e))
  have h3 : iprop((bigSep Finset.univ fun d : Dev nD => (dutyTok ER (cell e (.snd kv d)) 0 e : sProp 𝕄))
      ∗ bigSep Finset.univ fun c : Dev nD => (dutyTok ER (cell c (.rcv kv (sl e))) 0 e : sProp 𝕄)) ⊢ TS (F := F) kv e := by
    rw [← bigSep_sep']
    refine bsm fun d _ => ?_
    by_cases h : Ev e ∧ d ≠ e
    · rw [if_pos h]
    · rw [if_neg h]; iintro -; iempintro
  iintro ⟨H1, H2⟩
  iapply h3
  isplitl [H1]; · iapply h1; iexact H1
  iapply h2; iexact H2

/-- The tokens device `e` pays with, sorted. -/
theorem t_split (e : Dev nD) : T (F := F) e ⊢ iprop((bigSep Finset.univ fun d : Dev nD => (dutyTok ER (cell d .bar) 0 e : sProp 𝕄)) ∗ TS false e ∗ TS true e
    ∗ (bigSep Finset.univ fun r : Fin 5 => iprop(dutyTok ER (cell e (.ars r)) 0 e ∗ dutyTok ER (cell (pr r e) (.arr r)) 0 e))
    ∗ dutyTok ER (cell e (.loc false)) 0 e ∗ dutyTok ER (cell e (.loc true)) 0 e) := by
  unfold T
  rw [show (bigSep Finset.univ fun c : Dev nD => bigSep Finset.univ fun k : CK => (dutyTok ER (cell c k) 0 e : sProp 𝕄)) = _ from
    bigSep_congr fun c _ => ck_all fun k => dutyTok ER (cell c k) 0 e]
  simp only [bigSep_sep']
  have h1 : (bigSep Finset.univ fun c : Dev nD => bigSep Finset.univ fun r : Fin 5 => (dutyTok ER (cell c (.ars r)) 0 e : sProp 𝕄))
      ⊢ bigSep Finset.univ fun r : Fin 5 => (dutyTok ER (cell e (.ars r)) 0 e : sProp 𝕄) := bigSep_elim (Finset.mem_univ e)
  have h2 : (bigSep Finset.univ fun c : Dev nD => bigSep Finset.univ fun r : Fin 5 => (dutyTok ER (cell c (.arr r)) 0 e : sProp 𝕄))
      ⊢ bigSep Finset.univ fun r : Fin 5 => (dutyTok ER (cell (pr r e) (.arr r)) 0 e : sProp 𝕄) := by
    rw [bigSep_univ_comm]; exact bsm fun r _ => bigSep_elim (Finset.mem_univ (pr r e))
  have h3 : ∀ kv, (bigSep Finset.univ fun c : Dev nD => (dutyTok ER (cell c (.loc kv)) 0 e : sProp 𝕄)) ⊢ dutyTok ER (cell e (.loc kv)) 0 e := fun kv => bigSep_elim (Finset.mem_univ e)
  iintro ⟨H1, ⟨S1, S2⟩, ⟨R1, R2⟩, A1, A2, L1, L2⟩
  isplitl [H1]; · iexact H1
  isplitl [S1 R1]
  · iapply (ts_intro false e)
    isplitl [S1]; · iexact S1
    iexact R1
  isplitl [S2 R2]
  · iapply (ts_intro true e)
    isplitl [S2]; · iexact S2
    iexact R2
  isplitl [A1 A2]
  · isplitl [A1]; · iapply h1; iexact A1
    iapply h2; iexact A2
  isplitl [L1]; · iapply (h3 false); iexact L1
  iapply (h3 true); iexact L2

/-! ## The credit dealt at the launch -/

/-- What device `c` owes at the launch. -/
def O₀ (c : Dev nD) : CT := OW (rem c 0 0 0 0)

theorem OW_cell (f : Dev nD × CK → ℕ) (x : Dev nD × CK) : OW f (kcell x) () = f x := by
  unfold OW
  rw [CT_sum_apply, Finset.sum_eq_single x (fun y _ hy => by rw [tallyAt_apply]; exact if_neg fun h => hy (kcell_injective h.1.symm)) (fun h => absurd (Finset.mem_univ x) h),
    tallyAt_apply]
  exact if_pos ⟨rfl, rfl⟩

theorem launch_cell (c : Dev nD) (k : CK) (a : ℕ) (h : ∑ d : Dev nD, rem d 0 0 0 0 (c, k) = a) :
    tallyOn (cell c k) (launchCredit (Pipeline.owing O₀) 0 (cell c k)) = (tallyAt (cell c k) () a : CT) := by
  unfold tallyAt; refine congrArg _ (Finsupp.ext fun u => ?_); cases u
  rw [Pipeline.launchCredit_owing, Finsupp.single_eq_same, ← h]
  refine Finset.sum_congr rfl fun d _ => ?_
  have e := OW_cell (rem d 0 0 0 0) (c, k)
  rw [show kcell (c, k) = cell c k from rfl] at e
  unfold O₀
  rw [← e]

theorem due_bar (c : Dev nD) : ∑ d : Dev nD, rem d 0 0 0 0 (c, .bar) = 32 := by
  have e : ∀ d : Dev nD, rem d 0 0 0 0 (c, .bar) = 1 := fun d => by
    show (if 0 ≤ (c : ℕ) then 1 else 0) = 1
    exact if_pos (Nat.zero_le _)
  simp only [e, Finset.sum_const, Finset.card_univ]
  rfl
theorem due_rcv (c : Dev nD) (kv : Bool) (s : Fin 16) (h : dv s ≠ c) : ∑ d : Dev nD, rem d 0 0 0 0 (c, .rcv kv s) = N := by
  refine (Finset.sum_eq_single (dv s) (fun d _ hd => ?_) (fun h => absurd (Finset.mem_univ _) h)).trans ?_
  · exact if_neg fun h => hd (by rw [h.2.1, dv_sl d h.1])
  exact if_pos ⟨ev_dv s, (sl_dv s).symm, h.symm, by cases kv <;> exact Nat.zero_le _⟩
theorem due_arr (c : Dev nD) (r : Fin 5) : ∑ d : Dev nD, rem d 0 0 0 0 (c, .arr r) = Nar := by
  refine (Finset.sum_eq_single (pr r c) (fun d _ hd => ?_) (fun h => absurd (Finset.mem_univ _) h)).trans ?_
  · exact if_neg fun h => hd (by have := h.1; dsimp only at this; rw [this, pr_pr])
  exact if_pos ⟨(pr_pr r c).symm, Nat.zero_le _⟩

/-- The credits device `c` starts with. -/
def CI (c : Dev nD) : sProp 𝕄 :=
  iprop(cred (tallyAt (cell c .bar) () 32)
    ∗ (bigSep Finset.univ fun s : Fin 16 => if dv s = c then iprop(emp) else cred (tallyAt (cell c (.rcv false s)) () N))
    ∗ (bigSep Finset.univ fun s : Fin 16 => if dv s = c then iprop(emp) else cred (tallyAt (cell c (.rcv true s)) () N))
    ∗ bigSep Finset.univ fun r : Fin 5 => cred (tallyAt (cell c (.arr r)) () Nar))

theorem creds (c : Dev nD) : (Pipeline.launchCred O₀ c : sProp 𝕄) ⊢ CI c := by
  have h0 : (Pipeline.launchCred O₀ c : sProp 𝕄) ⊢ bigSep Finset.univ fun k : CK => (cred (tallyOn (cell c k) (launchCredit (Pipeline.owing O₀) 0 (cell c k))) : sProp 𝕄) := by
    unfold Pipeline.launchCred
    refine ent (bigSep_subset (Finset.subset_univ (Finset.univ.map ⟨csem, csem_injective⟩))) (Entails.of_eq ?_)
    rw [bigSep_map]; rfl
  have hr : ∀ kv, (bigSep Finset.univ fun s : Fin 16 => (cred (tallyOn (cell c (.rcv kv s)) (launchCredit (Pipeline.owing O₀) 0 (cell c (.rcv kv s)))) : sProp 𝕄))
      ⊢ bigSep Finset.univ fun s : Fin 16 => if dv s = c then iprop(emp) else cred (tallyAt (cell c (.rcv kv s)) () N) := fun kv => by
    refine bsm fun s _ => ?_
    by_cases h : dv s = c
    · rw [if_pos h]; iintro -; iempintro
    · rw [if_neg h, launch_cell c (.rcv kv s) N (due_rcv c kv s h)]
  have ha : (bigSep Finset.univ fun r : Fin 5 => (cred (tallyOn (cell c (.arr r)) (launchCredit (Pipeline.owing O₀) 0 (cell c (.arr r)))) : sProp 𝕄))
      ⊢ bigSep Finset.univ fun r : Fin 5 => cred (tallyAt (cell c (.arr r)) () Nar) := bsm fun r _ => by rw [launch_cell c (.arr r) Nar (due_arr c r)]
  refine ent h0 ?_
  rw [ck_all, launch_cell c .bar 32 (due_bar c)]
  unfold CI
  iintro ⟨H1, -, ⟨R1, R2⟩, -, A, -⟩
  isplitl [H1]; · iexact H1
  isplitl [R1]; · iapply (hr false); iexact R1
  isplitl [R2]; · iapply (hr true); iexact R2
  iapply ha; iexact A

/-! ## A device's start -/

/-- What stays with device `c`: its positions, and the tokens of the duties it pays. -/
def lin (c : Dev nD) : sProp 𝕄 := iprop((bigSep Finset.univ fun k : CK => (atPos ER (cell c k) 0 ∅ 0 : sProp 𝕄)) ∗ T c)

/-- The kernel's own memory. -/
def mem0 (c : Dev nD) : sProp 𝕄 :=
  iprop(owX c (bM false) ∗ owX c (bM true) ∗ owX c (gM false) ∗ owX c (gM true) ∗ owX c qM ∗ owX c ctxM ∗ owX c accM ∗ owX c arM)
/-- The staged inputs. -/
def ins (c : Dev nD) : sProp 𝕄 :=
  iprop(ow c (Memref.whole cc0_stg0_0) (x0 m c) ∗ ow c (Memref.whole cc0_stg1_0) (x1 m c) ∗ ow c (aM false) (xkv m false c) ∗ ow c (aM true) (xkv m true c)
    ∗ ow c (Memref.whole cc0_stg4_0) (x4 m c))

theorem bp_intro (c : Dev nD) (R : sProp 𝕄) :
    iprop(Prs m K ∗ owe c (rem c 0 0 0 0) ∗ lin c ∗ CI c ∗ mem0 c ∗ ins m c ∗ R) ⊢ BP m K c R := by
  have hF : iprop((bigSep Finset.univ fun r => (atPos ER (cell c (.ars r)) 0 ∅ 0 : sProp 𝕄)) ∗ (bigSep Finset.univ fun r => (atPos ER (cell c (.arr r)) 0 ∅ 0 : sProp 𝕄))
      ∗ (bigSep Finset.univ fun r : Fin 5 => cred (tallyAt (cell c (.arr r)) () Nar))
      ∗ bigSep Finset.univ fun r : Fin 5 => iprop(dutyTok ER (cell c (.ars r)) 0 c ∗ dutyTok ER (cell (pr r c) (.arr r)) 0 c)) ⊢ bigSep Finset.univ (FA0 (F := F) c) := by
    rw [← bigSep_sep', ← bigSep_sep', ← bigSep_sep']
    exact bsm fun r _ => Entails.of_eq rfl
  have hR : ∀ kv, iprop((bigSep Finset.univ fun s : Fin 16 => (atPos ER (cell c (.rcv kv s)) 0 ∅ 0 : sProp 𝕄))
      ∗ bigSep Finset.univ fun s : Fin 16 => if dv s = c then iprop(emp) else cred (tallyAt (cell c (.rcv kv s)) () N)) ⊢ bigSep Finset.univ (RC (F := F) kv c) := fun kv => by
    rw [← bigSep_sep']
    exact bsm fun s _ => Entails.of_eq rfl
  have hL : ∀ kv, (dutyTok ER (cell c (.loc kv)) 0 c : sProp 𝕄) ⊢ if Ev c then dutyTok ER (cell c (.loc kv)) 0 c else iprop(emp) := fun kv => by
    split
    · exact Entails.of_eq rfl
    · iintro -; iempintro
  unfold lin CI mem0 ins BP SI AA RQ RI
  rw [ck_all]
  iintro ⟨HI, HO, ⟨⟨P1, ⟨P2, P3⟩, ⟨P4, P5⟩, P6, P7, P8, P9⟩, HT⟩, ⟨C1, C2, C3, C4⟩, ⟨M1, M2, M3, M4, M5, M6, M7, M8⟩, ⟨X0, X1, X2, X3, X4⟩, HR⟩
  ihave HT' := (t_split c) $$ HT
  unfold TS
  icases HT' with ⟨T1, T2, T3, T4, T5, T6⟩
  isplitl [HI]; · iexact HI
  isplitl [HO]; · iexact HO
  isplitl [T1 M3 M4 M8]
  · isplitl [T1]; · iexact T1
    isplitl [M3]; · iexact M3
    isplitl [M4]; · iexact M4
    iexact M8
  isplitl [P1]; · iexact P1
  isplitl [C1]; · iexact C1
  isplitl [P2 T2 M1 P8 T5]
  · isplitl [P2]; · iexact P2
    isplitl [T2]; · iexact T2
    isplitl [M1]; · iexact M1
    isplitl [P8]; · iexact P8
    iapply (hL false); iexact T5
  isplitl [P3 T3 M2 P9 T6]
  · isplitl [P3]; · iexact P3
    isplitl [T3]; · iexact T3
    isplitl [M2]; · iexact M2
    isplitl [P9]; · iexact P9
    iapply (hL true); iexact T6
  isplitl [P6 P7 C4 T4]
  · iapply hF
    isplitl [P6]; · iexact P6
    isplitl [P7]; · iexact P7
    isplitl [C4]; · iexact C4
    iexact T4
  isplitl [X2]; · iexact X2
  isplitl [X3]; · iexact X3
  isplitl [X0]; · iexact X0
  isplitl [X1]; · iexact X1
  isplitl [M5]; · iexact M5
  isplitl [P4 C2]
  · iapply (hR false)
    isplitl [P4]; · iexact P4
    iexact C2
  isplitl [P5 C3]
  · iapply (hR true)
    isplitl [P5]; · iexact P5
    iexact C3
  isplitl [M6]; · iexact M6
  isplitl [M7]; · iexact M7
  isplitl [X4]; · iexact X4
  iexact HR

/-! ## A device's end -/

def arIx (i : S5x256x512.Idx) : S256x512.Idx := ValueIdx.ix2 (n0 := 256) (n1 := 512) ⟨(i 1 : ℕ), (i 1).isLt⟩ ⟨(i 2 : ℕ), (i 2).isLt⟩

/-- The five exchange slots are the exchange buffer. -/
theorem ar_join (c : Dev nD) (Y : Fin 5 → S256x512.Idx → Elt F .f32) :
    (bigSep Finset.univ fun r => ow c (arSlotM r) (Y r) : sProp 𝕄) ⊢ owX c arM := by
  refine ent (ent (bsm fun r _ => ?_) (owns_of_rects (c : Thread nD τ) arM fullShare arR (fun _ _ => rfl) ar_disj ar_cov (fun i => Y (i 0) (arIx i)))) (ow_owX c arM _)
  refine ent (ow_squeeze c _ _ _) (Entails.of_eq (congrArg _ (funext fun j => ?_)))
  have h0 : ((arR r).emb j) 0 = r := Fin.ext (by have : (j 0 : ℕ) < 1 := (j 0).isLt; show (r : ℕ) + 1 * (j 0 : ℕ) = r; omega)
  show Y r ((Shape.reshapeEquiv squeezes_S1x256x512_S256x512.numel_eq).symm j) = Y (((arR r).emb j) 0) (arIx ((arR r).emb j))
  rw [h0]
  congr 1
  rw [Equiv.symm_apply_eq]
  unfold arIx
  refine Eq.trans ?_ (ValueIdx.reshapeEquiv_ix2_1ab (a := 256) (b := 512) _ _ _).symm
  funext a
  match a with
  | ⟨0, _⟩ => exact Fin.ext (by have : (j 0 : ℕ) < 1 := (j 0).isLt; show (j 0 : ℕ) = 0; omega)
  | ⟨1, _⟩ => exact Fin.ext (by show (j 1 : ℕ) = 0 + 1 * (j 1 : ℕ); omega)
  | ⟨2, _⟩ => exact Fin.ext (by show (j 2 : ℕ) = 0 + 1 * (j 2 : ℕ); omega)

theorem fa_end (c : Dev nD) : bigSep Finset.univ (fa m c 5) ⊢ iprop((bigSep Finset.univ fun r => (semVal (cell c (.ars r)) 0 : sProp 𝕄))
    ∗ (bigSep Finset.univ fun r => (semVal (cell c (.arr r)) 0 : sProp 𝕄)) ∗ owX c arM) := by
  have e : bigSep Finset.univ (fa m c 5) ⊢ iprop((bigSep Finset.univ fun r => (semVal (cell c (.ars r)) 0 : sProp 𝕄))
      ∗ (bigSep Finset.univ fun r => (semVal (cell c (.arr r)) 0 : sProp 𝕄)) ∗ bigSep Finset.univ fun r : Fin 5 => ow c (arSlotM r) (accX m r (pr r c))) := by
    rw [← bigSep_sep', ← bigSep_sep']
    refine bsm fun r _ => Entails.of_eq ?_
    exact if_pos r.isLt
  refine ent e ?_
  iintro ⟨H1, H2, H3⟩
  isplitl [H1]; · iexact H1
  isplitl [H2]; · iexact H2
  iapply (ar_join c fun r => accX m r (pr r c)); iexact H3

/-- The end: nothing owed, every cell closed at zero, the memory whole again. -/
theorem end_split (c : Dev nD) (R : sProp 𝕄) : AR m K c 5 5 5 (AE m c (R2 m c R))
    ⊢ iprop(owe c (rem c 32 32 32 5) ∗ (bigSep Finset.univ fun k : CK => (semVal (cell c k) 0 : sProp 𝕄)) ∗ mem0 c ∗ ins m c ∗ R) := by
  unfold AR AE R2 AA mem0 ins
  rw [ck_all]
  iintro ⟨-, HO, Hacc, HF, Hc, Hq, G1, G2, V1, V2, X4, HB, ⟨S1, L1, B1⟩, ⟨S2, L2, B2⟩, X2, X3, X0, X1, HR⟩
  ihave HF' := (fa_end m c) $$ HF
  icases HF' with ⟨F1, F2, Har⟩
  isplitl [HO]; · iexact HO
  isplitl [HB S1 S2 V1 V2 F1 F2 L1 L2]
  · isplitl [HB]; · iexact HB
    isplitl [S1 S2]
    · isplitl [S1]; · iexact S1
      iexact S2
    isplitl [V1 V2]
    · isplitl [V1]; · iexact V1
      iexact V2
    isplitl [F1]; · iexact F1
    isplitl [F2]; · iexact F2
    isplitl [L1]; · iexact L1
    iexact L2
  isplitl [B1 B2 G1 G2 Hq Hc Hacc Har]
  · isplitl [B1]; · iexact B1
    isplitl [B2]; · iexact B2
    isplitl [G1]; · iapply (ow_owX c (gM false)); iexact G1
    isplitl [G2]; · iapply (ow_owX c (gM true)); iexact G2
    isplitl [Hq]; · iapply (ow_owX c qM); iexact Hq
    isplitl [Hc]; · iapply (ow_owX c ctxM); iexact Hc
    isplitl [Hacc]; · iapply (ow_owX c accM); iexact Hacc
    iexact Har
  isplitl [X0 X1 X2 X3 X4]
  · isplitl [X0]; · iexact X0
    isplitl [X1]; · iexact X1
    isplitl [X2]; · iexact X2
    isplitl [X3]; · iexact X3
    iexact X4
  iexact HR

end Cert.KP

end
-- ==== Proof.K.Launch.lean ====
/-
The launch and the run: every execution ends, with the result at the computed contents, the arguments unchanged and every semaphore at zero.
-/
module

public import proofs.«01_k».proof.Proof.K.Ghost
public import proofs.«01_k».proof.Proof.Gen.KernelIdeal.Launch
public import proofs.«01_k».proof.Proof.Gen.KernelIdeal.Points
public import Idealize.ShloMosaic.Lib.Pipeline.CollectiveSegs

@[expose] public section

set_option maxRecDepth 10000

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

variable (ρ : Dev nD → PrngReg)

theorem cfg0_N : cfg0.N = 1 := N_0
def t₀ : Fin cfg0.N := t0_0
theorem fin_N (t : Fin cfg0.N) : t = t₀ := fin_N0 t

/-- What device `c` starts from. -/
def start (c : Dev nD) : sProp 𝕄 := iprop((∃ K, Prs m K ∗ lin c) ∗ CI c)

def Φ₀ (c : Dev nD) : sProp 𝕄 := iprop(start m c ∗ mem0 c)
def Φ₁ (c : Dev nD) : sProp 𝕄 := iprop((bigSep Finset.univ fun k : CK => (semVal (cell c k) 0 : sProp 𝕄)) ∗ mem0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => x0 m c
    | ⟨1, _⟩ => x1 m c
    | ⟨2, _⟩ => xkv m false c
    | ⟨3, _⟩ => xkv m true c
    | ⟨4, _⟩ => x4 m c
    | ⟨5, _⟩ => outX m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-! ## The body -/

def bodyPre (c : Dev nD) : sProp 𝕄 :=
  iprop(Φ₀ m c ∗ (dats m ρ 0 c).owesAt () t₀.castSucc
    ∗ (∃ d, ow c (Memref.whole cc0_stg0_0) ((dats m ρ 0 c).before (0 : Fin 6) t₀ d))
    ∗ (∃ d, ow c (Memref.whole cc0_stg1_0) ((dats m ρ 0 c).before (1 : Fin 6) t₀ d))
    ∗ (∃ d, ow c (Memref.whole cc0_stg2_0) ((dats m ρ 0 c).before (2 : Fin 6) t₀ d))
    ∗ (∃ d, ow c (Memref.whole cc0_stg3_0) ((dats m ρ 0 c).before (3 : Fin 6) t₀ d))
    ∗ (∃ d, ow c (Memref.whole cc0_stg4_0) ((dats m ρ 0 c).before (4 : Fin 6) t₀ d))
    ∗ (∃ d, ow c (Memref.whole cc0_stg5_0) ((dats m ρ 0 c).before (5 : Fin 6) t₀ d)))

def bodyPost (c : Dev nD) : sProp 𝕄 :=
  iprop(Φ₁ c ∗ (dats m ρ 0 c).owesAt () t₀.succ
    ∗ ow c (Memref.whole cc0_stg0_0) (x0 m c) ∗ ow c (Memref.whole cc0_stg1_0) (x1 m c) ∗ ow c (Memref.whole cc0_stg2_0) (xkv m false c)
    ∗ ow c (Memref.whole cc0_stg3_0) (xkv m true c) ∗ ow c (Memref.whole cc0_stg4_0) (x4 m c) ∗ ow c (Memref.whole cc0_stg5_0) (outX m c))

theorem before_0 (c : Dev nD) (d) : (dats m ρ 0 c).before (0 : Fin 6) t₀ d = x0 m c := by unfold Dat.before; rw [if_pos (fetch0_0 t₀)]; rfl
theorem before_1 (c : Dev nD) (d) : (dats m ρ 0 c).before (1 : Fin 6) t₀ d = x1 m c := by unfold Dat.before; rw [if_pos (fetch0_1 t₀)]; rfl
theorem before_2 (c : Dev nD) (d) : (dats m ρ 0 c).before (2 : Fin 6) t₀ d = xkv m false c := by unfold Dat.before; rw [if_pos (fetch0_2 t₀)]; rfl
theorem before_3 (c : Dev nD) (d) : (dats m ρ 0 c).before (3 : Fin 6) t₀ d = xkv m true c := by unfold Dat.before; rw [if_pos (fetch0_3 t₀)]; rfl
theorem before_4 (c : Dev nD) (d) : (dats m ρ 0 c).before (4 : Fin 6) t₀ d = x4 m c := by unfold Dat.before; rw [if_pos (fetch0_4 t₀)]; rfl

theorem pre_bp (c : Dev nD) : bodyPre m ρ c ⊢ iprop(∃ K, BP m K c iprop(owX c (Memref.whole cc0_stg5_0) ∗ emp)) := by
  unfold bodyPre Φ₀ start
  simp only [before_0, before_1, before_2, before_3, before_4]
  unfold Dat.owesAt Pipeline.owesWithin
  iintro ⟨⟨⟨⟨%K, HP, HL⟩, HC⟩, HM⟩, ⟨%W, -, HO⟩, ⟨%d0, H0⟩, ⟨%d1, H1⟩, ⟨%d2, H2⟩, ⟨%d3, H3⟩, ⟨%d4, H4⟩, ⟨%d5, H5⟩⟩
  iexists K
  iapply (bp_intro m K c)
  unfold ins
  isplitl [HP]; · iexact HP
  isplitl [HO]; · iapply (owe_intro c (rem c 0 0 0 0) W); iexact HO
  isplitl [HL]; · iexact HL
  isplitl [HC]; · iexact HC
  isplitl [HM]; · iexact HM
  isplitl [H0 H1 H2 H3 H4]
  · isplitl [H0]; · iexact H0
    isplitl [H1]; · iexact H1
    isplitl [H2]; · iexact H2
    isplitl [H3]; · iexact H3
    iexact H4
  isplitl [H5]
  · iapply (ow_owX c (Memref.whole cc0_stg5_0)); iexact H5
  iempintro

theorem ar_post (K : Dev nD × CK → ℕ) (c : Dev nD) :
    AR m K c 5 5 5 (AE m c (R2 m c iprop(ow c (Memref.whole cc0_stg5_0) (outX m c) ∗ emp))) ⊢ bodyPost m ρ c := by
  refine ent (end_split m K c _) ?_
  rw [show owe (F := F) c (rem c 32 32 32 5) = iprop(∃ W, owes (c : Thread nD τ) (0 : CT) W) from by unfold owe; rw [rem_end]]
  unfold ins bodyPost Φ₁ Dat.owesAt Pipeline.owesWithin
  iintro ⟨⟨%W, HO⟩, HS, HM, ⟨H0, H1, H2, H3, H4⟩, H5, -⟩
  isplitl [HS HM]
  · isplitl [HS]; · iexact HS
    iexact HM
  isplitl [HO]
  · iexists W
    isplitr; · ipureintro; exact fun _ _ => Or.inl trivial
    rw [show (dats m ρ 0 c).owed t₀.succ = 0 from rfl]
    iexact HO
  isplitl [H0]; · iexact H0
  isplitl [H1]; · iexact H1
  isplitl [H2]; · iexact H2
  isplitl [H3]; · iexact H3
  isplitl [H4]; · iexact H4
  iexact H5

theorem body_run (c : Dev nD) : bodyPre m ρ c ⊢ WP c (ap (cc0_body (F := F))) (fun _ => bodyPost m ρ c) :=
  ent (pre_bp m ρ c) (exists_elim fun K => body m K (ar_post m ρ K c))

theorem body_obligation (c : Dev nD) : BodyObligation (dats (F := F) m ρ 0 c) (defs₀ (F := F)) 𝒱₀ () Set.univ := fun t => by
  rw [fin_N t]
  rw [bigSep_W, bigSep_W]
  have h := body_run m ρ c
  rw [WP_eq] at h
  exact h

/-! ## The launch -/

theorem ownSemFacts : Pipeline.OwnSemFacts cfg0.spec osem where
  isScoped k := by
    have h : ∀ n : DmaSem sig, (SemLoc.dma n : SemLoc sig).isScoped .tc = true := by decide
    have e : osem k = .dma (okc k).num := by rcases k with ⟨_, _⟩ | ⟨_, _⟩ | _ | _ | _ <;> rfl
    rw [e]; exact h _
  inj a b h := by
    have h1 : okc a = okc b := csem_injective h
    exact Sum.inr_injective (CK.equiv.symm.injective h1)
  disj k w s h := by
    have h1 : kOf (osem k) = some (okc k) := kOf_csem _
    rw [h] at h1
    have h2 : ∀ (w : Fin 6) (s : Fin (spec0 w).nbuf), kOf (SemLoc.dma ((spec0 w).sem s)) = none := by decide
    exact absurd ((h2 w s).symm.trans h1) (by intro h; cases h)

theorem share_eq (c : Dev nD) (w : Fin cfg0.W) : (dats m ρ 0 c).share w = fullShare := by unfold Dat.share; split <;> rfl

def runCells : Finset (GSem nD τ sig) := Finset.univ.map ⟨kcell, kcell_injective⟩
/-- A token: a cell, its one round, who pays. -/
abbrev tokOf (x : (Dev nD × CK) × Dev nD) : GSem nD τ sig × ℕ × Dev nD := (kcell x.1, 0, x.2)
theorem tokOf_injective : Function.Injective tokOf := fun a b h =>
  Prod.ext (kcell_injective (congrArg Prod.fst h)) (congrArg (fun x => x.2.2) h)
def runToks : Finset (GSem nD τ sig × ℕ × Dev nD) := Finset.univ.map ⟨tokOf, tokOf_injective⟩

def u₀ : UU := (initOf (Pipeline.cells cfgs cellOf_inj) (Pipeline.launchToks cfgs cellOf_inj), initOf runCells runToks)

/-- What the launch element deals device `c`. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ T c)

/-- Every cell's invariant, and that its one round is reached. -/
def records (K : Dev nD × CK → ℕ) : sProp 𝕄 :=
  bigSep Finset.univ fun x : Dev nD × CK => iprop(cellInv ER (Rd m) (K x) (kcell x) ∗ reached ER (kcell x) 0)
instance records_persistent (K : Dev nD × CK → ℕ) : BI.Persistent (records (F := F) m K) := by unfold records; infer_instance

def G' (c : Dev nD) : sProp 𝕄 := iprop(∃ K, records m K ∗ lin c)

theorem fund_run : BI.own (ER (initOf runCells runToks)) ⊢ (|==> bigSep Finset.univ (G m) : sProp 𝕄) := by
  have hX (Φ : GSem nD τ sig → sProp 𝕄) : bigSep runCells Φ = bigSep Finset.univ fun c : Dev nD => bigSep Finset.univ fun k : CK => Φ (kcell (c, k)) := by
    unfold runCells; rw [bigSep_map, bigSep_univ_prod]; rfl
  have hT : bigSep runToks (fun x => (dutyTok ER x.1 x.2.1 x.2.2 : sProp 𝕄)) = bigSep Finset.univ fun c : Dev nD => T c := by
    unfold runToks
    rw [bigSep_map]
    refine (bigSep_univ_prod _).trans ?_
    refine (bigSep_univ_comm _).trans ?_
    refine bigSep_congr fun e _ => ?_
    exact bigSep_univ_prod _
  iintro HX
  imod (Rounds.fund ER (Rd m) runCells runToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem sems_eq (c : Dev nD) :
    iprop(unscopedSems0 c ∗ Pipeline.ownSems0 (Ix := Unit) (Name := ℕ) (U := UU) (Lvl := ℕ) (Val := Elt F) (τ := τ) osem c)
      = (bigSep Finset.univ fun k : CK => semVal (cell c k) 0 : sProp 𝕄) := by
  rw [ck_bar]
  unfold unscopedSems0
  rw [bigSep_eq_bigSepL_of_eq [SemLoc.reg barS] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ T c) := by
  unfold G
  iintro ⟨Hos, Hus, Hst, Hat, Htok⟩
  ihave Hv := (Entails.of_eq (sems_eq (F := F) c)) $$ [Hos Hus]
  · isplitl [Hus] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (BI.Laws.sep_mono_left (BI.bigSep_of_persistent S R)).trans (by rw [← bigSep_sep']; exact bigSep_mono h)

theorem g_intro (K : Dev nD × CK → ℕ) (c : Dev nD) : iprop(records m K ∗ lin c) ⊢ G' m c := by
  unfold G'; iintro H; iexists K; iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ T c) : sProp 𝕄)
      ⊢ bigSep Finset.univ (G' m) := by
  rw [bigSep_sep', bigSep_sep', ← bigSep_univ_prod (fun x : Dev nD × CK => iprop(∃ κ : ℕ, cellInv ER (Rd m) κ (kcell x))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun x : Dev nD × CK => (reached ER (kcell x) 0 : sProp 𝕄))]
  iintro ⟨HI, ⟨Hat, #HR⟩, Htok⟩
  ihave HK := (BI.bigSep_exists_pi Finset.univ (fun (x : Dev nD × CK) (κ : ℕ) => (cellInv ER (Rd m) κ (kcell x) : sProp 𝕄))) $$ HI
  icases HK with ⟨%K, #HI⟩
  iapply (with_persistent (R := records m K) fun c _ => g_intro m K c)
  isplitr
  · unfold records; rw [bigSep_sep']
    isplitl; · iexact HI
    iexact HR
  · unfold lin
    rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G' Prs records
  icases HG with ⟨%K, HK, HL⟩
  isplitl
  · isplitl [HK HL Hlev]
    · iexists K
      isplitl [HK Hlev]
      · isplitl [HK]; · iexact HK
        iexact Hlev
      iexact HL
    iexact Hc
  · iempintro

theorem owX_whole₁ (c : Dev nD) (b : Ref sig .tc) :
    (owX c (Memref.whole b) : sProp 𝕄) ⊢ iprop(∃ f : Buf (Elt F) ((c : Thread nD τ).loc b), ((c : Thread nD τ).loc b) ↦{fullShare} f) := by
  unfold owX ow ownsTc owns
  simp only [Memref.view_whole, View.read_whole, View.set_whole]
  iintro ⟨%X, %f, -, H⟩
  iexists f; iexact H

theorem owX_whole₂ (c : Dev nD) (b : Ref sig .tc) :
    iprop(∃ f : Buf (Elt F) ((c : Thread nD τ).loc b), ((c : Thread nD τ).loc b) ↦{fullShare} f) ⊢ (owX c (Memref.whole b) : sProp 𝕄) := by
  unfold owX ow ownsTc owns
  simp only [Memref.view_whole, View.read_whole, View.set_whole]
  iintro ⟨%f, H⟩
  iexists f; iexists f
  isplitr; · (ipureintro; rfl)
  iexact H

theorem owX_whole (c : Dev nD) (b : Ref sig .tc) :
    (owX c (Memref.whole b) : sProp 𝕄) = iprop(∃ f : Buf (Elt F) ((c : Thread nD τ).loc b), ((c : Thread nD τ).loc b) ↦{fullShare} f) :=
  Entails.antisymm (owX_whole₁ c b) (owX_whole₂ c b)

theorem rest_mem (c : Dev nD) : (Pipeline.scopedRest cfg0.spec c : sProp 𝕄) = mem0 c := by
  unfold mem0
  simp only [owX_whole]
  exact scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, rest_mem]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, rest_mem]
  unfold Φ₁
  rw [← sems_eq]
  iintro ⟨⟨H1, H2⟩, Hr⟩
  isplitl [H1]; · iexact H1
  isplitl [H2]; · iexact H2
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · have h2 : ∀ (w : Fin 6) (s : Fin (spec0 w).nbuf), kOf (SemLoc.dma ((spec0 w).sem s)) = none := by decide
      refine mayWait_of c _ 0 (le_of_eq ?_) (rem c 0 0 0 0) (lev_start c)
      unfold lv
      rw [show kOf _ = none from h2 w s]
    · show (levAts L lv : sProp 𝕄) ⊢ MayWait _ _ _ 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_run m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument array after the run holds what it held. -/
theorem final_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

/-- The result array after the run. -/
theorem final_out (c : Dev nD) : (win0_5.blk (0 : Fin 1)).view.read (Elt F) (finalA m ρ c (5 : Fin 6)) = outX m c := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

end Cert.KP

end
-- ==== Proof.K.Frames.lean ====
/-
Each program's frame: it ends, its arguments unchanged and every semaphore at zero. The two kernels have the same text,
so the one run serves both.
-/
module

public import proofs.«01_k».proof.Defs
public import proofs.«01_k».proof.Proof.K.Launch
public import proofs.«01_k».proof.Proof.Gen.Kernel

@[expose] public section

set_option maxRecDepth 65536

noncomputable section

namespace Cert.KP

open Idealize.ShloMosaic
open Idealize.ShloMosaic.TcCoe
open Idealize.SL.Sem

section
open Cert.KernelIdeal Cert.KernelIdeal.Gen
variable {F : FTy → Type} [FloatOps F]

theorem frame_main (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c (0 : Fin 6)).trans (final_in m g c (0 : Fin 6) rfl), (h.1 c (1 : Fin 6)).trans (final_in m g c (1 : Fin 6) rfl),
    (h.1 c (2 : Fin 6)).trans (final_in m g c (2 : Fin 6) rfl), (h.1 c (3 : Fin 6)).trans (final_in m g c (3 : Fin 6) rfl),
    (h.1 c (4 : Fin 6)).trans (final_in m g c (4 : Fin 6) rfl)⟩, h.2⟩) (run_main m g)

end

/-! ## The printed kernel and its ideal reading have one text -/

theorem same_part1 : Cert.Kernel.k0_part1 (F := Bits) = Cert.KernelIdeal.k0_part1 (F := Bits) := rfl
theorem same_part2 : Cert.Kernel.k0_part2 (F := Bits) = Cert.KernelIdeal.k0_part2 (F := Bits) := rfl
theorem same_part3 : Cert.Kernel.k0_part3 (F := Bits) = Cert.KernelIdeal.k0_part3 (F := Bits) := rfl
theorem same_part4 : Cert.Kernel.k0_part4 (F := Bits) = Cert.KernelIdeal.k0_part4 (F := Bits) := rfl
theorem same_part5 : Cert.Kernel.k0_part5 (F := Bits) = Cert.KernelIdeal.k0_part5 (F := Bits) := rfl
theorem same_part6 : Cert.Kernel.k0_part6 (F := Bits) = Cert.KernelIdeal.k0_part6 (F := Bits) := rfl
theorem same_part7 : Cert.Kernel.k0_part7 (F := Bits) = Cert.KernelIdeal.k0_part7 (F := Bits) := rfl
theorem same_part8 : Cert.Kernel.k0_part8 (F := Bits) = Cert.KernelIdeal.k0_part8 (F := Bits) := rfl
theorem same_part9 : Cert.Kernel.k0_part9 (F := Bits) = Cert.KernelIdeal.k0_part9 (F := Bits) := rfl
theorem same_part10 : Cert.Kernel.k0_part10 (F := Bits) = Cert.KernelIdeal.k0_part10 (F := Bits) := rfl
theorem same_part11 : Cert.Kernel.k0_part11 (F := Bits) = Cert.KernelIdeal.k0_part11 (F := Bits) := rfl
theorem same_part12 : Cert.Kernel.k0_part12 (F := Bits) = Cert.KernelIdeal.k0_part12 (F := Bits) := rfl
theorem same_part13 : Cert.Kernel.k0_part13 (F := Bits) = Cert.KernelIdeal.k0_part13 (F := Bits) := rfl
theorem same_part14 : Cert.Kernel.k0_part14 (F := Bits) = Cert.KernelIdeal.k0_part14 (F := Bits) := rfl
theorem same_part15 : Cert.Kernel.k0_part15 (F := Bits) = Cert.KernelIdeal.k0_part15 (F := Bits) := rfl
theorem same_part16 : Cert.Kernel.k0_part16 (F := Bits) = Cert.KernelIdeal.k0_part16 (F := Bits) := rfl
theorem same_part17 : Cert.Kernel.k0_part17 (F := Bits) = Cert.KernelIdeal.k0_part17 (F := Bits) := rfl
theorem same_part18 : Cert.Kernel.k0_part18 (F := Bits) = Cert.KernelIdeal.k0_part18 (F := Bits) := rfl
theorem same_part19 : Cert.Kernel.k0_part19 (F := Bits) = Cert.KernelIdeal.k0_part19 (F := Bits) := rfl
theorem same_part20 : Cert.Kernel.k0_part20 (F := Bits) = Cert.KernelIdeal.k0_part20 (F := Bits) := rfl
theorem same_part21 : Cert.Kernel.k0_part21 (F := Bits) = Cert.KernelIdeal.k0_part21 (F := Bits) := rfl
theorem same_part22 : Cert.Kernel.k0_part22 (F := Bits) = Cert.KernelIdeal.k0_part22 (F := Bits) := rfl
theorem same_part23 : Cert.Kernel.k0_part23 (F := Bits) = Cert.KernelIdeal.k0_part23 (F := Bits) := rfl
theorem same_part24 : Cert.Kernel.k0_part24 (F := Bits) = Cert.KernelIdeal.k0_part24 (F := Bits) := rfl
theorem same_part25 : Cert.Kernel.k0_part25 (F := Bits) = Cert.KernelIdeal.k0_part25 (F := Bits) := rfl
theorem same_part26 : Cert.Kernel.k0_part26 (F := Bits) = Cert.KernelIdeal.k0_part26 (F := Bits) := rfl
theorem same_part27 : Cert.Kernel.k0_part27 (F := Bits) = Cert.KernelIdeal.k0_part27 (F := Bits) := rfl
theorem same_part28 : Cert.Kernel.k0_part28 (F := Bits) = Cert.KernelIdeal.k0_part28 (F := Bits) := rfl
theorem same_part29 : Cert.Kernel.k0_part29 (F := Bits) = Cert.KernelIdeal.k0_part29 (F := Bits) := rfl
theorem same_part30 : Cert.Kernel.k0_part30 (F := Bits) = Cert.KernelIdeal.k0_part30 (F := Bits) := rfl
theorem same_part31 : Cert.Kernel.k0_part31 (F := Bits) = Cert.KernelIdeal.k0_part31 (F := Bits) := rfl
theorem same_part32 : Cert.Kernel.k0_part32 (F := Bits) = Cert.KernelIdeal.k0_part32 (F := Bits) := rfl
theorem same_part33 : Cert.Kernel.k0_part33 (F := Bits) = Cert.KernelIdeal.k0_part33 (F := Bits) := rfl
theorem same_part34 : Cert.Kernel.k0_part34 (F := Bits) = Cert.KernelIdeal.k0_part34 (F := Bits) := rfl
theorem same_part35 : Cert.Kernel.k0_part35 (F := Bits) = Cert.KernelIdeal.k0_part35 (F := Bits) := rfl
theorem same_part36 : Cert.Kernel.k0_part36 (F := Bits) = Cert.KernelIdeal.k0_part36 (F := Bits) := rfl
theorem same_part37 : Cert.Kernel.k0_part37 (F := Bits) = Cert.KernelIdeal.k0_part37 (F := Bits) := rfl
theorem same_part38 : Cert.Kernel.k0_part38 (F := Bits) = Cert.KernelIdeal.k0_part38 (F := Bits) := rfl
theorem same_part39 : Cert.Kernel.k0_part39 (F := Bits) = Cert.KernelIdeal.k0_part39 (F := Bits) := rfl
theorem same_part40 : Cert.Kernel.k0_part40 (F := Bits) = Cert.KernelIdeal.k0_part40 (F := Bits) := rfl
theorem same_part41 : Cert.Kernel.k0_part41 (F := Bits) = Cert.KernelIdeal.k0_part41 (F := Bits) := rfl
theorem same_part42 : Cert.Kernel.k0_part42 (F := Bits) = Cert.KernelIdeal.k0_part42 (F := Bits) := rfl
theorem same_part43 : Cert.Kernel.k0_part43 (F := Bits) = Cert.KernelIdeal.k0_part43 (F := Bits) := rfl
theorem same_part44 : Cert.Kernel.k0_part44 (F := Bits) = Cert.KernelIdeal.k0_part44 (F := Bits) := rfl
theorem same_part45 : Cert.Kernel.k0_part45 (F := Bits) = Cert.KernelIdeal.k0_part45 (F := Bits) := rfl
theorem same_body : Cert.Kernel.cc0_body (F := Bits) = Cert.KernelIdeal.cc0_body (F := Bits) := rfl

theorem same_defs₀ : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl
  | ⟨_ + 1, h⟩, _ => exact absurd h (Nat.not_lt.2 (Nat.le_add_left _ _))

theorem same_defs : Cert.Kernel.defs (F := Bits) = Cert.KernelIdeal.defs (F := Bits) := by
  unfold Cert.Kernel.defs Cert.KernelIdeal.defs
  rw [same_defs₀]
  rfl

theorem frame_kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [same_defs]
  exact frame_main (F := Bits) m g

end Cert.KP

end
-- ==== Proof.V.Maths.lean ====
/-
What the value proof needs of the extended reals: a softmax whose masked entries weigh nothing is the softmax over
the entries kept, and five rounds of pairwise sums add up all 32 terms.
-/
module

public import Idealize.ShloMosaic.PureOps.Ideal
public import Idealize.ShloMosaic.PureOps.IdealRules
public import Idealize.ShloMosaic.Lib.Pointwise

@[expose] public section

noncomputable section

namespace Cert.KV

open Idealize.ShloMosaic

/-! ## The masked softmax -/

theorem exp_bot_sub (r : ℝ) : Ideal.exp (⊥ - (r : EReal)) = 0 := by
  rw [EReal.bot_sub]; rfl

theorem exp_coe_sub (a b : ℝ) : Ideal.exp ((a : EReal) - (b : EReal)) = ((Real.exp (a - b) : ℝ) : EReal) := by
  rw [← EReal.coe_sub]; rfl

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The greatest of finitely many reals is one of them. -/
theorem fold_max_coe {κ : Type*} [Fintype κ] [Nonempty κ] (a : κ → ℝ) :
    ∃ k₀, Finset.univ.fold max (⊥ : EReal) (fun k => (a k : EReal)) = (a k₀ : EReal) := by
  obtain ⟨k₀, -, h⟩ := Finset.exists_max_image Finset.univ a Finset.univ_nonempty
  refine ⟨k₀, le_antisymm ?_ ?_⟩
  · exact (Finset.fold_max_le _).2 ⟨bot_le, fun k hk => EReal.coe_le_coe_iff.2 (h k hk)⟩
  · exact (Finset.le_fold_max _).2 (.inr ⟨k₀, Finset.mem_univ _, le_rfl⟩)

/-- Entries at `⊥` do not move the greatest of the others. -/
theorem fold_max_gather {ι κ : Type*} [Fintype ι] [Fintype κ] (φ : κ → ι) (s : ι → EReal) (a : κ → ℝ)
    (hs : ∀ k, s (φ k) = (a k : EReal)) (hm : ∀ j, j ∉ Set.range φ → s j = ⊥) :
    Finset.univ.fold max (⊥ : EReal) s = Finset.univ.fold max (⊥ : EReal) (fun k => (a k : EReal)) := by
  refine le_antisymm ((Finset.fold_max_le _).2 ⟨bot_le, fun j _ => ?_⟩) ((Finset.fold_max_le _).2 ⟨bot_le, fun k _ => ?_⟩)
  · by_cases hj : j ∈ Set.range φ
    · obtain ⟨k, rfl⟩ := hj
      rw [hs]
      exact (Finset.le_fold_max _).2 (.inr ⟨k, Finset.mem_univ _, le_rfl⟩)
    · rw [hm j hj]; exact bot_le
  · rw [← hs]
    exact (Finset.le_fold_max _).2 (.inr ⟨φ k, Finset.mem_univ _, le_rfl⟩)

/-- A softmax-weighted sum over scores that are `⊥` off the range of `φ` is the one over the kept scores: the masked
    ones have weight `0 / S` with `S` a positive real. -/
theorem softmax_gather {ι κ : Type*} [Fintype ι] [Fintype κ] [Nonempty κ] (φ : κ → ι) (hφ : Function.Injective φ)
    (s : ι → EReal) (a : κ → ℝ) (hs : ∀ k, s (φ k) = (a k : EReal)) (hm : ∀ j, j ∉ Set.range φ → s j = ⊥) (v : ι → EReal) :
    ∑ j, v j * Ideal.div (Ideal.exp (s j - Finset.univ.fold max (⊥ : EReal) s)) (∑ j', Ideal.exp (s j' - Finset.univ.fold max (⊥ : EReal) s))
      = ∑ k, Ideal.div (Ideal.exp ((a k : EReal) - Finset.univ.fold max (⊥ : EReal) (fun k => (a k : EReal))))
          (∑ k', Ideal.exp ((a k' : EReal) - Finset.univ.fold max (⊥ : EReal) (fun k => (a k : EReal)))) * v (φ k) := by
  rw [fold_max_gather φ s a hs hm]
  obtain ⟨k₀, hk₀⟩ := fold_max_coe a
  rw [hk₀]
  have hsum : ∑ j, Ideal.exp (s j - (a k₀ : EReal)) = ∑ k, Ideal.exp ((a k : EReal) - (a k₀ : EReal)) :=
    (Fintype.sum_of_injective φ hφ _ _ (fun j hj => by rw [hm j hj, exp_bot_sub]) (fun k => by rw [hs])).symm
  rw [hsum]
  have hpos : ∑ k, Ideal.exp ((a k : EReal) - (a k₀ : EReal)) ≠ 0 := by
    simp_rw [exp_coe_sub]
    rw [← coe_sum]
    have : 0 < ∑ k, Real.exp (a k - a k₀) := Finset.sum_pos (fun k _ => Real.exp_pos _) Finset.univ_nonempty
    exact fun h => this.ne' (EReal.coe_eq_zero.1 h)
  refine (Fintype.sum_of_injective φ hφ _ _ (fun j hj => ?_) (fun k => ?_)).symm
  · rw [hm j hj, exp_bot_sub, Ideal.div, if_neg hpos, zero_mul, mul_zero]
  · rw [hs, mul_comm]

/-! ## Five rounds of pairwise sums -/

/-- The devices whose terms device `c` has summed before round `r`. -/
def reach (r : ℕ) (c : Fin 32) : Finset (Fin 32) := Finset.univ.filter fun d => (d : ℕ) ^^^ (c : ℕ) < 2 ^ r

/-- The partner in round `r`. -/
def xorP (r : ℕ) (c : Fin 32) : Fin 32 := ⟨((c : ℕ) ^^^ 2 ^ r) % 32, Nat.mod_lt _ (by decide)⟩

theorem reach_zero (c : Fin 32) : reach 0 c = {c} := by revert c; decide +kernel
theorem reach_five (c : Fin 32) : reach 5 c = Finset.univ := by revert c; decide +kernel
theorem reach_succ (r : Fin 5) (c : Fin 32) : reach (r + 1) c = reach r c ∪ reach r (xorP r c) := by revert r c; decide +kernel
theorem reach_disj (r : Fin 5) (c : Fin 32) : Disjoint (reach r c) (reach r (xorP r c)) := by revert r c; decide +kernel

theorem butterfly {M : Type*} [AddCommMonoid M] (f : ℕ → Fin 32 → M) (hf : ∀ r c, f (r + 1) c = f r c + f r (xorP r c)) (c : Fin 32) :
    f 5 c = ∑ d, f 0 d := by
  have key : ∀ r, r ≤ 5 → ∀ c, f r c = ∑ d ∈ reach r c, f 0 d := by
    intro r
    induction r with
    | zero => intro _ c; rw [reach_zero, Finset.sum_singleton]
    | succ r ih =>
      intro hr c
      rw [hf, ih (by omega), ih (by omega), reach_succ ⟨r, by omega⟩ c, Finset.sum_union (reach_disj ⟨r, by omega⟩ c)]
  rw [key 5 le_rfl, reach_five]

/-- A sum over 8192 features, device by device. -/
theorem sum_devices {M : Type*} [AddCommMonoid M] (g : Fin 8192 → M) :
    ∑ f, g f = ∑ c : Fin 32, ∑ e : Fin 256, g ⟨256 * (c : ℕ) + e, by have := c.isLt; have := e.isLt; omega⟩ := by
  rw [← Fintype.sum_prod_type']
  refine (Equiv.sum_comp (finProdFinEquiv (m := 32) (n := 256)) g).symm.trans (Finset.sum_congr rfl fun p _ => congrArg g (Fin.ext ?_))
  show (p.2 : ℕ) + 256 * p.1 = 256 * (p.1 : ℕ) + p.2
  omega

/-! ## The literals -/

theorem negInf : Ideal.ofBits .f32 0xFF800000#32 = (⊥ : EReal) := by simp [Ideal.ofBits, Ideal.ieee]
theorem posInf : Ideal.ofBits .f32 0x7F800000#32 = (⊤ : EReal) := by simp [Ideal.ofBits, Ideal.ieee]
theorem eighth : ∃ r : ℝ, Ideal.ofBits .f32 0x3E000000#32 = (r : EReal) := by
  simp only [Ideal.ofBits, Ideal.ieee]
  rw [if_neg (by decide)]
  split <;> exact ⟨_, rfl⟩

/-! ## The whole arrays' places -/

/-- The column of head `h`'s entry `d`. -/
def hd (h : ℕ) (d : Fin 64) : Fin 8192 := ⟨(h % 128) * 64 + d, by omega⟩
/-- The column of the whole array that is column `e` of device `c`'s block. -/
def gcol (c : Fin 32) (e : Fin 256) : Fin 8192 := ⟨256 * (c : ℕ) + e, by have := c.isLt; have := e.isLt; omega⟩
/-- The key that is row `r` of device `c`'s band. -/
def grow (c : Fin 32) (r : Fin 128) : Fin 4096 := ⟨128 * (c : ℕ) + r, by have := c.isLt; have := r.isLt; omega⟩
/-- The `k`-th of the 1024 keys that query `i` keeps. -/
def kof (i : Fin 128) (k : Fin 1024) : Fin 4096 :=
  ⟨256 * ((k : ℕ) / 64) + 64 * ((i : ℕ) / 64) + (k : ℕ) % 64, by have := i.isLt; have := k.isLt; omega⟩

theorem kof_inj (i : Fin 128) : Function.Injective (kof i) := by
  intro k k' h
  have h := congrArg Fin.val h
  change 256 * ((k : ℕ) / 64) + 64 * ((i : ℕ) / 64) + (k : ℕ) % 64 = 256 * ((k' : ℕ) / 64) + 64 * ((i : ℕ) / 64) + (k' : ℕ) % 64 at h
  have := i.isLt
  exact Fin.ext (by omega)

theorem kof_kept (i : Fin 128) (k : Fin 1024) : (kof i k : ℕ) / 64 % 4 = (i : ℕ) / 64 := by
  have := i.isLt; have := k.isLt
  show (256 * ((k : ℕ) / 64) + 64 * ((i : ℕ) / 64) + (k : ℕ) % 64) / 64 % 4 = _
  omega

theorem kept_kof (i : Fin 128) (j : Fin 4096) (h : (j : ℕ) / 64 % 4 = (i : ℕ) / 64) : j ∈ Set.range (kof i) := by
  have := i.isLt; have := j.isLt
  refine ⟨⟨64 * ((j : ℕ) / 256) + (j : ℕ) % 64, by omega⟩, Fin.ext ?_⟩
  show 256 * ((64 * ((j : ℕ) / 256) + (j : ℕ) % 64) / 64) + 64 * ((i : ℕ) / 64) + (64 * ((j : ℕ) / 256) + (j : ℕ) % 64) % 64 = _
  omega

/-! ## The attention over the kept keys, in the kernel's order of operations -/

/-- A scaled query entry. -/
def qG (x : FVec Ideal ⟨3, ![2, 128, 512]⟩ .bf16) (wq : FVec Ideal ⟨2, ![512, 8192]⟩ .bf16) (b : Fin 2) (i : Fin 128) (f : Fin 8192) : EReal :=
  (∑ e : Fin 512, x (ix3 b i e) * wq (ix2 e f)) * Ideal.ofBits .f32 0x3E000000#32

/-- A score of a kept key. -/
def aG (x : FVec Ideal ⟨3, ![2, 128, 512]⟩ .bf16) (wq : FVec Ideal ⟨2, ![512, 8192]⟩ .bf16) (kk : FVec Ideal ⟨3, ![2, 4096, 8192]⟩ .bf16)
    (b : Fin 2) (i : Fin 128) (h : ℕ) (k : Fin 1024) : EReal :=
  ∑ d : Fin 64, qG x wq b i (hd h d) * kk (ix3 b (kof i k) (hd h d))

/-- The softmax of 1024 scores, weighing 1024 values. -/
def soft (a v : Fin 1024 → EReal) : EReal :=
  ∑ k, Ideal.div (Ideal.exp (a k - Finset.univ.fold max (⊥ : EReal) a)) (∑ k', Ideal.exp (a k' - Finset.univ.fold max (⊥ : EReal) a)) * v k

/-- A context entry. -/
def ctxG (x : FVec Ideal ⟨3, ![2, 128, 512]⟩ .bf16) (wq : FVec Ideal ⟨2, ![512, 8192]⟩ .bf16) (kk vv : FVec Ideal ⟨3, ![2, 4096, 8192]⟩ .bf16)
    (b : Fin 2) (i : Fin 128) (f : Fin 8192) : EReal :=
  soft (aG x wq kk b i ((f : ℕ) / 64)) (fun k => vv (ix3 b (kof i k) f))

end Cert.KV

end
-- ==== Proof.V.Ker.lean ====
/-
The kernel's result, entry by entry, of the whole arrays: each device's contexts are the attention over the keys kept,
and five rounds of exchange add up every device's product.
-/
module

public import proofs.«01_k».proof.Proof.K.Cells
public import Idealize.ShloMosaic.Lib.Pointwise
public import Idealize.ShloMosaic.Lib.ValueLayout
public import proofs.«01_k».proof.Proof.V.Maths

@[expose] public section

noncomputable section

namespace Cert.KV

open Cert.KernelIdeal Cert.KernelIdeal.Gen Cert.KP Idealize.ShloMosaic Idealize.ShloMosaic.TcCoe

variable (m : (ℓ : Loc nD τ sig) → Buf (Elt Ideal) ℓ)

/-- What the devices' staged blocks hold of the whole arrays. -/
structure Agree (x : FVec Ideal S2x128x512 .bf16) (wq : FVec Ideal ⟨2, ![512, 8192]⟩ .bf16)
    (kk vv : FVec Ideal ⟨3, ![2, 4096, 8192]⟩ .bf16) (wo : FVec Ideal ⟨2, ![8192, 512]⟩ .bf16) : Prop where
  h0 : ∀ c i, x0 m c i = x i
  h1 : ∀ c e f, x1 m c (ix2 e f) = wq (ix2 e (gcol c f))
  h2 : ∀ c b r f, x2 m c (ix3 b r f) = kk (ix3 b (grow c r) f)
  h3 : ∀ c b r f, x3 m c (ix3 b r f) = vv (ix3 b (grow c r) f)
  h4 : ∀ c f o, x4 m c (ix2 f o) = wo (ix2 (gcol c f) o)

theorem pay27_apply (q : Vec Ideal S64x64 .bf16) (k v : Vec Ideal S16x1x64x64 .bf16) (i d : Fin 64) :
    k0_pay27 q k v (ix2 i d)
      = soft (fun k' => ∑ e : Fin 64, q (ix2 i e) * k (ix4 ⟨(k' : ℕ) / 64, by omega⟩ 0 ⟨(k' : ℕ) % 64, by omega⟩ e))
          (fun k' => v (ix4 ⟨(k' : ℕ) / 64, by omega⟩ 0 ⟨(k' : ℕ) % 64, by omega⟩ d)) := by
  unfold soft
  pointwise [k0_pay27]
  rw [negInf]

theorem pay21_apply (x : Vec Ideal S2x128x512 .bf16) (w : Vec Ideal S512x256 .bf16) (i f : Fin 256) :
    k0_pay22 (k0_pay21 x w) (ix2 i f)
      = (∑ e : Fin 512, x (ix3 ⟨(i : ℕ) / 128, by omega⟩ ⟨(i : ℕ) % 128, by omega⟩ e) * w (ix2 e f)) * Ideal.ofBits .f32 0x3E000000#32 := by
  pointwise [k0_pay21, k0_pay22]

theorem pay55_apply (x : Vec Ideal S256x256 .f32) (w : Vec Ideal S256x512 .bf16) (i : Fin 256) (o : Fin 512) :
    k0_pay55 x w (ix2 i o) = ∑ f : Fin 256, x (ix2 i f) * w (ix2 f o) := by
  pointwise [k0_pay55]

theorem pay56_apply (x : Vec Ideal S256x512 .f32) (w : Vec Ideal S1x256x512 .f32) (i : Fin 256) (o : Fin 512) :
    k0_pay56 x w (ix2 i o) = x (ix2 i o) + w (ix3 0 i o) := by
  pointwise [k0_pay56]

theorem pay2_apply (x : Vec Ideal S256x512 .f32) (b : Fin 2) (i : Fin 128) (o : Fin 512) :
    k0_pay2 x (ix3 b i o) = x (ix2 ⟨(b : ℕ) * 128 + i, by omega⟩ o) := by
  pointwise [k0_pay2]

variable {m} {x : FVec Ideal S2x128x512 .bf16} {wq : FVec Ideal ⟨2, ![512, 8192]⟩ .bf16}
  {kk vv : FVec Ideal ⟨3, ![2, 4096, 8192]⟩ .bf16} {wo : FVec Ideal ⟨2, ![8192, 512]⟩ .bf16}

theorem q_at (A : Agree m x wq kk vv wo) (c : Dev nD) (t : Fin 16) (r e : Fin 64) (b : Fin 2) (i : Fin 128) (h : ℕ)
    (hR : 64 * ((t : ℕ) / 4) + r = 128 * b + i) (hh : h = 4 * (c : ℕ) + (t : ℕ) % 4) :
    qX m c ((blkR t).emb (ix2 r e)) = qG x wq b i (hd h e) := by
  have hc : (c : ℕ) < 32 := c.isLt
  have he : (blkR t).emb (ix2 r e) = ix2 (⟨128 * b + i, by omega⟩ : Fin 256) (⟨64 * ((t : ℕ) % 4) + e, by omega⟩ : Fin 256) := by
    funext a
    match a with
    | ⟨0, _⟩ => exact Fin.ext (by show 64 * ((t : ℕ) / 4) + 1 * (r : ℕ) = 128 * (b : ℕ) + i; omega)
    | ⟨1, _⟩ => exact Fin.ext (by show 64 * ((t : ℕ) % 4) + 1 * (e : ℕ) = 64 * ((t : ℕ) % 4) + e; omega)
  unfold qX qG
  rw [he, pay21_apply]
  refine congrArg (· * _) (Finset.sum_congr rfl fun e' _ => ?_)
  rw [A.h0, A.h1]
  congr 2
  · congr 1 <;> exact Fin.ext (by simp only []; omega)
  · congr 1
    exact Fin.ext (by show 256 * (c : ℕ) + (64 * ((t : ℕ) % 4) + e) = h % 128 * 64 + e; omega)

/-- What the keys' and values' bands hold. -/
theorem g_at (kv : Bool) (w : FVec Ideal ⟨3, ![2, 4096, 8192]⟩ .bf16) (H : ∀ c b r f, xkv m kv c (ix3 b r f) = w (ix3 b (grow c r) f))
    (c : Dev nD) (t : Fin 16) (k : Fin 1024) (e : Fin 64) (b : Fin 2) (i : Fin 128) (f : Fin 8192)
    (hb : (t : ℕ) / 8 = b) (hi : (t : ℕ) / 4 % 2 = (i : ℕ) / 64) (hf : 256 * (c : ℕ) + 64 * ((t : ℕ) % 4) + e = f) :
    gX m kv c ((kvR t).emb (ix4 (⟨(k : ℕ) / 64, by omega⟩ : Fin 16) (0 : Fin 1) (⟨(k : ℕ) % 64, by omega⟩ : Fin 64) e)) = w (ix3 b (kof i k) f) := by
  have hc : (c : ℕ) < 32 := c.isLt
  have h1 : ((kvR t).emb (ix4 (⟨(k : ℕ) / 64, by omega⟩ : Fin 16) (0 : Fin 1) (⟨(k : ℕ) % 64, by omega⟩ : Fin 64) e)) 0 = (⟨(k : ℕ) / 64, by omega⟩ : Fin 16) :=
    Fin.ext (by show 0 + 1 * ((k : ℕ) / 64) = (k : ℕ) / 64; omega)
  unfold gX chunkX
  rw [h1]
  have he : (chunkR c).emb (gIx ((kvR t).emb (ix4 (⟨(k : ℕ) / 64, by omega⟩ : Fin 16) (0 : Fin 1) (⟨(k : ℕ) % 64, by omega⟩ : Fin 64) e)))
      = ix3 b (⟨64 * ((i : ℕ) / 64) + (k : ℕ) % 64, by omega⟩ : Fin 128) f := by
    funext a
    match a with
    | ⟨0, _⟩ => exact Fin.ext (by show 0 + 1 * ((t : ℕ) / 8 + 1 * 0) = (b : ℕ); omega)
    | ⟨1, _⟩ => exact Fin.ext (by show 0 + 1 * (64 * ((t : ℕ) / 4 % 2) + 1 * ((k : ℕ) % 64)) = 64 * ((i : ℕ) / 64) + (k : ℕ) % 64; omega)
    | ⟨2, _⟩ => exact Fin.ext (by show 256 * (c : ℕ) + 1 * (64 * ((t : ℕ) % 4) + 1 * (e : ℕ)) = f; omega)
  rw [he, H]
  congr 2
  exact Fin.ext (by show 128 * (2 * ((k : ℕ) / 64)) + (64 * ((i : ℕ) / 64) + (k : ℕ) % 64) = 256 * ((k : ℕ) / 64) + 64 * ((i : ℕ) / 64) + (k : ℕ) % 64; omega)

/-- A device's context entry is the attention over the keys kept. -/
theorem ctx_at (A : Agree m x wq kk vv wo) (c : Dev nD) (b : Fin 2) (i : Fin 128) (e : Fin 256) :
    ctxX m c (ix2 (⟨(b : ℕ) * 128 + i, by omega⟩ : Fin 256) e) = ctxG x wq kk vv b i (gcol c e) := by
  have hc : (c : ℕ) < 32 := c.isLt
  obtain ⟨t, ht⟩ : ∃ t : Fin 16, t = blkOf (ix2 (⟨(b : ℕ) * 128 + i, by omega⟩ : Fin 256) e) := ⟨_, rfl⟩
  have htv : (t : ℕ) = 4 * (((b : ℕ) * 128 + i) / 64) + (e : ℕ) / 64 := congrArg Fin.val ht
  have hx : blkIx (ix2 (⟨(b : ℕ) * 128 + i, by omega⟩ : Fin 256) e)
      = ix2 (⟨((b : ℕ) * 128 + i) % 64, by omega⟩ : Fin 64) (⟨(e : ℕ) % 64, by omega⟩ : Fin 64) := by
    funext a
    match a with
    | ⟨0, _⟩ => rfl
    | ⟨1, _⟩ => rfl
  have hg : (gcol c e : ℕ) = 256 * (c : ℕ) + e := rfl
  unfold ctxX
  rw [← ht, hx]
  unfold blkV ctxG
  rw [pay27_apply]
  congr 1
  · funext k'
    refine Finset.sum_congr rfl fun d _ => ?_
    rw [q_at A c t _ d b i ((gcol c e : ℕ) / 64) (by show 64 * ((t : ℕ) / 4) + ((b : ℕ) * 128 + i) % 64 = _; omega) (by omega),
      g_at false kk A.h2 c t k' d b i (hd ((gcol c e : ℕ) / 64) d) (by omega) (by omega)
        (by show _ = (gcol c e : ℕ) / 64 % 128 * 64 + d; omega)]
  · funext k'
    exact g_at true vv A.h3 c t k' _ b i (gcol c e) (by omega) (by omega) (by show 256 * (c : ℕ) + 64 * ((t : ℕ) % 4) + (e : ℕ) % 64 = _; omega)

theorem unsq_at (y : S256x512.Idx → EReal) (i : Fin 256) (o : Fin 512) : unsqAr y (ix3 (0 : Fin 1) i o) = y (ix2 i o) := by
  unfold unsqAr
  congr 1
  rw [Equiv.symm_apply_eq]
  exact (ValueIdx.reshapeEquiv_ix2_1ab (a := 256) (b := 512) _ _ _).symm

theorem acc_succ (r : ℕ) (c : Dev nD) (i : Fin 256) (o : Fin 512) :
    accX m (r + 1) c (ix2 i o) = accX m r c (ix2 i o) + accX m r (pr r c) (ix2 i o) := by
  show k0_pay56 (accX m r c) (unsqAr (accX m r (pr r c))) (ix2 i o) = _
  rw [pay56_apply, unsq_at]

/-- THE KERNEL: each output is the kept keys' attention times the output projection, over every device's features. -/
theorem out_apply (A : Agree m x wq kk vv wo) (c : Dev nD) (b : Fin 2) (i : Fin 128) (o : Fin 512) :
    outX m c (ix3 b i o) = ∑ f : Fin 8192, ctxG x wq kk vv b i f * wo (ix2 f o) := by
  unfold outX
  rw [pay2_apply]
  refine (butterfly (fun r d => accX m r d (ix2 (⟨(b : ℕ) * 128 + i, by omega⟩ : Fin 256) o)) (fun r d => acc_succ r d _ o) c).trans ?_
  rw [sum_devices]
  refine Finset.sum_congr rfl fun d _ => ?_
  show k0_pay55 (ctxX m d) (x4 m d) (ix2 _ o) = _
  rw [pay55_apply]
  refine Finset.sum_congr rfl fun e _ => ?_
  rw [ctx_at A, A.h4]
  rfl

end Cert.KV

end
-- ==== Proof.V.Ref.lean ====
/-
The reference's result, entry by entry: its composed term in named pieces, the mask as arithmetic of block numbers,
and each piece read at an index.
-/
module

public import proofs.«01_k».proof.Proof.Gen.ReferenceIdeal.Run
public import Idealize.ShloMosaic.Lib.Pointwise
public import proofs.«01_k».proof.Proof.V.Maths
@[expose] public section
noncomputable section

namespace Cert.KV
open Cert.ReferenceIdeal Cert.ReferenceIdeal.Gen Idealize.ShloMosaic

/-- `jnp.floor_divide` by a scalar, as the host spells it. -/
def fdiv (S : Shape) (h : S_.BroadcastsInDim S (![] : Fin 0 → Fin S.rank)) (n : IVec S 32) : IVec S 32 :=
  let d : IVec S_ 32 := constantI S_ 32 64#32
  let q := Host.divsi n (broadcastInDim S ![] h (id d))
  select (andi (cmpi .ne (signi n) (broadcastInDim S ![] h (signi (id d))))
      (cmpi .ne (Host.remsi n (broadcastInDim S ![] h (id d))) (broadcastInDim S ![] h (constantI S_ 32 0#32))))
    (subi q (broadcastInDim S ![] h (constantI S_ 32 1#32))) q

/-- `jnp.remainder` by a scalar, as the host spells it. -/
def rem4 (S : Shape) (h : S_.BroadcastsInDim S (![] : Fin 0 → Fin S.rank)) (n : IVec S 32) : IVec S 32 :=
  let d0 : IVec S_ 32 := id (constantI S_ 32 4#32)
  let d : IVec S_ 32 := select (cmpi .eq d0 (constantI S_ 32 0#32)) (constantI S_ 32 1#32) d0
  let r := Host.remsi n (broadcastInDim S ![] h d)
  select (andi (cmpi .ne (cmpi .slt r (broadcastInDim S ![] h (constantI S_ 32 0#32)))
        (broadcastInDim S ![] h (cmpi .slt d (constantI S_ 32 0#32))))
      (cmpi .ne r (broadcastInDim S ![] h (constantI S_ 32 0#32))))
    (addi r (broadcastInDim S ![] h d)) r

/-- The query blocks, a column. -/
def qBlk : IVec S128x1 32 := broadcastInDim S128x1 ![0] bcast_S128_S128x1_0 (fdiv S128 bcast_S_S128 (iotaInDim S128 32 0))
/-- The key blocks, a row. -/
def kBlk : IVec S1x4096 32 := broadcastInDim S1x4096 ![1] bcast_S4096_S1x4096_1 (fdiv S4096 bcast_S_S4096 (iotaInDim S4096 32 0))

/-- Which keys a query keeps. -/
def mask : IVec S128x4096 1 :=
  ori (cmpi .eq (broadcastInDim S128x4096 ![0, 1] bcast_S128x1_S128x4096_0_1 qBlk)
        (broadcastInDim S128x4096 ![0, 1] bcast_S1x4096_S128x4096_0_1 kBlk))
    (cmpi .eq (broadcastInDim S128x4096 ![0, 1] bcast_S1x4096_S128x4096_0_1 (rem4 S1x4096 bcast_S_S1x4096 kBlk))
      (broadcastInDim S128x4096 ![0, 1] bcast_S128x1_S128x4096_0_1 (rem4 S128x1 bcast_S_S128x1 qBlk)))

/-- Which queries keep any key at all. -/
def rowKeep : IVec S128 1 := Host.reduce IntOp.ori mask (constantI S_ 1 0#1) reducesTo_S128x4096_S128_d1 h_S_

/-- The queries, by heads. -/
def rQ (x : Vec Ideal S2x128x512 .bf16) (w : Vec Ideal S512x8192 .bf16) : FVec Ideal S2x128x128x64 .f32 :=
  shapeCast _ (Host.dotGeneral dot_S2x128x512_S512x8192_S2x128x8192_2_0_01_1_n_n none
    (extf .f32 x bitsLt_bf16_f32 : FVec Ideal S2x128x512 .f32) (extf .f32 w bitsLt_bf16_f32)) shapeCasts_S2x128x8192_S2x128x128x64

/-- A key or value array, by heads. -/
def rKV (k : Vec Ideal S2x4096x8192 .bf16) : FVec Ideal S2x4096x128x64 .f32 :=
  shapeCast _ (extf .f32 k bitsLt_bf16_f32 : FVec Ideal S2x4096x8192 .f32) shapeCasts_S2x4096x8192_S2x4096x128x64

/-- The masked scores. -/
def rS (q : FVec Ideal S2x128x128x64 .f32) (k : FVec Ideal S2x4096x128x64 .f32) : FVec Ideal S2x128x128x4096 .f32 :=
  select (broadcastInDim S2x128x128x4096 ![0, 1, 2, 3] bcast_S1x1x128x4096_S2x128x128x4096_0_1_2_3
      (broadcastInDim S1x1x128x4096 ![2, 3] bcast_S128x4096_S1x1x128x4096_2_3 mask))
    (mulf (Host.dotGeneral dot_S2x128x128x64_S2x4096x128x64_S2x128x128x4096_3_3_1_1_02_02 none q k)
      (broadcastInDim S2x128x128x4096 ![] bcast_S_S2x128x128x4096 (constant S_ .f32 0x3E000000#32)))
    (broadcastInDim S2x128x128x4096 ![] bcast_S_S2x128x128x4096 (id (constant S_ .f32 0xFF800000#32)))

/-- A value of each row, along the row. -/
def alongRow (v : FVec Ideal S2x128x128x1 .f32) : FVec Ideal S2x128x128x4096 .f32 :=
  broadcastInDim S2x128x128x4096 ![0, 1, 2, 3] bcast_S2x128x128x1_S2x128x128x4096_0_1_2_3 v

/-- The exponentials of the scores, less the row's greatest. -/
def rE (s : FVec Ideal S2x128x128x4096 .f32) : FVec Ideal S2x128x128x4096 .f32 :=
  Host.exp (subf s (alongRow (broadcastInDim S2x128x128x1 ![0, 1, 2] bcast_S2x128x128_S2x128x128x1_0_1_2
    (Host.reduce FloatOps.maximumf s (constant S_ .f32 0xFF800000#32) reducesTo_S2x128x128x4096_S2x128x128_d3 h_S_))))

/-- The softmax's weights. -/
def rW (e : FVec Ideal S2x128x128x4096 .f32) : FVec Ideal S2x128x128x4096 .f32 :=
  select (broadcastInDim S2x128x128x4096 ![0, 1, 2, 3] bcast_S1x1x128x1_S2x128x128x4096_0_1_2_3
      (broadcastInDim S1x1x128x1 ![2] bcast_S128_S1x1x128x1_2 rowKeep))
    (Host.divf e (alongRow
      (select (broadcastInDim S2x128x128x1 ![0, 1, 2, 3] bcast_S1x1x128x1_S2x128x128x1_0_1_2_3
          (broadcastInDim S1x1x128x1 ![2] bcast_S128_S1x1x128x1_2 rowKeep))
        (broadcastInDim S2x128x128x1 ![0, 1, 2] bcast_S2x128x128_S2x128x128x1_0_1_2
          (Host.reduceAdd e (constant S_ .f32 0x00000000#32) reducesTo_S2x128x128x4096_S2x128x128_d3 h_S_))
        (broadcastInDim S2x128x128x1 ![] bcast_S_S2x128x128x1 (id (constant S_ .f32 0x3F800000#32))))))
    (broadcastInDim S2x128x128x4096 ![] bcast_S_S2x128x128x4096 (id (constant S_ .f32 0x00000000#32)))

/-- The contexts, times the output projection. -/
def rOut (w : FVec Ideal S2x128x128x4096 .f32) (v : FVec Ideal S2x4096x128x64 .f32) (wo : Vec Ideal S8192x512 .bf16) : FVec Ideal S2x128x512 .f32 :=
  Host.dotGeneral dot_S2x128x8192_S8192x512_S2x128x512_2_0_01_1_n_n none
    (shapeCast _ (transpose S2x128x128x64 [0, 3, 1, 2]
      (Host.dotGeneral dot_S2x4096x128x64_S2x128x128x4096_S2x128x64x128_1_3_3_2_02_01 none v w)
      transposes_S2x128x64x128_S2x128x128x64_0_3_1_2) shapeCasts_S2x128x128x64_S2x128x8192)
    (extf .f32 wo bitsLt_bf16_f32)

/-- The reference, of the whole arrays. -/
def refOf (x : Vec Ideal S2x128x512 .bf16) (wq : Vec Ideal S512x8192 .bf16) (k v : Vec Ideal S2x4096x8192 .bf16)
    (wo : Vec Ideal S8192x512 .bf16) : FVec Ideal S2x128x512 .f32 :=
  rOut (rW (rE (rS (rQ x wq) (rKV k)))) (rKV v) wo

theorem res_eq (m : (ℓ : Loc nD τ sig) → Buf (Elt Ideal) ℓ) (c : Dev nD) :
    Value.res_main_v46 m c = refOf (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  rfl

/-! ## The mask -/

theorem fdiv128 (i : Fin 128) : fdiv S128 bcast_S_S128 (iotaInDim S128 32 0) (ix1 i) = BitVec.ofNat 32 ((i : ℕ) / 64) := by
  pointwise [fdiv]
  revert i; decide +kernel

theorem fdiv4096 (j : Fin 4096) : fdiv S4096 bcast_S_S4096 (iotaInDim S4096 32 0) (ix1 j) = BitVec.ofNat 32 ((j : ℕ) / 64) := by
  pointwise [fdiv]
  revert j; decide +kernel

theorem qBlk_apply (i : Fin 128) : qBlk (ix2 i 0) = BitVec.ofNat 32 ((i : ℕ) / 64) := by
  rw [← fdiv128]; pointwise [qBlk]

theorem kBlk_apply (j : Fin 4096) : kBlk (ix2 0 j) = BitVec.ofNat 32 ((j : ℕ) / 64) := by
  rw [← fdiv4096]; pointwise [kBlk]

theorem remq (i : Fin 128) : rem4 S128x1 bcast_S_S128x1 qBlk (ix2 i 0) = BitVec.ofNat 32 ((i : ℕ) / 64 % 4) := by
  pointwise [rem4]
  rw [qBlk_apply]
  have h : (i : ℕ) / 64 < 64 := by omega
  generalize (i : ℕ) / 64 = a at h
  lift a to Fin 64 using h
  revert a; decide +kernel

theorem remk (j : Fin 4096) : rem4 S1x4096 bcast_S_S1x4096 kBlk (ix2 0 j) = BitVec.ofNat 32 ((j : ℕ) / 64 % 4) := by
  pointwise [rem4]
  rw [kBlk_apply]
  have h : (j : ℕ) / 64 < 64 := by omega
  generalize (j : ℕ) / 64 = a at h
  lift a to Fin 64 using h
  revert a; decide +kernel

/-- Key `j` is kept by query `i` when their blocks agree modulo four. -/
theorem mask_apply (i : Fin 128) (j : Fin 4096) : mask (ix2 i j) = BitVec.ofBool (decide ((j : ℕ) / 64 % 4 = (i : ℕ) / 64)) := by
  pointwise [mask]
  rw [qBlk_apply, kBlk_apply, remq, remk]
  have h : (i : ℕ) / 64 < 2 := by omega
  have h' : (j : ℕ) / 64 < 64 := by omega
  generalize (i : ℕ) / 64 = a at h
  generalize (j : ℕ) / 64 = b at h'
  lift a to Fin 2 using h
  lift b to Fin 64 using h'
  revert a b; decide +kernel

/-- Every query keeps a key. -/
theorem rowKeep_apply (i : Fin 128) : rowKeep (ix1 i) = 1#1 := by
  pointwise [rowKeep]
  let j : Fin 4096 := ⟨i, by omega⟩
  rw [← Finset.insert_erase (Finset.mem_univ j), Finset.fold_insert (Finset.notMem_erase _ _)]
  have hj : mask (ix2 i j) = 1#1 := by
    rw [mask_apply]
    have : (j : ℕ) / 64 % 4 = (i : ℕ) / 64 := by show (i : ℕ) / 64 % 4 = _; omega
    simp [this]
  show IntOp.ori (mask (ix2 i j)) _ = _
  rw [hj]
  exact (by decide : ∀ z : BitVec 1, IntOp.ori 1#1 z = 1#1) _

/-! ## The pieces, entry by entry -/

theorem rS_apply (q k) (b : Fin 2) (h i : Fin 128) (j : Fin 4096) : rS q k (ix4 b h i j)
    = if (j : ℕ) / 64 % 4 = (i : ℕ) / 64 then (∑ d : Fin 64, q (ix4 b i h d) * k (ix4 b j h d)) * Ideal.ofBits .f32 0x3E000000#32 else (⊥ : EReal) := by
  pointwise [rS]
  rw [mask_apply]
  show Scalar.select _ _ (Ideal.ofBits .f32 0xFF800000#32) = _
  rw [negInf]
  by_cases hk : (j : ℕ) / 64 % 4 = (i : ℕ) / 64 <;> simp [hk, Scalar.select]

theorem rE_apply (s) (b : Fin 2) (h i : Fin 128) (j : Fin 4096) : rE s (ix4 b h i j)
    = Ideal.exp (s (ix4 b h i j) - Finset.univ.fold max (⊥ : EReal) fun j' : Fin 4096 => s (ix4 b h i j')) := by
  pointwise [rE, alongRow]
  rw [negInf]

theorem rW_apply (e) (b : Fin 2) (h i : Fin 128) (j : Fin 4096) : rW e (ix4 b h i j)
    = Ideal.div (e (ix4 b h i j)) (∑ j' : Fin 4096, e (ix4 b h i j')) := by
  pointwise [rW, alongRow]
  rw [rowKeep_apply]
  rfl

theorem rQ_apply (x w) (b : Fin 2) (i h : Fin 128) (d : Fin 64) : rQ x w (ix4 b i h d) = ∑ e : Fin 512, x (ix3 b i e) * w (ix2 e (hd h d)) := by
  pointwise [rQ]
  refine Finset.sum_congr rfl fun e _ => ?_
  congr 3
  exact Fin.ext (by show (h : ℕ) * 64 + d = (h : ℕ) % 128 * 64 + d; omega)

theorem rKV_apply (k) (b : Fin 2) (j : Fin 4096) (h : Fin 128) (d : Fin 64) : rKV k (ix4 b j h d) = k (ix3 b j (hd h d)) := by
  pointwise [rKV]
  congr 2
  exact Fin.ext (by show (h : ℕ) * 64 + d = (h : ℕ) % 128 * 64 + d; omega)

theorem rOut_apply (w v wo) (b : Fin 2) (i : Fin 128) (o : Fin 512) : rOut w v wo (ix3 b i o)
    = ∑ f : Fin 8192, (∑ j : Fin 4096, v (ix4 b j ⟨(f : ℕ) / 64, by omega⟩ ⟨(f : ℕ) % 64, by omega⟩) * w (ix4 b ⟨(f : ℕ) / 64, by omega⟩ i j)) * wo (ix2 f o) := by
  pointwise [rOut]

/-- A finite array, as reals. -/
def Fin' {S : Shape} {φ : FTy} (a : FVec Ideal S φ) : Prop := ∀ i, ∃ r : ℝ, a i = (r : EReal)

/-- THE REFERENCE: each output is the kept keys' attention times the output projection. Finite queries, keys and
    projections make the scores real. -/
theorem refOf_apply (x wq k v wo) (hx : Fin' x) (hw : Fin' wq) (hk : Fin' k) (b : Fin 2) (i : Fin 128) (o : Fin 512) :
    refOf x wq k v wo (ix3 b i o) = ∑ f : Fin 8192, ctxG x wq k v b i f * wo (ix2 f o) := by
  choose xr hxr using hx
  choose wr hwr using hw
  choose kr hkr using hk
  obtain ⟨L, hL⟩ := eighth
  unfold refOf
  rw [rOut_apply]
  refine Finset.sum_congr rfl fun f _ => congrArg (· * wo (ix2 f o)) ?_
  have hf : (f : ℕ) / 64 < 128 := by have := f.isLt; omega
  have ha : ∀ k', aG x wq k b i ((f : ℕ) / 64) k'
      = ((∑ d : Fin 64, (∑ e : Fin 512, xr (ix3 b i e) * wr (ix2 e (hd ((f : ℕ) / 64) d))) * L * kr (ix3 b (kof i k') (hd ((f : ℕ) / 64) d)) : ℝ) : EReal) := by
    intro k'
    simp only [aG, qG, hxr, hwr, hkr, hL, ← EReal.coe_mul, ← coe_sum]
  unfold ctxG soft
  simp only [ha]
  simp only [rW_apply, rE_apply, rKV_apply]
  have hv : ∀ j, v (ix3 b j (hd ((⟨(f : ℕ) / 64, hf⟩ : Fin 128) : ℕ) ⟨(f : ℕ) % 64, by omega⟩)) = v (ix3 b j f) := fun j => by
    congr 2
    exact Fin.ext (by show (f : ℕ) / 64 % 128 * 64 + (f : ℕ) % 64 = f; omega)
  simp only [hv]
  refine softmax_gather (kof i) (kof_inj i) (fun j => rS (rQ x wq) (rKV k) (ix4 b ⟨(f : ℕ) / 64, hf⟩ i j)) _ (fun k' => ?_) (fun j hj => ?_) (fun j => v (ix3 b j f))
  · show rS _ _ _ = _
    rw [rS_apply, if_pos (kof_kept i k')]
    simp only [rQ_apply, rKV_apply, hxr, hwr, hkr, hL, ← EReal.coe_mul, ← coe_sum]
    congr 1
    rw [Finset.sum_mul]
    exact Finset.sum_congr rfl fun d _ => by ring
  · show rS _ _ _ = _
    rw [rS_apply, if_neg fun h => hj (kept_kof i j h)]

end Cert.KV

end
-- ==== Proof.V.Final.lean ====
/-
The value claim: the kernel's result on every device is the reference's, the devices' blocks being parts of the whole
arrays and the inputs, the query projection and the keys finite.
-/
module

public import proofs.«01_k».proof.Defs
public import proofs.«01_k».proof.Proof.K.Frames
public import proofs.«01_k».proof.Proof.V.Ker
public import proofs.«01_k».proof.Proof.V.Ref

@[expose] public section

noncomputable section

namespace Cert.KV

open Idealize.ShloMosaic Idealize.ShloMosaic.TcCoe Idealize.SL.Sem

instance preK : Cert.Pre_finite_KernelIdeal.Facts where
  bitsLt_bf16_f32 := by decide
  bcast_S_S2x128x512 := by decide
  bcast_S_S512x256 := by decide
  bcast_S_S2x128x8192 := by decide

instance preR : Cert.Pre_finite_ReferenceIdeal.Facts where
  bitsLt_bf16_f32 := by decide
  bcast_S_S2x128x512 := by decide
  bcast_S_S512x8192 := by decide
  bcast_S_S2x4096x8192 := by decide

/-- A magnitude below infinity is a real's. -/
theorem real_of_abs (y : EReal) (h : Ideal.cmp .olt (max y (-y)) (Ideal.ofBits .f32 0x7F800000#32) = 1#1) : ∃ r : ℝ, y = (r : EReal) := by
  rw [posInf] at h
  induction y using EReal.rec with
  | bot => simp [Ideal.cmp] at h
  | top => simp [Ideal.cmp] at h
  | coe r => exact ⟨r, rfl⟩

section
open Cert.Pre_finite_KernelIdeal

theorem fin_parts (a0 : FVec Ideal S2x128x512 .bf16) (a1 : FVec Ideal S512x256 .bf16) (a2 a3 : FVec Ideal S2x128x8192 .bf16) (a4 : FVec Ideal S256x512 .bf16)
    (h : (fn (F := Ideal) a0 a1 a2 a3 a4).1 = (fun _ => 1#1) ∧ (fn (F := Ideal) a0 a1 a2 a3 a4).2.1 = (fun _ => 1#1)
      ∧ (fn (F := Ideal) a0 a1 a2 a3 a4).2.2 = (fun _ => 1#1)) : Fin' a0 ∧ Fin' a1 ∧ Fin' a2 :=
  ⟨fun i => real_of_abs _ (congrFun h.1 i), fun i => real_of_abs _ (congrFun h.2.1 i), fun i => real_of_abs _ (congrFun h.2.2 i)⟩

end

section
open Cert.KernelIdeal Cert.KernelIdeal.Gen Cert.KP

variable (m : (ℓ : Loc nD τ sig) → Buf (Elt Ideal) ℓ)

theorem x0_eq (c : Dev nD) : x0 m c = m ((c.tc : Thread nD τ).loc main_arg0) :=
  Memref.read_access_unit_zero (Elt Ideal) main_arg0 (funext fun a => by fin_cases a <;> decide) (fun a => by fin_cases a <;> decide) _
theorem x1_eq (c : Dev nD) : x1 m c = m ((c.tc : Thread nD τ).loc main_arg1) :=
  Memref.read_access_unit_zero (Elt Ideal) main_arg1 (funext fun a => by fin_cases a <;> decide) (fun a => by fin_cases a <;> decide) _
theorem x2_eq (c : Dev nD) : x2 m c = m ((c.tc : Thread nD τ).loc main_arg2) :=
  Memref.read_access_unit_zero (Elt Ideal) main_arg2 (funext fun a => by fin_cases a <;> decide) (fun a => by fin_cases a <;> decide) _
theorem x3_eq (c : Dev nD) : x3 m c = m ((c.tc : Thread nD τ).loc main_arg3) :=
  Memref.read_access_unit_zero (Elt Ideal) main_arg3 (funext fun a => by fin_cases a <;> decide) (fun a => by fin_cases a <;> decide) _
theorem x4_eq (c : Dev nD) : x4 m c = m ((c.tc : Thread nD τ).loc main_arg4) :=
  Memref.read_access_unit_zero (Elt Ideal) main_arg4 (funext fun a => by fin_cases a <;> decide) (fun a => by fin_cases a <;> decide) _

/-- The result buffer ends holding the kernel's result. -/
theorem out_eq (ρ : Dev nD → PrngReg) (c : Dev nD) : finalA m ρ c (5 : Fin 6) = outX m c :=
  (Memref.read_access_unit_zero (Elt Ideal) main_v1 (funext fun a => by fin_cases a <;> decide) (fun a => by fin_cases a <;> decide) _).symm.trans
    (final_out m ρ c)

end

theorem block_cols {a b n : ℕ} (h : Layout.Tiles ⟨2, ![a, b]⟩ ⟨2, ![a, n]⟩ 1 32) (c : Fin 32) (v : (⟨2, ![a, n]⟩ : Shape).Idx → EReal)
    (e : Fin a) (f : Fin b) (g : Fin n) (hg : (g : ℕ) = c * b + f) : Layout.block ⟨2, ![a, b]⟩ ⟨2, ![a, n]⟩ 1 32 c v h (ix2 e f) = v (ix2 e g) := by
  rw [Layout.block_apply]
  congr 1
  funext x
  match x with
  | ⟨0, _⟩ => rfl
  | ⟨1, _⟩ => exact Fin.ext hg.symm

theorem block_rows {a b n : ℕ} (h : Layout.Tiles ⟨2, ![a, b]⟩ ⟨2, ![n, b]⟩ 0 32) (c : Fin 32) (v : (⟨2, ![n, b]⟩ : Shape).Idx → EReal)
    (e : Fin a) (f : Fin b) (g : Fin n) (hg : (g : ℕ) = c * a + e) : Layout.block ⟨2, ![a, b]⟩ ⟨2, ![n, b]⟩ 0 32 c v h (ix2 e f) = v (ix2 g f) := by
  rw [Layout.block_apply]
  congr 1
  funext x
  match x with
  | ⟨0, _⟩ => exact Fin.ext hg.symm
  | ⟨1, _⟩ => rfl

theorem block_bands {k a b n : ℕ} (h : Layout.Tiles ⟨3, ![k, a, b]⟩ ⟨3, ![k, n, b]⟩ 1 32) (c : Fin 32) (v : (⟨3, ![k, n, b]⟩ : Shape).Idx → EReal)
    (x : Fin k) (e : Fin a) (f : Fin b) (g : Fin n) (hg : (g : ℕ) = c * a + e) :
    Layout.block ⟨3, ![k, a, b]⟩ ⟨3, ![k, n, b]⟩ 1 32 c v h (ix3 x e f) = v (ix3 x g f) := by
  rw [Layout.block_apply]
  congr 1
  funext x
  match x with
  | ⟨0, _⟩ => rfl
  | ⟨1, _⟩ => exact Fin.ext hg.symm
  | ⟨2, _⟩ => rfl

theorem algebraic : Cert.algebraic_KernelIdeal_ReferenceIdeal_pre_finite_KernelIdeal := by
  intro m g m' g' hpre hag
  have A : Agree m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := by
    refine ⟨fun c i => ?_, fun c e f => ?_, fun c b r f => ?_, fun c b r f => ?_, fun c f o => ?_⟩
    · rw [x0_eq]; exact congrFun (hag c).1 i
    · rw [x1_eq]
      exact (congrFun (hag c).2.1 _).trans (block_cols _ c _ e f (gcol c f) (by show 256 * (c : ℕ) + f = c * 256 + f; omega))
    · rw [x2_eq]
      exact (congrFun (hag c).2.2.1 _).trans (block_bands _ c _ b r f (grow c r) (by show 128 * (c : ℕ) + r = c * 128 + r; omega))
    · rw [x3_eq]
      exact (congrFun (hag c).2.2.2.1 _).trans (block_bands _ c _ b r f (grow c r) (by show 128 * (c : ℕ) + r = c * 128 + r; omega))
    · rw [x4_eq]
      exact (congrFun (hag c).2.2.2.2 _).trans (block_rows _ c _ f o (gcol c f) (by show 256 * (c : ℕ) + f = c * 256 + f; omega))
  have hfin := fun c => fin_parts _ _ _ _ _ (hpre c)
  have hx : Fin' (S := ⟨3, ![2, 128, 512]⟩) (φ := .bf16) (m' (((0 : Dev Cert.ReferenceIdeal.nD).tc : Thread Cert.ReferenceIdeal.nD Cert.ReferenceIdeal.τ).loc Cert.ReferenceIdeal.main_arg0)) := fun i => by
    obtain ⟨r, hr⟩ := (hfin (0 : Fin 32)).1 i
    exact ⟨r, (congrFun (hag (0 : Fin 32)).1 i).symm.trans hr⟩
  have hw : Fin' (S := ⟨2, ![512, 8192]⟩) (φ := .bf16) (m' (((0 : Dev Cert.ReferenceIdeal.nD).tc : Thread Cert.ReferenceIdeal.nD Cert.ReferenceIdeal.τ).loc Cert.ReferenceIdeal.main_arg1)) := fun i => by
    have h1 : (i 1 : ℕ) < 8192 := (i 1).isLt
    have h := A.h1 ⟨(i 1 : ℕ) / 256, by show _ < 32; omega⟩ (i 0) ⟨(i 1 : ℕ) % 256, by omega⟩
    obtain ⟨r, hr⟩ := (hfin ⟨(i 1 : ℕ) / 256, by show _ < 32; omega⟩).2.1 (ix2 (i 0) ⟨(i 1 : ℕ) % 256, by omega⟩)
    refine ⟨r, Eq.trans ?_ (h.symm.trans ((congrFun (x1_eq m _) _).trans hr))⟩
    congr 1
    funext x
    match x with
    | ⟨0, _⟩ => rfl
    | ⟨1, _⟩ => exact Fin.ext (by show (i 1 : ℕ) = 256 * ((i 1 : ℕ) / 256) + (i 1 : ℕ) % 256; omega)
  have hk : Fin' (S := ⟨3, ![2, 4096, 8192]⟩) (φ := .bf16) (m' (((0 : Dev Cert.ReferenceIdeal.nD).tc : Thread Cert.ReferenceIdeal.nD Cert.ReferenceIdeal.τ).loc Cert.ReferenceIdeal.main_arg2)) := fun i => by
    have h1 : (i 1 : ℕ) < 4096 := (i 1).isLt
    have h := A.h2 ⟨(i 1 : ℕ) / 128, by show _ < 32; omega⟩ (i 0) ⟨(i 1 : ℕ) % 128, by omega⟩ (i 2)
    obtain ⟨r, hr⟩ := (hfin ⟨(i 1 : ℕ) / 128, by show _ < 32; omega⟩).2.2 (ix3 (i 0) ⟨(i 1 : ℕ) % 128, by omega⟩ (i 2))
    refine ⟨r, Eq.trans ?_ (h.symm.trans ((congrFun (x2_eq m _) _).trans hr))⟩
    congr 1
    funext x
    match x with
    | ⟨0, _⟩ => rfl
    | ⟨1, _⟩ => exact Fin.ext (by show (i 1 : ℕ) = 128 * ((i 1 : ℕ) / 128) + (i 1 : ℕ) % 128; omega)
    | ⟨2, _⟩ => rfl
  refine ⟨Cert.ReferenceIdeal.Value.res_main_v46 m' 0, ?_, ?_⟩
  · refine (θ_run Cert.KernelIdeal.defs _ _).mono (fun _ h c => ⟨((h.1 c (5 : Fin 6)).trans (out_eq m g c)).trans ?_,
      (h.1 c (0 : Fin 6)).trans (Cert.KP.final_in m g c (0 : Fin 6) rfl), (h.1 c (1 : Fin 6)).trans (Cert.KP.final_in m g c (1 : Fin 6) rfl),
      (h.1 c (2 : Fin 6)).trans (Cert.KP.final_in m g c (2 : Fin 6) rfl), (h.1 c (3 : Fin 6)).trans (Cert.KP.final_in m g c (3 : Fin 6) rfl),
      (h.1 c (4 : Fin 6)).trans (Cert.KP.final_in m g c (4 : Fin 6) rfl)⟩) (Cert.KP.run_main m g)
    rw [res_eq]
    funext i
    have e : i = ix3 (i 0) (i 1) (i 2) := by
      funext x
      match x with
      | ⟨0, _⟩ => rfl
      | ⟨1, _⟩ => rfl
      | ⟨2, _⟩ => rfl
    rw [e]
    exact (out_apply A c _ _ _).trans (refOf_apply _ _ _ _ _ hx hw hk _ _ _).symm
  · exact (θ_run Cert.ReferenceIdeal.defs _ _).mono (fun _ h => h 0) (Cert.ReferenceIdeal.Value.run (F := Ideal) m' g')

end Cert.KV

end
-- ==== Proof.lean ====
/- The assembly: every claim of this certificate from the modules that prove it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.K.Frames
public import proofs.«01_k».proof.Proof.V.Final

@[expose] public section

noncomputable section

namespace Cert.Proof

open Idealize.ShloMosaic Idealize.SL.Sem

/-- The reference, host operations alone, runs, leaves its arguments unchanged and touches no semaphore. -/
theorem frame_reference : Cert.quiescent_ReferenceIdeal := fun m g _ =>
  (θ_run _ _ _).mono (fun r h => ⟨fun c => (h c).2, Idealize.ShloMosaic.sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts, Cert.KV.preK, Cert.KV.preR,
  fun m g _ => Cert.KP.frame_kernel m g,
  fun m g _ => Cert.KP.frame_main (F := Ideal) m g,
  fun m g _ => Cert.KP.frame_main (F := Ideal) m g,
  frame_reference,
  fun m g _ => frame_reference m g trivial,
  trivial,
  Cert.KV.algebraic⟩

end Cert.Proof

end
